-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_v43) = v1 c
          ∧ r.2.mem ((c.tc : Thread Cert.Reference9Ideal.nD Cert.Reference9Ideal.τ).loc Cert.Reference9Ideal.main_v19) = v2 c
          ∧ r.2.mem ((c.tc : Thread Cert.Reference9Ideal.nD Cert.Reference9Ideal.τ).loc Cert.Reference9Ideal.main_v41) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v31) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37) = v0 c
          ∧ r.2.mem ((c.tc : Thread Cert.Reference12Ideal.nD Cert.Reference12Ideal.τ).loc Cert.Reference12Ideal.main_v38) = v1 c
          ∧ r.2.mem ((c.tc : Thread Cert.Reference12Ideal.nD Cert.Reference12Ideal.τ).loc Cert.Reference12Ideal.main_v18) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v15) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v18_0)) (v1 : (c : Dev Cert.Kernel14Ideal.nD) → Buf (Elt Ideal) ((c.tc : Thread Cert.Kernel14Ideal.nD Cert.Kernel14Ideal.τ).loc Cert.Kernel14Ideal.main_v18_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v18_0) = v0 c
          ∧ r.2.mem ((c.tc : Thread Cert.Kernel14Ideal.nD Cert.Kernel14Ideal.τ).loc Cert.Kernel14Ideal.main_v18_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v18) = v0 c
          ∧ r.2.mem ((c.tc : Thread Cert.Reference14Ideal.nD Cert.Reference14Ideal.τ).loc Cert.Reference14Ideal.main_v21) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  IdealRules.named_const.Statement Cert.Kernel15Ideal.κ "mask" .f32 0xF149F2CA#32 ⊥

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
-- ==== Kernel.lean ====
abbrev S4x2048x2304 : Shape := ⟨3, ![4, 2048, 2304]⟩
abbrev S4x2048 : Shape := ⟨2, ![4, 2048]⟩
abbrev S1x16 : Shape := ⟨2, ![1, 16]⟩
abbrev S4x2048x1024 : Shape := ⟨3, ![4, 2048, 1024]⟩
abbrev S4x2048x128 : Shape := ⟨3, ![4, 2048, 128]⟩
abbrev S8 : Shape := ⟨1, ![8]⟩
abbrev S_ : Shape := ⟨0, ![]⟩
abbrev S48 : Shape := ⟨1, ![48]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S4x2048x16x64 : Shape := ⟨4, ![4, 2048, 16, 64]⟩
abbrev S4x2048x1 : Shape := ⟨3, ![4, 2048, 1]⟩
abbrev S1x1x8 : Shape := ⟨3, ![1, 1, 8]⟩
abbrev S4x2048x8 : Shape := ⟨3, ![4, 2048, 8]⟩
abbrev S4x2048x1x8 : Shape := ⟨4, ![4, 2048, 1, 8]⟩
abbrev S4x2048x16x8 : Shape := ⟨4, ![4, 2048, 16, 8]⟩
abbrev S4x2048x16x48 : Shape := ⟨4, ![4, 2048, 16, 48]⟩
abbrev S4x2048x2x64 : Shape := ⟨4, ![4, 2048, 2, 64]⟩
abbrev S4x2048x2x8 : Shape := ⟨4, ![4, 2048, 2, 8]⟩
abbrev S4x2048x2x48 : Shape := ⟨4, ![4, 2048, 2, 48]⟩
abbrev S4x16x128x2x8x64 : Shape := ⟨6, ![4, 16, 128, 2, 8, 64]⟩
abbrev S4x16x128x2x64 : Shape := ⟨5, ![4, 16, 128, 2, 64]⟩
abbrev S4x1x128x2x64 : Shape := ⟨5, ![4, 1, 128, 2, 64]⟩
abbrev S4x15x128x2x64 : Shape := ⟨5, ![4, 15, 128, 2, 64]⟩
abbrev S4x16x256x2x64 : Shape := ⟨5, ![4, 16, 256, 2, 64]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x1x2x8x1 : Shape := ⟨5, ![1, 1, 2, 8, 1]⟩
abbrev S4x16x2x256x128x8 : Shape := ⟨6, ![4, 16, 2, 256, 128, 8]⟩
abbrev S4x16x2x8x128x256 : Shape := ⟨6, ![4, 16, 2, 8, 128, 256]⟩
abbrev S1x16x1x1x128x256 : Shape := ⟨6, ![1, 16, 1, 1, 128, 256]⟩
abbrev S4x16x2x8x128 : Shape := ⟨5, ![4, 16, 2, 8, 128]⟩
abbrev S4x16x2x8x128x1 : Shape := ⟨6, ![4, 16, 2, 8, 128, 1]⟩
abbrev S4x16x2x64x8x128 : Shape := ⟨6, ![4, 16, 2, 64, 8, 128]⟩
abbrev S8192x2304 : Shape := ⟨2, ![8192, 2304]⟩
abbrev S8192x1024 : Shape := ⟨2, ![8192, 1024]⟩
abbrev S8x128 : Shape := ⟨2, ![8, 128]⟩
abbrev S128x1024 : Shape := ⟨2, ![128, 1024]⟩
abbrev S128x128 : Shape := ⟨2, ![128, 128]⟩
abbrev S128x2304 : Shape := ⟨2, ![128, 2304]⟩
abbrev S256x128 : Shape := ⟨2, ![256, 128]⟩
abbrev S1024x256 : Shape := ⟨2, ![1024, 256]⟩
abbrev S128x64 : Shape := ⟨2, ![128, 64]⟩
abbrev S1024x64 : Shape := ⟨2, ![1024, 64]⟩
abbrev S256x64 : Shape := ⟨2, ![256, 64]⟩
abbrev S1x1 : Shape := ⟨2, ![1, 1]⟩
abbrev S1024x1 : Shape := ⟨2, ![1024, 1]⟩
abbrev S1024 : Shape := ⟨1, ![1024]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 194
  | .vmem => 31
  | .smem => 1
  | _ => 0

abbrev hbmTy0_0 (i : Nat) : BufTy := match i % 128 with
  | 0 => ⟨S4x2048x2304, .f32⟩
  | 1 => ⟨S4x2048, .i32⟩
  | 2 => ⟨S1x16, .f32⟩
  | 3 => ⟨S4x2048x1024, .f32⟩
  | 4 => ⟨S4x2048x1024, .f32⟩
  | 5 => ⟨S4x2048x1024, .f32⟩
  | 6 => ⟨S4x2048x128, .f32⟩
  | 7 => ⟨S4x2048x128, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S48, .f32⟩
  | 21 => ⟨S_, .f32⟩
  | 22 => ⟨S8, .f32⟩
  | 23 => ⟨S128, .f32⟩
  | 24 => ⟨S1x128, .f32⟩
  | 25 => ⟨S8, .f32⟩
  | 26 => ⟨S8, .f32⟩
  | 27 => ⟨S128, .f32⟩
  | 28 => ⟨S1x128, .f32⟩
  | 29 => ⟨S8192x1, .i32⟩
  | 30 => ⟨S8192x1, .f32⟩
  | 31 => ⟨S8192x128, .f32⟩
  | 32 => ⟨S8192x128, .f32⟩
  | 33 => ⟨S8192x128, .f32⟩
  | 34 => ⟨S8192x128, .f32⟩
  | 35 => ⟨S8192x128, .f32⟩
  | 36 => ⟨S8192x128, .f32⟩
  | 37 => ⟨S8192x128, .f32⟩
  | 38 => ⟨S4x2048x16x64, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S8, .f32⟩
  | 47 => ⟨S_, .f32⟩
  | 48 => ⟨S8, .f32⟩
  | 49 => ⟨S8, .f32⟩
  | 50 => ⟨S4x2048, .f32⟩
  | 51 => ⟨S4x2048x1, .f32⟩
  | 52 => ⟨S1x1x8, .f32⟩
  | 53 => ⟨S4x2048x8, .f32⟩
  | 54 => ⟨S4x2048x8, .f32⟩
  | 55 => ⟨S4x2048x8, .f32⟩
  | 56 => ⟨S4x2048x8, .f32⟩
  | 57 => ⟨S4x2048x1x8, .f32⟩
  | 58 => ⟨S4x2048x8, .f32⟩
  | 59 => ⟨S4x2048x1x8, .f32⟩
  | 60 => ⟨S4x2048x16x8, .f32⟩
  | 61 => ⟨S4x2048x16x8, .f32⟩
  | 62 => ⟨S4x2048x16x8, .f32⟩
  | 63 => ⟨S4x2048x16x8, .f32⟩
  | 64 => ⟨S4x2048x16x8, .f32⟩
  | 65 => ⟨S4x2048x16x8, .f32⟩
  | 66 => ⟨S4x2048x16x8, .f32⟩
  | 67 => ⟨S4x2048x16x8, .f32⟩
  | 68 => ⟨S4x2048x16x8, .f32⟩
  | 69 => ⟨S4x2048x16x8, .f32⟩
  | 70 => ⟨S4x2048x16x8, .f32⟩
  | 71 => ⟨S4x2048x16x8, .f32⟩
  | 72 => ⟨S4x2048x16x48, .f32⟩
  | 73 => ⟨S4x2048x16x64, .f32⟩
  | 74 => ⟨S4x2048x2x64, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S8, .f32⟩
  | 83 => ⟨S_, .f32⟩
  | 84 => ⟨S8, .f32⟩
  | 85 => ⟨S8, .f32⟩
  | 86 => ⟨S4x2048, .f32⟩
  | 87 => ⟨S4x2048x1, .f32⟩
  | 88 => ⟨S1x1x8, .f32⟩
  | 89 => ⟨S4x2048x8, .f32⟩
  | 90 => ⟨S4x2048x8, .f32⟩
  | 91 => ⟨S4x2048x8, .f32⟩
  | 92 => ⟨S4x2048x8, .f32⟩
  | 93 => ⟨S4x2048x1x8, .f32⟩
  | 94 => ⟨S4x2048x8, .f32⟩
  | 95 => ⟨S4x2048x1x8, .f32⟩
  | 96 => ⟨S4x2048x2x8, .f32⟩
  | 97 => ⟨S4x2048x2x8, .f32⟩
  | 98 => ⟨S4x2048x2x8, .f32⟩
  | 99 => ⟨S4x2048x2x8, .f32⟩
  | 100 => ⟨S4x2048x2x8, .f32⟩
  | 101 => ⟨S4x2048x2x8, .f32⟩
  | 102 => ⟨S4x2048x2x8, .f32⟩
  | 103 => ⟨S4x2048x2x8, .f32⟩
  | 104 => ⟨S4x2048x2x8, .f32⟩
  | 105 => ⟨S4x2048x2x8, .f32⟩
  | 106 => ⟨S4x2048x2x8, .f32⟩
  | 107 => ⟨S4x2048x2x8, .f32⟩
  | 108 => ⟨S4x2048x2x48, .f32⟩
  | 109 => ⟨S4x2048x2x64, .f32⟩
  | 110 => ⟨S4x2048x2x64, .f32⟩
  | 111 => ⟨S4x16x128x2x8x64, .f32⟩
  | 112 => ⟨S4x16x128x2x64, .f32⟩
  | 113 => ⟨S_, .f32⟩
  | 114 => ⟨S4x1x128x2x64, .f32⟩
  | 115 => ⟨S4x15x128x2x64, .f32⟩
  | 116 => ⟨S4x16x128x2x64, .f32⟩
  | 117 => ⟨S4x16x256x2x64, .f32⟩
  | 118 => ⟨S4x16x128x2x64, .f32⟩
  | 119 => ⟨S_, .f32⟩
  | 120 => ⟨S4x1x128x2x64, .f32⟩
  | 121 => ⟨S4x15x128x2x64, .f32⟩
  | 122 => ⟨S4x16x128x2x64, .f32⟩
  | 123 => ⟨S4x16x256x2x64, .f32⟩
  | 124 => ⟨S128, .i32⟩
  | 125 => ⟨S128x1, .i32⟩
  | 126 => ⟨S_, .i32⟩
  | 127 => ⟨S128x1, .i32⟩
  | _ => ⟨S4x2048x2304, .f32⟩

abbrev hbmTy0_1 (i : Nat) : BufTy := match i % 128 with
  | 0 => ⟨S128x1, .i32⟩
  | 1 => ⟨S256, .i32⟩
  | 2 => ⟨S1x256, .i32⟩
  | 3 => ⟨S128x256, .i32⟩
  | 4 => ⟨S128x256, .i32⟩
  | 5 => ⟨S128x256, .i1⟩
  | 6 => ⟨S128x256, .i32⟩
  | 7 => ⟨S128x256, .i32⟩
  | 8 => ⟨S128x256, .i32⟩
  | 9 => ⟨S_, .i32⟩
  | 10 => ⟨S128x256, .i32⟩
  | 11 => ⟨S128x256, .i1⟩
  | 12 => ⟨S128x256, .i1⟩
  | 13 => ⟨S16, .i32⟩
  | 14 => ⟨S16x1x1, .i32⟩
  | 15 => ⟨S_, .i32⟩
  | 16 => ⟨S16x1x1, .i32⟩
  | 17 => ⟨S16x1x1, .i1⟩
  | 18 => ⟨S_, .i32⟩
  | 19 => ⟨S1x256, .i32⟩
  | 20 => ⟨S1x256, .i1⟩
  | 21 => ⟨S1x1x256, .i1⟩
  | 22 => ⟨S16x1x256, .i1⟩
  | 23 => ⟨S16x1x256, .i1⟩
  | 24 => ⟨S16x1x256, .i1⟩
  | 25 => ⟨S1x128x256, .i1⟩
  | 26 => ⟨S16x128x256, .i1⟩
  | 27 => ⟨S16x128x256, .i1⟩
  | 28 => ⟨S16x128x256, .i1⟩
  | 29 => ⟨S1x1x2x8x1, .f32⟩
  | 30 => ⟨S4x16x2x256x128x8, .f32⟩
  | 31 => ⟨S4x16x2x8x128x256, .f32⟩
  | 32 => ⟨S_, .f32⟩
  | 33 => ⟨S4x16x2x8x128x256, .f32⟩
  | 34 => ⟨S4x16x2x8x128x256, .f32⟩
  | 35 => ⟨S1x16x1x1x128x256, .i1⟩
  | 36 => ⟨S_, .f32⟩
  | 37 => ⟨S_, .f32⟩
  | 38 => ⟨S4x16x2x8x128x256, .i1⟩
  | 39 => ⟨S4x16x2x8x128x256, .f32⟩
  | 40 => ⟨S4x16x2x8x128x256, .f32⟩
  | 41 => ⟨S_, .f32⟩
  | 42 => ⟨S4x16x2x8x128, .f32⟩
  | 43 => ⟨S4x16x2x8x128, .f32⟩
  | 44 => ⟨S4x16x2x8x128, .f32⟩
  | 45 => ⟨S4x16x2x8x128x1, .f32⟩
  | 46 => ⟨S4x16x2x8x128x256, .f32⟩
  | 47 => ⟨S4x16x2x8x128x256, .f32⟩
  | 48 => ⟨S4x16x2x8x128x256, .f32⟩
  | 49 => ⟨S_, .f32⟩
  | 50 => ⟨S4x16x2x8x128, .f32⟩
  | 51 => ⟨S4x16x2x8x128, .f32⟩
  | 52 => ⟨S4x16x2x8x128, .f32⟩
  | 53 => ⟨S4x16x2x8x128, .f32⟩
  | 54 => ⟨S4x16x2x8x128, .f32⟩
  | 55 => ⟨S4x16x2x8x128x1, .f32⟩
  | 56 => ⟨S4x16x2x8x128x256, .f32⟩
  | 57 => ⟨S4x16x2x8x128x256, .f32⟩
  | 58 => ⟨S4x16x2x64x8x128, .f32⟩
  | 59 => ⟨S4x16x128x2x8x64, .f32⟩
  | 60 => ⟨S4x2048x1024, .f32⟩
  | 61 => ⟨S8192x2304, .f32⟩
  | 62 => ⟨S8192x1024, .f32⟩
  | 63 => ⟨S8192x1024, .f32⟩
  | 64 => ⟨S8192x2304, .f32⟩
  | 65 => ⟨S8x128, .f32⟩
  | _ => ⟨S4x2048x2304, .f32⟩

abbrev hbmTy (i : Nat) : BufTy := match i / 128 with
  | 0 => hbmTy0_0 i
  | 1 => hbmTy0_1 i
  | _ => ⟨S4x2048x2304, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x2304, .f32⟩
  | .local _ .vmem, ⟨25, _⟩ => ⟨S128x2304, .f32⟩
  | .local _ .vmem, ⟨26, _⟩ => ⟨S8x128, .f32⟩
  | .local _ .vmem, ⟨27, _⟩ => ⟨S128x1024, .f32⟩
  | .local _ .vmem, ⟨28, _⟩ => ⟨S128x1024, .f32⟩
  | .local _ .vmem, ⟨29, _⟩ => ⟨S128x128, .f32⟩
  | .local _ .vmem, ⟨30, _⟩ => ⟨S128x128, .f32⟩
  | .local _ .smem, ⟨0, _⟩ => ⟨S1x16, .f32⟩
  | _, _ => ⟨S4x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_cst_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_cst_10 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_11 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_c : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_c_12 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_c_13 : Ref sig .tc := ⟨.hbm, 143, rfl⟩
abbrev main_v124 : Ref sig .tc := ⟨.hbm, 144, rfl⟩
abbrev main_v125 : Ref sig .tc := ⟨.hbm, 145, rfl⟩
abbrev main_c_14 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_cst_15 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_cst_16 : Ref sig .tc := ⟨.hbm, 164, rfl⟩
abbrev main_call0_v0 : Ref sig .tc := ⟨.hbm, 165, rfl⟩
abbrev main_call0_v1 : Ref sig .tc := ⟨.hbm, 166, rfl⟩
abbrev main_call0_v2 : Ref sig .tc := ⟨.hbm, 167, rfl⟩
abbrev main_v142 : Ref sig .tc := ⟨.hbm, 168, rfl⟩
abbrev main_cst_17 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_cst_18 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164_0 : Ref sig .tc := ⟨.hbm, 192, rfl⟩
abbrev main_v164_1 : Ref sig .tc := ⟨.hbm, 193, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c16_i32 : BitVec 32 := 16#32
  let v8 : BitVec 1 := Scalar.cmpi .slt arg1 c16_i32
  let v9 : BitVec 32 := Scalar.extui v8
  let c0_i32_2 : BitVec 32 := 0#32
  let v10 : BitVec 1 := Scalar.cmpi .ne v9 c0_i32_2
  v10

def k0_cond3 (i : grid0.Coords) : BitVec 1 :=
  let arg1 : BitVec 32 := BitVec.ofNat 32 (i 1).val
  let c1_i32_304 : BitVec 32 := 1#32
  let v880 : BitVec 1 := Scalar.cmpi .sge arg1 c1_i32_304
  let v881 : BitVec 32 := Scalar.extui v880
  let c0_i32_305 : BitVec 32 := 0#32
  let v882 : BitVec 1 := Scalar.cmpi .ne v881 c0_i32_305
  v882

def k0_cond4 (i : grid0.Coords) : BitVec 1 :=
  let arg1 : BitVec 32 := BitVec.ofNat 32 (i 1).val
  let c16_i32_3 : BitVec 32 := 16#32
  let v11 : BitVec 1 := Scalar.cmpi .eq arg1 c16_i32_3
  let v12 : BitVec 32 := Scalar.extui v11
  let c0_i32_4 : BitVec 32 := 0#32
  let v13 : BitVec 1 := Scalar.cmpi .ne v12 c0_i32_4
  v13

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c1_i32 : BitVec 32 := 1#32
  let c0_i32 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c16_i32_0 : BitVec 32 := 16#32
  let c0_i32 : BitVec 32 := 0#32
  ![v2.toNat, c16_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c16_i32_0 : BitVec 32 := 16#32
  let c0_i32_1 : BitVec 32 := 0#32
  ![v4.toNat, c16_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c17_i32 : BitVec 32 := 17#32
  let c0_i32 : BitVec 32 := 0#32
  ![v2.toNat, c17_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c17_i32 : BitVec 32 := 17#32
  let c0_i32_0 : BitVec 32 := 0#32
  ![v4.toNat, c17_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2304 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== KernelIdeal.lean ====
variable {F : FTy → Type} [FloatOps F] [Named F]
def κ : String → Option EReal := fun
  | "mask" => some ⊥
  | _ => none
-- ==== Kernel2.lean ====
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x2304 : Shape := ⟨2, ![8192, 2304]⟩
abbrev S1024x2304 : Shape := ⟨2, ![1024, 2304]⟩
abbrev S8192x1024 : Shape := ⟨2, ![8192, 1024]⟩
abbrev S1x1024 : Shape := ⟨2, ![1, 1024]⟩
abbrev S1x2304 : Shape := ⟨2, ![1, 2304]⟩
abbrev S512x2304 : Shape := ⟨2, ![512, 2304]⟩
abbrev S512x1024 : Shape := ⟨2, ![512, 1024]⟩
abbrev S512x768 : Shape := ⟨2, ![512, 768]⟩
abbrev S1x768 : Shape := ⟨2, ![1, 768]⟩
abbrev S768 : Shape := ⟨1, ![768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x2304, .f32⟩
  | .hbm, ⟨1, _⟩ => ⟨S1024x2304, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x2304, .f32⟩
  | .local _ .vmem, ⟨0, _⟩ => ⟨S512x2304, .f32⟩
  | .local _ .vmem, ⟨1, _⟩ => ⟨S512x2304, .f32⟩
  | .local _ .vmem, ⟨2, _⟩ => ⟨S1024x2304, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x2304, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8192x2304 : Shape := ⟨2, ![8192, 2304]⟩
abbrev S1024x2304 : Shape := ⟨2, ![1024, 2304]⟩
abbrev S8192x1024 : Shape := ⟨2, ![8192, 1024]⟩
abbrev S1x1024 : Shape := ⟨2, ![1, 1024]⟩
abbrev S_ : Shape := ⟨0, ![]⟩
abbrev S1x2304 : Shape := ⟨2, ![1, 2304]⟩
abbrev S8192 : Shape := ⟨1, ![8192]⟩
abbrev S8192x1 : Shape := ⟨2, ![8192, 1]⟩
abbrev S2304 : Shape := ⟨1, ![2304]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x2304, .f32⟩
  | .hbm, ⟨1, _⟩ => ⟨S1024x2304, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S1x2304, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x2304, .f32⟩
  | .hbm, ⟨27, _⟩ => ⟨S8192x2304, .f32⟩
  | .hbm, ⟨28, _⟩ => ⟨S8192x2304, .f32⟩
  | .hbm, ⟨29, _⟩ => ⟨S8192x2304, .f32⟩
  | .hbm, ⟨30, _⟩ => ⟨S8192x2304, .f32⟩
  | .hbm, ⟨31, _⟩ => ⟨S_, .f32⟩
  | .hbm, ⟨32, _⟩ => ⟨S2304, .f32⟩
  | .hbm, ⟨33, _⟩ => ⟨S1x2304, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel4.lean ====
abbrev S8192x1024 : Shape := ⟨2, ![8192, 1024]⟩
abbrev S1024x4096 : Shape := ⟨2, ![1024, 4096]⟩
abbrev S1x1024 : Shape := ⟨2, ![1, 1024]⟩
abbrev S1x4096 : Shape := ⟨2, ![1, 4096]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x4096, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x4096, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S8192x1024 : Shape := ⟨2, ![8192, 1024]⟩
abbrev S1024x4096 : Shape := ⟨2, ![1024, 4096]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x4096, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x4096, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x2304 : Shape := ⟨2, ![1024, 2304]⟩
abbrev S1x2304 : Shape := ⟨2, ![1, 2304]⟩
abbrev S8192x2304 : Shape := ⟨2, ![8192, 2304]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1x768 : Shape := ⟨2, ![1, 768]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2304, .bf16⟩
  | .hbm, ⟨3, _⟩ => ⟨S1x2304, .f32⟩
  | .hbm, ⟨4, _⟩ => ⟨S8192x2304, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1x2304, .f32⟩
  | .local _ .vmem, ⟨5, _⟩ => ⟨S512x2304, .f32⟩
  | .local _ .vmem, ⟨6, _⟩ => ⟨S512x2304, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x1024 : Shape := ⟨2, ![8192, 1024]⟩
abbrev S1x1024 : Shape := ⟨2, ![1, 1024]⟩
abbrev S1024x2304 : Shape := ⟨2, ![1024, 2304]⟩
abbrev S1x2304 : Shape := ⟨2, ![1, 2304]⟩
abbrev S_ : Shape := ⟨0, ![]⟩
abbrev S8192 : Shape := ⟨1, ![8192]⟩
abbrev S8192x1 : Shape := ⟨2, ![8192, 1]⟩
abbrev S8192x2304 : Shape := ⟨2, ![8192, 2304]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2304, .bf16⟩
  | .hbm, ⟨3, _⟩ => ⟨S1x2304, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x2304, .f32⟩
  | .hbm, ⟨20, _⟩ => ⟨S8192x2304, .f32⟩
  | .hbm, ⟨21, _⟩ => ⟨S8192x2304, .f32⟩
  | .hbm, ⟨22, _⟩ => ⟨S8192x2304, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x4096, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x4096, .f32⟩
  | .hbm, ⟨19, _⟩ => ⟨S8192x4096, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S8192x1024 : Shape := ⟨2, ![8192, 1024]⟩
abbrev S8192x2304 : Shape := ⟨2, ![8192, 2304]⟩
abbrev S1024x2304 : Shape := ⟨2, ![1024, 2304]⟩
abbrev S1024x512 : Shape := ⟨2, ![1024, 512]⟩
abbrev S1024x768 : Shape := ⟨2, ![1024, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .f32⟩
  | .hbm, ⟨2, _⟩ => ⟨S1024x2304, .f32⟩
  | .local _ .vmem, ⟨0, _⟩ => ⟨S1024x512, .bf16⟩
  | .local _ .vmem, ⟨1, _⟩ => ⟨S1024x512, .bf16⟩
  | .local _ .vmem, ⟨2, _⟩ => ⟨S1024x768, .f32⟩
  | .local _ .vmem, ⟨3, _⟩ => ⟨S1024x768, .f32⟩
  | .local _ .vmem, ⟨4, _⟩ => ⟨S512x768, .f32⟩
  | .local _ .vmem, ⟨5, _⟩ => ⟨S512x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .f32⟩
  | .hbm, ⟨2, _⟩ => ⟨S_, .f32⟩
  | .hbm, ⟨3, _⟩ => ⟨S1024x2304, .f32⟩
  | .hbm, ⟨4, _⟩ => ⟨S8192x1024, .f32⟩
  | .hbm, ⟨5, _⟩ => ⟨S8192x2304, .f32⟩
  | .hbm, ⟨6, _⟩ => ⟨S2304x1024, .f32⟩
  | .hbm, ⟨7, _⟩ => ⟨S1024x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .bf16⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .bf16⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1024x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | .local _ .vmem, ⟨13, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v35 : BitVec 1 := Scalar.cmpi .eq arg0 c15_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .bf16⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference12Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .bf16⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1024x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel13.lean ====
abbrev S2x1024 : Shape := ⟨2, ![2, 1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .local _ .vmem, ⟨0, _⟩ => ⟨S2x1024, .f32⟩
  | .local _ .vmem, ⟨1, _⟩ => ⟨S1x1024, .f32⟩
  | _, _ => ⟨S2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference13Ideal.lean ====
abbrev S2x1024 : Shape := ⟨2, ![2, 1024]⟩
abbrev S_ : Shape := ⟨0, ![]⟩
abbrev S1024 : Shape := ⟨1, ![1024]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S2x1024, .f32⟩
  | .hbm, ⟨14, _⟩ => ⟨S2x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel14.lean ====
abbrev S4x2048 : Shape := ⟨2, ![4, 2048]⟩
abbrev S8192x1 : Shape := ⟨2, ![8192, 1]⟩
abbrev S8 : Shape := ⟨1, ![8]⟩
abbrev S_ : Shape := ⟨0, ![]⟩
abbrev S48 : Shape := ⟨1, ![48]⟩
abbrev S128 : Shape := ⟨1, ![128]⟩
abbrev S1x128 : Shape := ⟨2, ![1, 128]⟩
abbrev S8192x128 : Shape := ⟨2, ![8192, 128]⟩
abbrev S512x1 : Shape := ⟨2, ![512, 1]⟩
abbrev S512x128 : Shape := ⟨2, ![512, 128]⟩

abbrev nBuf : Space → Nat
  | .hbm => 26
  | .vmem => 8
  | .smem => 0
  | _ => 0

abbrev bufTy : (tb : Table) → Fin (tcTables nBuf tb) → BufTy
  | .hbm, ⟨0, _⟩ => ⟨S4x2048, .i32⟩
  | .hbm, ⟨1, _⟩ => ⟨S8192x1, .i32⟩
  | .hbm, ⟨2, _⟩ => ⟨S8192x1, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S48, .f32⟩
  | .hbm, ⟨16, _⟩ => ⟨S_, .f32⟩
  | .hbm, ⟨17, _⟩ => ⟨S8, .f32⟩
  | .hbm, ⟨18, _⟩ => ⟨S128, .f32⟩
  | .hbm, ⟨19, _⟩ => ⟨S1x128, .f32⟩
  | .hbm, ⟨20, _⟩ => ⟨S8, .f32⟩
  | .hbm, ⟨21, _⟩ => ⟨S8, .f32⟩
  | .hbm, ⟨22, _⟩ => ⟨S128, .f32⟩
  | .hbm, ⟨23, _⟩ => ⟨S1x128, .f32⟩
  | .hbm, ⟨24, _⟩ => ⟨S8192x128, .f32⟩
  | .hbm, ⟨25, _⟩ => ⟨S8192x128, .f32⟩
  | .local _ .vmem, ⟨0, _⟩ => ⟨S512x1, .f32⟩
  | .local _ .vmem, ⟨1, _⟩ => ⟨S512x1, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S4x2048 : Shape := ⟨2, ![4, 2048]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8192x1, .i32⟩
  | .hbm, ⟨13, _⟩ => ⟨S8192x1, .f32⟩
  | .hbm, ⟨14, _⟩ => ⟨S1x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S_, .f32⟩
  | .hbm, ⟨21, _⟩ => ⟨S8192x48, .f32⟩
  | .hbm, ⟨22, _⟩ => ⟨S_, .f32⟩
  | .hbm, ⟨23, _⟩ => ⟨S8192x48, .f32⟩
  | .hbm, ⟨24, _⟩ => ⟨S8192x128, .f32⟩
  | .hbm, ⟨25, _⟩ => ⟨S8192x8, .f32⟩
  | .hbm, ⟨26, _⟩ => ⟨S8192x8, .f32⟩
  | .hbm, ⟨27, _⟩ => ⟨S8192x128, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel15.lean ====
abbrev S8192x2304 : Shape := ⟨2, ![8192, 2304]⟩
abbrev S4x2048 : Shape := ⟨2, ![4, 2048]⟩
abbrev S1x16 : Shape := ⟨2, ![1, 16]⟩
abbrev S8 : Shape := ⟨1, ![8]⟩
abbrev S_ : Shape := ⟨0, ![]⟩
abbrev S48 : Shape := ⟨1, ![48]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S8192x1024 : Shape := ⟨2, ![8192, 1024]⟩
abbrev S128x1024 : Shape := ⟨2, ![128, 1024]⟩
abbrev S128x128 : Shape := ⟨2, ![128, 128]⟩
abbrev S256x128 : Shape := ⟨2, ![256, 128]⟩
abbrev S1024x256 : Shape := ⟨2, ![1024, 256]⟩
abbrev S128x64 : Shape := ⟨2, ![128, 64]⟩
abbrev S1024x64 : Shape := ⟨2, ![1024, 64]⟩
abbrev S256x64 : Shape := ⟨2, ![256, 64]⟩
abbrev S1x1 : Shape := ⟨2, ![1, 1]⟩
abbrev S128x1 : Shape := ⟨2, ![128, 1]⟩
abbrev S1024x1 : Shape := ⟨2, ![1024, 1]⟩
abbrev S1024 : Shape := ⟨1, ![1024]⟩

abbrev nBuf : Space → Nat
  | .hbm => 35
  | .vmem => 24
  | .smem => 1
  | _ => 0

abbrev bufTy : (tb : Table) → Fin (tcTables nBuf tb) → BufTy
  | .hbm, ⟨0, _⟩ => ⟨S8192x2304, .f32⟩
  | .hbm, ⟨1, _⟩ => ⟨S4x2048, .i32⟩
  | .hbm, ⟨2, _⟩ => ⟨S1x16, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S48, .f32⟩
  | .hbm, ⟨16, _⟩ => ⟨S_, .f32⟩
  | .hbm, ⟨17, _⟩ => ⟨S8, .f32⟩
  | .hbm, ⟨18, _⟩ => ⟨S128, .f32⟩
  | .hbm, ⟨19, _⟩ => ⟨S1x128, .f32⟩
  | .hbm, ⟨20, _⟩ => ⟨S8, .f32⟩
  | .hbm, ⟨21, _⟩ => ⟨S8, .f32⟩
  | .hbm, ⟨22, _⟩ => ⟨S128, .f32⟩
  | .hbm, ⟨23, _⟩ => ⟨S1x128, .f32⟩
  | .hbm, ⟨24, _⟩ => ⟨S8192x1, .i32⟩
  | .hbm, ⟨25, _⟩ => ⟨S8192x1, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x1024, .f32⟩
  | .hbm, ⟨34, _⟩ => ⟨S8192x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x1024, .f32⟩
  | .local _ .vmem, ⟨21, _⟩ => ⟨S128x1024, .f32⟩
  | .local _ .vmem, ⟨22, _⟩ => ⟨S128x1024, .bf16⟩
  | .local _ .vmem, ⟨23, _⟩ => ⟨S128x1024, .bf16⟩
  | .local _ .smem, ⟨0, _⟩ => ⟨S1x16, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let c0_i32 : BitVec 32 := 0#32
  ![v1.toNat, c16_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c16_i32_0 : BitVec 32 := 16#32
  let c0_i32_1 : BitVec 32 := 0#32
  ![v3.toNat, c16_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c17_i32 : BitVec 32 := 17#32
  let c0_i32 : BitVec 32 := 0#32
  ![v1.toNat, c17_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c17_i32 : BitVec 32 := 17#32
  let c0_i32_0 : BitVec 32 := 0#32
  ![v3.toNat, c17_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel15Ideal.lean ====
variable {F : FTy → Type} [FloatOps F] [Named F]
def κ : String → Option EReal := fun
  | "mask" => some ⊥
  | _ => none
-- ==== Proof.Product.Block.lean ====
/-
  The weight-gradient product `hᵀ · dp` (8192 rows, both factors 1024 wide): what the kernel's result array holds.

  The grid walks the rows in eight blocks of 1024 for each of the two halves of the result's rows; the result's buffer is
  set to zero at the first block and each block adds its own product. Read at an index of the result, that fold is one sum
  over all 8192 rows.
-/
module

public import proofs.«01_k».proof.Proof.Gen.Kernel2Ideal.Value
public import Idealize.ShloMosaic.Lib.Pointwise

@[expose] public section

noncomputable section

namespace Cert.Kernel2Ideal.Grad

open Cert.Kernel2Ideal Cert.Kernel2Ideal.Gen Cert.Kernel2Ideal.Value Idealize.ShloMosaic Idealize.ShloMosaic.TcCoe Idealize.SL.Sem

variable (m : (ℓ : Loc nD τ sig) → Buf (Elt Ideal) ℓ)

/-- One step at an index: what the buffer held plus the block's 1024 products. -/
theorem pay2_apply (acc : Vec Ideal S512x1024 .f32) (x0 : Vec Ideal S1024x512 .bf16) (x1 : Vec Ideal S1024x1024 .f32)
    (r : Fin 512) (l : Fin 1024) :
    k0_pay2 acc x0 x1 (ix2 r l) = acc (ix2 r l) + ∑ k : Fin 1024, x0 (ix2 k r) * x1 (ix2 k l) := by
  pointwise [k0_pay2]

/-- The block the reset stores is zero. -/
theorem pay1_apply (j : S512x1024.Idx) : k0_pay1 (F := Ideal) j = 0 := by
  pointwise [k0_pay1]

/-- The two factors as the call finds them. -/
abbrev hArr (c : Dev nD) : Vec Ideal S8192x1024 .bf16 := m ((c : Thread nD τ).loc main_arg0)
abbrev dpArr (c : Dev nD) : Vec Ideal S8192x1024 .f32 := m ((c : Thread nD τ).loc main_arg1)

theorem win0_facts : ∀ t : Fin cfg0.N, win0_0.index t (0 : Fin 2) = t.val % 8 ∧ win0_0.index t (1 : Fin 2) = t.val / 8
    ∧ win0_1.index t (0 : Fin 2) = t.val % 8 ∧ win0_1.index t (1 : Fin 2) = 0 :=
  (by decide +kernel : ∀ t : Fin grid0.N, _)

/-- A block of the first factor, in the array's own indices. -/
theorem iblk0_apply (c : Dev nD) (t : Fin cfg0.N) (k : Fin 1024) (r : Fin 512) (K : Fin 8192) (R : Fin 1024)
    (hK : K.val = t.val % 8 * 1024 + k.val) (hR : R.val = t.val / 8 * 512 + r.val) :
    iblk m c 0 t (ix2 k r) = hArr m c (ix2 K R) := by
  obtain ⟨e0, e1, -, -⟩ := win0_facts t
  show hArr m c (((cfg0.win 0).blk t).view.emb (ix2 k r)) = _
  congr 1
  funext a; apply Fin.ext
  match a with
  | ⟨0, _⟩ => show win0_0.index t (0 : Fin 2) * 1024 + 1 * k.val = K.val; rw [e0, hK]; omega
  | ⟨1, _⟩ => show win0_0.index t (1 : Fin 2) * 512 + 1 * r.val = R.val; rw [e1, hR]; omega

/-- A block of the second factor, in the array's own indices. -/
theorem iblk1_apply (c : Dev nD) (t : Fin cfg0.N) (k l : Fin 1024) (K : Fin 8192)
    (hK : K.val = t.val % 8 * 1024 + k.val) :
    iblk m c 1 t (ix2 k l) = dpArr m c (ix2 K l) := by
  obtain ⟨-, -, e0, e1⟩ := win0_facts t
  show dpArr m c (((cfg0.win 1).blk t).view.emb (ix2 k l)) = _
  congr 1
  funext a; apply Fin.ext
  match a with
  | ⟨0, _⟩ => show win0_1.index t (0 : Fin 2) * 1024 + 1 * k.val = K.val; rw [e0, hK]; omega
  | ⟨1, _⟩ => show win0_1.index t (1 : Fin 2) * 1024 + 1 * l.val = l.val; rw [e1]; omega

/-- What block `q` of the rows adds to the result at `(R, l)`. -/
def part (c : Dev nD) (R l : Fin 1024) (q : ℕ) : EReal :=
  if h : q < 8 then ∑ k : Fin 1024, hArr m c (ix2 ⟨q * 1024 + k.val, by omega⟩ R) * dpArr m c (ix2 ⟨q * 1024 + k.val, by omega⟩ l)
  else 0

/-- The fold over the first `j + 1` blocks of one half of the result's rows is the sum of their parts. -/
theorem fold_apply (c : Dev nD) (q : ℕ) (hq : q < 2) (R l : Fin 1024) (r : Fin 512) (hR : R.val = q * 512 + r.val) :
    ∀ (j : ℕ) (hj : j < 8) (h : 8 * q + j < cfg0.N),
      Pipeline.accAt (reset2 m c) (step2 m c) (8 * q) j h (ix2 r l) = ∑ s ∈ Finset.range (j + 1), part m c R l s
  | 0, hj, h => by
    rw [Pipeline.accAt_zero, Finset.sum_range_one]
    show k0_pay2 _ _ _ _ = _
    rw [pay2_apply, pay1_apply, zero_add, part, dif_pos (by decide)]
    refine Finset.sum_congr rfl fun k _ => ?_
    rw [iblk0_apply m c ⟨8 * q, h⟩ k r ⟨0 * 1024 + k.val, by omega⟩ R (by show _ = 8 * q % 8 * 1024 + k.val; simp) (by show _ = 8 * q / 8 * 512 + r.val; omega),
      iblk1_apply m c ⟨8 * q, h⟩ k l ⟨0 * 1024 + k.val, by omega⟩ (by show _ = 8 * q % 8 * 1024 + k.val; simp)]
  | j + 1, hj, h => by
    rw [Pipeline.accAt_succ, Finset.sum_range_succ, ← fold_apply c q hq R l r hR j (by omega) (by omega)]
    show k0_pay2 _ _ _ _ = _
    rw [pay2_apply, part, dif_pos hj]
    refine congrArg₂ (· + ·) rfl (Finset.sum_congr rfl fun k _ => ?_)
    rw [iblk0_apply m c ⟨8 * q + (j + 1), h⟩ k r ⟨(j + 1) * 1024 + k.val, by omega⟩ R
        (by show (j + 1) * 1024 + k.val = (8 * q + (j + 1)) % 8 * 1024 + k.val; rw [Nat.mul_add_mod, Nat.mod_eq_of_lt hj])
        (by show _ = (8 * q + (j + 1)) / 8 * 512 + r.val; omega),
      iblk1_apply m c ⟨8 * q + (j + 1), h⟩ k l ⟨(j + 1) * 1024 + k.val, by omega⟩
        (by show (j + 1) * 1024 + k.val = (8 * q + (j + 1)) % 8 * 1024 + k.val; rw [Nat.mul_add_mod, Nat.mod_eq_of_lt hj])]

/-- The result array, as a block of numbers. -/
abbrev resArr (c : Dev nD) : Vec Ideal S1024x1024 .f32 := G2 m c

/-- The result array at an index: one sum over the 8192 rows. -/
theorem result_apply (c : Dev nD) (R l : Fin 1024) :
    resArr m c (ix2 R l) = ∑ k : Fin 8192, hArr m c (ix2 k R) * dpArr m c (ix2 k l) := by
  have hN : cfg0.N = 16 := N_0
  have hr : run2Of (ix2 R l) = R.val / 512 := by
    show 1 * (R.val / 512 - 0) + 1 * (l.val / 1024 - 0) = _; omega
  have hl : loc2Of (ix2 R l) = ix2 ⟨R.val % 512, Nat.mod_lt _ (by decide)⟩ l := by
    funext a; apply Fin.ext
    match a with
    | ⟨0, _⟩ => rfl
    | ⟨1, _⟩ => show l.val % 1024 = l.val; omega
  unfold resArr G2
  rw [dif_pos (by rw [hr]; omega), hl]
  have e : ∀ (b : ℕ) (h : b + 7 < cfg0.N) (b' : ℕ) (h' : b' + 7 < cfg0.N), b = b' →
      Pipeline.accAt (reset2 m c) (step2 m c) b 7 h = Pipeline.accAt (reset2 m c) (step2 m c) b' 7 h' := by
    intro b h b' h' hb; subst hb; rfl
  rw [e _ _ (8 * (R.val / 512)) (by omega) (by rw [hr]),
    fold_apply m c (R.val / 512) (by omega) R l _ (by show R.val = R.val / 512 * 512 + R.val % 512; omega) 7 (by decide),
    Fin.sum_univ_tiles 8 1024 rfl, Finset.sum_range]
  refine Finset.sum_congr rfl fun q _ => ?_
  rw [part, dif_pos q.isLt]

end Cert.Kernel2Ideal.Grad

end
-- ==== Proof.Product.Equal.lean ====
/-
  The weight-gradient product: the kernel's array is the gradient `jax.vjp` gives of `w ↦ h · w`.
-/
module

public import proofs.«01_k».proof.Defs
public import proofs.«01_k».proof.Proof.Product.Block
public import proofs.«01_k».proof.Proof.Gen.Reference2Ideal.Run
public import Idealize.ShloMosaic.Lib.Quiescent
public import proofs.«01_k».proof.Proof.Gen.Reference2Ideal.Read

@[expose] public section

noncomputable section

namespace Cert.Product

open Idealize.ShloMosaic Idealize.ShloMosaic.TcCoe Idealize.SL.Sem

/-- The reference's gradient at an index. -/
theorem ref_apply (x0 : Vec Ideal Cert.Reference2Ideal.S8192x1024 .bf16) (x1 : Vec Ideal Cert.Reference2Ideal.S8192x1024 .f32) (R l : Fin 1024) :
    Cert.Reference2Ideal.Read.val_main_v4 (F := Ideal) x0 x1 (ix2 R l) = ∑ k : Fin 8192, x0 (ix2 k R) * x1 (ix2 k l) := by
  rw [Cert.Reference2Ideal.Read.val_main_v4_apply, Cert.Reference2Ideal.Read.val_main_v3_apply]
  refine Finset.sum_congr rfl fun k _ => ?_
  rw [Cert.Reference2Ideal.Read.val_main_v1_apply, Ideal.extf_def, mul_comm]
  refine congrArg₂ (· * ·) (congrArg x0 ?_) (congrArg x1 ?_) <;>
  · funext a; apply Fin.ext
    match a with
    | ⟨0, _⟩ => rfl
    | ⟨1, _⟩ => rfl

/-- The equation of the two arrays. -/
theorem arrays_eq (m : (ℓ : Loc Cert.Kernel2Ideal.nD Cert.Kernel2Ideal.τ Cert.Kernel2Ideal.sig) → Buf (Elt Ideal) ℓ) (c : Dev Cert.Kernel2Ideal.nD) :
    Cert.Kernel2Ideal.Value.G2 m c = Cert.Reference2Ideal.Read.val_main_v4 (F := Ideal)
      (Cert.Kernel2Ideal.Grad.hArr m c) (Cert.Kernel2Ideal.Grad.dpArr m c) := by
  funext j
  obtain ⟨R, l, rfl⟩ : ∃ (R l : Fin 1024), j = ix2 R l := ⟨j 0, j 1, by funext a; match a with | ⟨0, _⟩ => rfl | ⟨1, _⟩ => rfl⟩
  exact (Cert.Kernel2Ideal.Grad.result_apply m c R l).trans (ref_apply _ _ R l).symm

/-- The claim about the two programs. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Value.G2 m c, Cert.Kernel2Ideal.Value.run m g, ?_⟩
  refine (θ_run Cert.Reference2Ideal.defs _ _).mono (fun r h c => ?_) (Cert.Reference2Ideal.Value.run (F := Ideal) m' g')
  refine ⟨(h c).1.trans ?_, (h c).2⟩
  rw [(hagree c).1, (hagree c).2]
  exact (arrays_eq m c).symm

/-- The reference's frame: it has no counters at all. -/
theorem frame_ref : Cert.quiescent_Reference2Ideal (hReference2Ideal := Cert.Reference2Ideal.Gen.facts) := by
  intro m g _
  exact (θ_run Cert.Reference2Ideal.defs _ _).mono (fun r h => ⟨fun c => (h c).2, sem_eq_zero_of_no_sems (by decide) r.2⟩)
    (Cert.Reference2Ideal.Value.run (F := Ideal) m g)

end Cert.Product

end
-- ==== Proof.Attn.Points.lean ====
module

public import proofs.«01_k».proof.Proof.Gen.KernelIdeal.Frame
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.TableIdle

@[expose] public section

/-! The branches of the attention kernel at each point of its grid, and the buffers a point is given. -/

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The sink tile is cleared here. -/
abbrev cond0_0 (i : grid0.Coords) : Prop := k0_cond1 i = 1#1
/-- A block is staged here. -/
abbrev cond0_1 (i : grid0.Coords) : Prop := k0_cond2 i = 1#1
/-- The staged block of the point before is finished here. -/
abbrev cond0_2 (i : grid0.Coords) : Prop := k0_cond3 i = 1#1
/-- The last block of a sequence is written out here. -/
abbrev cond0_3 (i : grid0.Coords) : Prop := k0_cond4 i = 1#1

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val % 17 ≤ 15 :=
  (by decide +kernel : ∀ t : Fin grid0.N, cond0_1 (grid0.coords t) ↔ t.val % 17 ≤ 15)
theorem hcond0_2 : ∀ t : Fin cfg0.N, cond0_2 (grid0.coords t) ↔ 1 ≤ t.val % 17 :=
  (by decide +kernel : ∀ t : Fin grid0.N, cond0_2 (grid0.coords t) ↔ 1 ≤ t.val % 17)
theorem hcond0_3 : ∀ t : Fin cfg0.N, cond0_3 (grid0.coords t) ↔ t.val % 17 = 16 :=
  (by decide +kernel : ∀ t : Fin grid0.N, cond0_3 (grid0.coords t) ↔ t.val % 17 = 16)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl

abbrev ms0_0 (t : Fin cfg0.N) : Memref sig .tc .smem S1x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x2304 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x128 .f32 := win0_14.stage (cfg0.slots t 14)
abbrev hs0_14 (t : Fin cfg0.N) : (ms0_14 t).IsWhole := hstage0_14 ((cfg0.slots t 14).cast nbuf0_14)
abbrev scM0_0 : Memref sig .tc .vmem S128x1024 .f32 := Memref.whole cc0_scratch0
abbrev scM0_1 : Memref sig .tc .vmem S128x1024 .f32 := Memref.whole cc0_scratch1
abbrev scM0_2 : Memref sig .tc .vmem S128x128 .f32 := Memref.whole cc0_scratch2
abbrev scM0_3 : Memref sig .tc .vmem S128x128 .f32 := Memref.whole cc0_scratch3

/-- What is held before the first point: the four staging buffers at anything, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Val

end
-- ==== Proof.Attn.RunFirst.lean ====
module

public import proofs.«01_k».proof.Proof.Attn.Points

@[expose] public section

/-! The first point of the grid: the tile of sink gradients is cleared, and the first block of the first sequence is staged and accumulated over nothing. The staging block of the gradient array is not touched. -/

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 1600000 in
/-- The body at such a point, on any staging buffers: what its stores leave in the gradient block, the sink tile and the four
    staging buffers, as lists of pieces the run finds. -/
def runFirst (c : Dev nD) (i : grid0.Coords)
    (arg2 : Memref sig .tc .smem S1x16 .f32) (harg2 : arg2.IsWhole)
    (arg3 : Memref sig .tc .vmem S128x1024 .f32) (harg3 : arg3.IsWhole)
    (arg4 : Memref sig .tc .vmem S128x1024 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S128x128 .f32) (harg8 : arg8.IsWhole)
    (arg9 : Memref sig .tc .vmem S128x128 .f32) (harg9 : arg9.IsWhole)
    (arg10 : Memref sig .tc .vmem S128x128 .f32) (harg10 : arg10.IsWhole)
    (arg11 : Memref sig .tc .vmem S128x128 .f32) (harg11 : arg11.IsWhole)
    (arg12 : Memref sig .tc .vmem S128x128 .f32) (harg12 : arg12.IsWhole)
    (arg13 : Memref sig .tc .vmem S128x1024 .f32) (harg13 : arg13.IsWhole)
    (arg14 : Memref sig .tc .vmem S128x1024 .f32) (harg14 : arg14.IsWhole)
    (arg15 : Memref sig .tc .vmem S128x2304 .f32) (harg15 : arg15.IsWhole)
    (arg16 : Memref sig .tc .vmem S8x128 .f32) (harg16 : arg16.IsWhole)
    (arg17 : Memref sig .tc .vmem S128x1024 .f32) (harg17 : arg17.IsWhole)
    (arg18 : Memref sig .tc .vmem S128x1024 .f32) (harg18 : arg18.IsWhole)
    (arg19 : Memref sig .tc .vmem S128x128 .f32) (harg19 : arg19.IsWhole)
    (arg20 : Memref sig .tc .vmem S128x128 .f32) (harg20 : arg20.IsWhole)
    (hc0 : cond0_0 i) (hc1 : cond0_1 i) (hc2 : ¬cond0_2 i) (hc3 : ¬cond0_3 i)
    (x0 : Vec F S1x16 .f32) (x1 : Vec F S128x1024 .f32) (x2 : Vec F S128x1024 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x1024 .f32) (x12 : Vec F S128x1024 .f32) :
    Σ' (L14 : List (View.Piece (Elt F) S8x128 .f32)),
    Σ' (LS0 : List (View.Piece (Elt F) S128x1024 .f32)),
    Σ' (LS1 : List (View.Piece (Elt F) S128x1024 .f32)),
    Σ' (LS2 : List (View.Piece (Elt F) S128x128 .f32)),
    { LS3 : List (View.Piece (Elt F) S128x128 .f32) //
      ∀ (xi13 : Vec F S128x2304 .f32) (E : Set ℕ) (K : PUnit → sProp 𝕄),
        iprop(owns (c : Thread nD τ) arg2 fullShare x0 ∗ owns (c : Thread nD τ) arg3 fullShare x1 ∗ owns (c : Thread nD τ) arg4 fullShare x2 ∗
            owns (c : Thread nD τ) arg5 fullShare x3 ∗ owns (c : Thread nD τ) arg6 fullShare x4 ∗ owns (c : Thread nD τ) arg7 fullShare x5 ∗
            owns (c : Thread nD τ) arg8 fullShare x6 ∗ owns (c : Thread nD τ) arg9 fullShare x7 ∗ owns (c : Thread nD τ) arg10 fullShare x8 ∗
            owns (c : Thread nD τ) arg11 fullShare x9 ∗ owns (c : Thread nD τ) arg12 fullShare x10 ∗ owns (c : Thread nD τ) arg13 fullShare x11 ∗
            owns (c : Thread nD τ) arg14 fullShare x12 ∗ owns (c : Thread nD τ) arg15 fullShare xi13 ∗
            (∃ d, owns (c : Thread nD τ) arg16 fullShare d) ∗ (∃ d, owns (c : Thread nD τ) arg17 fullShare d) ∗
            (∃ d, owns (c : Thread nD τ) arg18 fullShare d) ∗ (∃ d, owns (c : Thread nD τ) arg19 fullShare d) ∗
            (∃ d, owns (c : Thread nD τ) arg20 fullShare d)
            ∗ (iprop(owns (c : Thread nD τ) arg2 fullShare x0 ∗ owns (c : Thread nD τ) arg3 fullShare x1 ∗ owns (c : Thread nD τ) arg4 fullShare x2 ∗
                owns (c : Thread nD τ) arg5 fullShare x3 ∗ owns (c : Thread nD τ) arg6 fullShare x4 ∗ owns (c : Thread nD τ) arg7 fullShare x5 ∗
                owns (c : Thread nD τ) arg8 fullShare x6 ∗ owns (c : Thread nD τ) arg9 fullShare x7 ∗ owns (c : Thread nD τ) arg10 fullShare x8 ∗
                owns (c : Thread nD τ) arg11 fullShare x9 ∗ owns (c : Thread nD τ) arg12 fullShare x10 ∗ owns (c : Thread nD τ) arg13 fullShare x11 ∗
                owns (c : Thread nD τ) arg14 fullShare x12 ∗ owns (c : Thread nD τ) arg15 fullShare xi13 ∗
                (∃ f, arg16.view.loc (c : Thread nD τ) ↦[arg16.view.set]{fullShare} arg16.view.writes (Elt F) f L14) ∗
                (∃ f, arg17.view.loc (c : Thread nD τ) ↦[arg17.view.set]{fullShare} arg17.view.writes (Elt F) f LS0) ∗
                (∃ f, arg18.view.loc (c : Thread nD τ) ↦[arg18.view.set]{fullShare} arg18.view.writes (Elt F) f LS1) ∗
                (∃ f, arg19.view.loc (c : Thread nD τ) ↦[arg19.view.set]{fullShare} arg19.view.writes (Elt F) f LS2) ∗
                (∃ f, arg20.view.loc (c : Thread nD τ) ↦[arg20.view.set]{fullShare} arg20.view.writes (Elt F) f LS3)) -∗ K ⟨⟩))
          ⊢ wp frame (wpE (defs₀ (F := F)) Variants.none c none) E
              (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun xi13 E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [HS0]; · iexists _; iexact HS0
    isplitl [HS1]; · iexists _; iexact HS1
    isplitl [HS2]; · iexists _; iexact HS2
    iexists _; iexact HS3

end Cert.KernelIdeal.Val

end
-- ==== Proof.Attn.RunMid.lean ====
module

public import proofs.«01_k».proof.Proof.Attn.RunFirst

@[expose] public section

/-! A point inside a sequence: the staged block of the point before is finished with this block's share of its key and value gradients and written out, and this block is staged in its place. -/

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 1600000 in
/-- The body at such a point, on any staging buffers: what its stores leave in the gradient block, the sink tile and the four
    staging buffers, as lists of pieces the run finds. -/
def runMid (c : Dev nD) (i : grid0.Coords)
    (arg2 : Memref sig .tc .smem S1x16 .f32) (harg2 : arg2.IsWhole)
    (arg3 : Memref sig .tc .vmem S128x1024 .f32) (harg3 : arg3.IsWhole)
    (arg4 : Memref sig .tc .vmem S128x1024 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S128x128 .f32) (harg8 : arg8.IsWhole)
    (arg9 : Memref sig .tc .vmem S128x128 .f32) (harg9 : arg9.IsWhole)
    (arg10 : Memref sig .tc .vmem S128x128 .f32) (harg10 : arg10.IsWhole)
    (arg11 : Memref sig .tc .vmem S128x128 .f32) (harg11 : arg11.IsWhole)
    (arg12 : Memref sig .tc .vmem S128x128 .f32) (harg12 : arg12.IsWhole)
    (arg13 : Memref sig .tc .vmem S128x1024 .f32) (harg13 : arg13.IsWhole)
    (arg14 : Memref sig .tc .vmem S128x1024 .f32) (harg14 : arg14.IsWhole)
    (arg15 : Memref sig .tc .vmem S128x2304 .f32) (harg15 : arg15.IsWhole)
    (arg16 : Memref sig .tc .vmem S8x128 .f32) (harg16 : arg16.IsWhole)
    (arg17 : Memref sig .tc .vmem S128x1024 .f32) (harg17 : arg17.IsWhole)
    (arg18 : Memref sig .tc .vmem S128x1024 .f32) (harg18 : arg18.IsWhole)
    (arg19 : Memref sig .tc .vmem S128x128 .f32) (harg19 : arg19.IsWhole)
    (arg20 : Memref sig .tc .vmem S128x128 .f32) (harg20 : arg20.IsWhole)
    (hc0 : ¬cond0_0 i) (hc1 : cond0_1 i) (hc2 : cond0_2 i) (hc3 : ¬cond0_3 i)
    (x0 : Vec F S1x16 .f32) (x1 : Vec F S128x1024 .f32) (x2 : Vec F S128x1024 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x1024 .f32) (x12 : Vec F S128x1024 .f32)
    (xo14 : Vec F S8x128 .f32) (xs0 : Vec F S128x1024 .f32) (xs1 : Vec F S128x1024 .f32) (xs2 : Vec F S128x128 .f32) (xs3 : Vec F S128x128 .f32) :
    Σ' (L13 : List (View.Piece (Elt F) S128x2304 .f32)),
    Σ' (L14 : List (View.Piece (Elt F) S8x128 .f32)),
    Σ' (LS0 : List (View.Piece (Elt F) S128x1024 .f32)),
    Σ' (LS1 : List (View.Piece (Elt F) S128x1024 .f32)),
    Σ' (LS2 : List (View.Piece (Elt F) S128x128 .f32)),
    { LS3 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗
            owns (c : Thread nD τ) arg5 fullShare x3 ∗ owns (c : Thread nD τ) arg6 fullShare x4 ∗ owns (c : Thread nD τ) arg7 fullShare x5 ∗
            owns (c : Thread nD τ) arg8 fullShare x6 ∗ owns (c : Thread nD τ) arg9 fullShare x7 ∗ owns (c : Thread nD τ) arg10 fullShare x8 ∗
            owns (c : Thread nD τ) arg11 fullShare x9 ∗ owns (c : Thread nD τ) arg12 fullShare x10 ∗ owns (c : Thread nD τ) arg13 fullShare x11 ∗
            owns (c : Thread nD τ) arg14 fullShare x12 ∗ (∃ d, owns (c : Thread nD τ) arg15 fullShare d) ∗
            owns (c : Thread nD τ) arg16 fullShare xo14 ∗ owns (c : Thread nD τ) arg17 fullShare xs0 ∗ owns (c : Thread nD τ) arg18 fullShare xs1 ∗
            owns (c : Thread nD τ) arg19 fullShare xs2 ∗ owns (c : Thread nD τ) arg20 fullShare xs3
            ∗ (iprop(owns (c : Thread nD τ) arg2 fullShare x0 ∗ owns (c : Thread nD τ) arg3 fullShare x1 ∗ owns (c : Thread nD τ) arg4 fullShare x2 ∗
                owns (c : Thread nD τ) arg5 fullShare x3 ∗ owns (c : Thread nD τ) arg6 fullShare x4 ∗ owns (c : Thread nD τ) arg7 fullShare x5 ∗
                owns (c : Thread nD τ) arg8 fullShare x6 ∗ owns (c : Thread nD τ) arg9 fullShare x7 ∗ owns (c : Thread nD τ) arg10 fullShare x8 ∗
                owns (c : Thread nD τ) arg11 fullShare x9 ∗ owns (c : Thread nD τ) arg12 fullShare x10 ∗ owns (c : Thread nD τ) arg13 fullShare x11 ∗
                owns (c : Thread nD τ) arg14 fullShare x12 ∗
                (∃ f, arg15.view.loc (c : Thread nD τ) ↦[arg15.view.set]{fullShare} arg15.view.writes (Elt F) f L13) ∗
                (∃ f, arg16.view.loc (c : Thread nD τ) ↦[arg16.view.set]{fullShare} arg16.view.writes (Elt F) f L14) ∗
                (∃ f, arg17.view.loc (c : Thread nD τ) ↦[arg17.view.set]{fullShare} arg17.view.writes (Elt F) f LS0) ∗
                (∃ f, arg18.view.loc (c : Thread nD τ) ↦[arg18.view.set]{fullShare} arg18.view.writes (Elt F) f LS1) ∗
                (∃ f, arg19.view.loc (c : Thread nD τ) ↦[arg19.view.set]{fullShare} arg19.view.writes (Elt F) f LS2) ∗
                (∃ f, arg20.view.loc (c : Thread nD τ) ↦[arg20.view.set]{fullShare} arg20.view.writes (Elt F) f LS3)) -∗ K ⟨⟩))
          ⊢ wp frame (wpE (defs₀ (F := F)) Variants.none c none) E
              (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg16.eq_unread hf14; obtain rfl := harg17.eq_unread hfs0; obtain rfl := harg18.eq_unread hfs1; obtain rfl := harg19.eq_unread hfs2; obtain rfl := harg20.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [HS0]; · iexists _; iexact HS0
    isplitl [HS1]; · iexists _; iexact HS1
    isplitl [HS2]; · iexists _; iexact HS2
    iexists _; iexact HS3

end Cert.KernelIdeal.Val

end
-- ==== Proof.Attn.RunLast.lean ====
module

public import proofs.«01_k».proof.Proof.Attn.Points

@[expose] public section

/-! The closing point of a sequence: the staged block is written out as it stands; nothing is staged. -/

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 1600000 in
/-- The body at such a point, on any staging buffers: what its stores leave in the gradient block, the sink tile and the four
    staging buffers, as lists of pieces the run finds. -/
def runLast (c : Dev nD) (i : grid0.Coords)
    (arg2 : Memref sig .tc .smem S1x16 .f32) (harg2 : arg2.IsWhole)
    (arg3 : Memref sig .tc .vmem S128x1024 .f32) (harg3 : arg3.IsWhole)
    (arg4 : Memref sig .tc .vmem S128x1024 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S128x128 .f32) (harg8 : arg8.IsWhole)
    (arg9 : Memref sig .tc .vmem S128x128 .f32) (harg9 : arg9.IsWhole)
    (arg10 : Memref sig .tc .vmem S128x128 .f32) (harg10 : arg10.IsWhole)
    (arg11 : Memref sig .tc .vmem S128x128 .f32) (harg11 : arg11.IsWhole)
    (arg12 : Memref sig .tc .vmem S128x128 .f32) (harg12 : arg12.IsWhole)
    (arg13 : Memref sig .tc .vmem S128x1024 .f32) (harg13 : arg13.IsWhole)
    (arg14 : Memref sig .tc .vmem S128x1024 .f32) (harg14 : arg14.IsWhole)
    (arg15 : Memref sig .tc .vmem S128x2304 .f32) (harg15 : arg15.IsWhole)
    (arg16 : Memref sig .tc .vmem S8x128 .f32) (harg16 : arg16.IsWhole)
    (arg17 : Memref sig .tc .vmem S128x1024 .f32) (harg17 : arg17.IsWhole)
    (arg18 : Memref sig .tc .vmem S128x1024 .f32) (harg18 : arg18.IsWhole)
    (arg19 : Memref sig .tc .vmem S128x128 .f32) (harg19 : arg19.IsWhole)
    (arg20 : Memref sig .tc .vmem S128x128 .f32) (harg20 : arg20.IsWhole)
    (hc0 : ¬cond0_0 i) (hc1 : ¬cond0_1 i) (hc3 : cond0_3 i)
    (x0 : Vec F S1x16 .f32) (x1 : Vec F S128x1024 .f32) (x2 : Vec F S128x1024 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x1024 .f32) (x12 : Vec F S128x1024 .f32)
    (xo14 : Vec F S8x128 .f32) (xs0 : Vec F S128x1024 .f32) (xs1 : Vec F S128x1024 .f32) (xs2 : Vec F S128x128 .f32) (xs3 : Vec F S128x128 .f32) :
    { L13 : List (View.Piece (Elt F) S128x2304 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗
            owns (c : Thread nD τ) arg5 fullShare x3 ∗ owns (c : Thread nD τ) arg6 fullShare x4 ∗ owns (c : Thread nD τ) arg7 fullShare x5 ∗
            owns (c : Thread nD τ) arg8 fullShare x6 ∗ owns (c : Thread nD τ) arg9 fullShare x7 ∗ owns (c : Thread nD τ) arg10 fullShare x8 ∗
            owns (c : Thread nD τ) arg11 fullShare x9 ∗ owns (c : Thread nD τ) arg12 fullShare x10 ∗ owns (c : Thread nD τ) arg13 fullShare x11 ∗
            owns (c : Thread nD τ) arg14 fullShare x12 ∗ (∃ d, owns (c : Thread nD τ) arg15 fullShare d) ∗
            owns (c : Thread nD τ) arg16 fullShare xo14 ∗ owns (c : Thread nD τ) arg17 fullShare xs0 ∗ owns (c : Thread nD τ) arg18 fullShare xs1 ∗
            owns (c : Thread nD τ) arg19 fullShare xs2 ∗ owns (c : Thread nD τ) arg20 fullShare xs3
            ∗ (iprop(owns (c : Thread nD τ) arg2 fullShare x0 ∗ owns (c : Thread nD τ) arg3 fullShare x1 ∗ owns (c : Thread nD τ) arg4 fullShare x2 ∗
                owns (c : Thread nD τ) arg5 fullShare x3 ∗ owns (c : Thread nD τ) arg6 fullShare x4 ∗ owns (c : Thread nD τ) arg7 fullShare x5 ∗
                owns (c : Thread nD τ) arg8 fullShare x6 ∗ owns (c : Thread nD τ) arg9 fullShare x7 ∗ owns (c : Thread nD τ) arg10 fullShare x8 ∗
                owns (c : Thread nD τ) arg11 fullShare x9 ∗ owns (c : Thread nD τ) arg12 fullShare x10 ∗ owns (c : Thread nD τ) arg13 fullShare x11 ∗
                owns (c : Thread nD τ) arg14 fullShare x12 ∗
                (∃ f, arg15.view.loc (c : Thread nD τ) ↦[arg15.view.set]{fullShare} arg15.view.writes (Elt F) f L13) ∗
                owns (c : Thread nD τ) arg16 fullShare xo14 ∗ owns (c : Thread nD τ) arg17 fullShare xs0 ∗
                owns (c : Thread nD τ) arg18 fullShare xs1 ∗ owns (c : Thread nD τ) arg19 fullShare xs2 ∗ owns (c : Thread nD τ) arg20 fullShare xs3) -∗ K ⟨⟩))
          ⊢ wp frame (wpE (defs₀ (F := F)) Variants.none c none) E
              (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg16.eq_unread hf14; obtain rfl := harg17.eq_unread hfs0; obtain rfl := harg18.eq_unread hfs1; obtain rfl := harg19.eq_unread hfs2; obtain rfl := harg20.eq_unread hfs3
    sl_exec (disch := first | sl_exact hc0 | sl_exact hc1 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]
    · iexists _; isplitr; · ipureintro; exact harg16.read_unread _
      iexact H14
    isplitl [HS0]
    · iexists _; isplitr; · ipureintro; exact harg17.read_unread _
      iexact HS0
    isplitl [HS1]
    · iexists _; isplitr; · ipureintro; exact harg18.read_unread _
      iexact HS1
    isplitl [HS2]
    · iexists _; isplitr; · ipureintro; exact harg19.read_unread _
      iexact HS2
    iexists _; isplitr; · ipureintro; exact harg20.read_unread _
    iexact HS3

end Cert.KernelIdeal.Val

end
-- ==== Proof.Attn.RunStart.lean ====
module

public import proofs.«01_k».proof.Proof.Attn.RunFirst

@[expose] public section

/-! The first point of a later sequence: as the first point of the grid, but the tile of sink gradients goes on. -/

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 1600000 in
/-- The body at such a point, on any staging buffers: what its stores leave in the gradient block, the sink tile and the four
    staging buffers, as lists of pieces the run finds. -/
def runStart (c : Dev nD) (i : grid0.Coords)
    (arg2 : Memref sig .tc .smem S1x16 .f32) (harg2 : arg2.IsWhole)
    (arg3 : Memref sig .tc .vmem S128x1024 .f32) (harg3 : arg3.IsWhole)
    (arg4 : Memref sig .tc .vmem S128x1024 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S128x128 .f32) (harg8 : arg8.IsWhole)
    (arg9 : Memref sig .tc .vmem S128x128 .f32) (harg9 : arg9.IsWhole)
    (arg10 : Memref sig .tc .vmem S128x128 .f32) (harg10 : arg10.IsWhole)
    (arg11 : Memref sig .tc .vmem S128x128 .f32) (harg11 : arg11.IsWhole)
    (arg12 : Memref sig .tc .vmem S128x128 .f32) (harg12 : arg12.IsWhole)
    (arg13 : Memref sig .tc .vmem S128x1024 .f32) (harg13 : arg13.IsWhole)
    (arg14 : Memref sig .tc .vmem S128x1024 .f32) (harg14 : arg14.IsWhole)
    (arg15 : Memref sig .tc .vmem S128x2304 .f32) (harg15 : arg15.IsWhole)
    (arg16 : Memref sig .tc .vmem S8x128 .f32) (harg16 : arg16.IsWhole)
    (arg17 : Memref sig .tc .vmem S128x1024 .f32) (harg17 : arg17.IsWhole)
    (arg18 : Memref sig .tc .vmem S128x1024 .f32) (harg18 : arg18.IsWhole)
    (arg19 : Memref sig .tc .vmem S128x128 .f32) (harg19 : arg19.IsWhole)
    (arg20 : Memref sig .tc .vmem S128x128 .f32) (harg20 : arg20.IsWhole)
    (hc0 : ¬cond0_0 i) (hc1 : cond0_1 i) (hc2 : ¬cond0_2 i) (hc3 : ¬cond0_3 i)
    (x0 : Vec F S1x16 .f32) (x1 : Vec F S128x1024 .f32) (x2 : Vec F S128x1024 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x1024 .f32) (x12 : Vec F S128x1024 .f32)
    (xo14 : Vec F S8x128 .f32) :
    Σ' (L14 : List (View.Piece (Elt F) S8x128 .f32)),
    Σ' (LS0 : List (View.Piece (Elt F) S128x1024 .f32)),
    Σ' (LS1 : List (View.Piece (Elt F) S128x1024 .f32)),
    Σ' (LS2 : List (View.Piece (Elt F) S128x128 .f32)),
    { LS3 : List (View.Piece (Elt F) S128x128 .f32) //
      ∀ (xi13 : Vec F S128x2304 .f32) (E : Set ℕ) (K : PUnit → sProp 𝕄),
        iprop(owns (c : Thread nD τ) arg2 fullShare x0 ∗ owns (c : Thread nD τ) arg3 fullShare x1 ∗ owns (c : Thread nD τ) arg4 fullShare x2 ∗
            owns (c : Thread nD τ) arg5 fullShare x3 ∗ owns (c : Thread nD τ) arg6 fullShare x4 ∗ owns (c : Thread nD τ) arg7 fullShare x5 ∗
            owns (c : Thread nD τ) arg8 fullShare x6 ∗ owns (c : Thread nD τ) arg9 fullShare x7 ∗ owns (c : Thread nD τ) arg10 fullShare x8 ∗
            owns (c : Thread nD τ) arg11 fullShare x9 ∗ owns (c : Thread nD τ) arg12 fullShare x10 ∗ owns (c : Thread nD τ) arg13 fullShare x11 ∗
            owns (c : Thread nD τ) arg14 fullShare x12 ∗ owns (c : Thread nD τ) arg15 fullShare xi13 ∗ owns (c : Thread nD τ) arg16 fullShare xo14 ∗
            (∃ d, owns (c : Thread nD τ) arg17 fullShare d) ∗ (∃ d, owns (c : Thread nD τ) arg18 fullShare d) ∗
            (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗
                owns (c : Thread nD τ) arg5 fullShare x3 ∗ owns (c : Thread nD τ) arg6 fullShare x4 ∗ owns (c : Thread nD τ) arg7 fullShare x5 ∗
                owns (c : Thread nD τ) arg8 fullShare x6 ∗ owns (c : Thread nD τ) arg9 fullShare x7 ∗ owns (c : Thread nD τ) arg10 fullShare x8 ∗
                owns (c : Thread nD τ) arg11 fullShare x9 ∗ owns (c : Thread nD τ) arg12 fullShare x10 ∗ owns (c : Thread nD τ) arg13 fullShare x11 ∗
                owns (c : Thread nD τ) arg14 fullShare x12 ∗ owns (c : Thread nD τ) arg15 fullShare xi13 ∗
                (∃ f, arg16.view.loc (c : Thread nD τ) ↦[arg16.view.set]{fullShare} arg16.view.writes (Elt F) f L14) ∗
                (∃ f, arg17.view.loc (c : Thread nD τ) ↦[arg17.view.set]{fullShare} arg17.view.writes (Elt F) f LS0) ∗
                (∃ f, arg18.view.loc (c : Thread nD τ) ↦[arg18.view.set]{fullShare} arg18.view.writes (Elt F) f LS1) ∗
                (∃ f, arg19.view.loc (c : Thread nD τ) ↦[arg19.view.set]{fullShare} arg19.view.writes (Elt F) f LS2) ∗
                (∃ f, arg20.view.loc (c : Thread nD τ) ↦[arg20.view.set]{fullShare} arg20.view.writes (Elt F) f LS3)) -∗ K ⟨⟩))
          ⊢ wp frame (wpE (defs₀ (F := F)) Variants.none c none) E
              (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun xi13 E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [HS0]; · iexists _; iexact HS0
    isplitl [HS1]; · iexists _; iexact HS1
    isplitl [HS2]; · iexists _; iexact HS2
    iexists _; iexact HS3

end Cert.KernelIdeal.Val

end
-- ==== Proof.Attn.Steps.lean ====
module

public import proofs.«01_k».proof.Proof.Attn.RunFirst
public import proofs.«01_k».proof.Proof.Attn.RunMid
public import proofs.«01_k».proof.Proof.Attn.RunLast
public import proofs.«01_k».proof.Proof.Attn.RunStart
public import Idealize.ShloMosaic.Lib.Pipeline.TableIdle

@[expose] public section

/-! What the buffers of the attention kernel hold after each of its 68 points: the gradient block, the sink tile and the
four staging buffers, as one state that each point maps to the next. -/

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The four kinds of points -/

/-- The first point of the grid. -/
def AtFirst (t : Fin cfg0.N) : Prop := t.val = 0
/-- A point inside a sequence. -/
def AtMid (t : Fin cfg0.N) : Prop := 1 ≤ t.val % 17 ∧ t.val % 17 ≤ 15
/-- The closing point of a sequence. -/
def AtLast (t : Fin cfg0.N) : Prop := t.val % 17 = 16
/-- The first point of a later sequence. -/
def AtStart (t : Fin cfg0.N) : Prop := t.val % 17 = 0 ∧ t.val ≠ 0

instance (t : Fin cfg0.N) : Decidable (AtFirst t) := inferInstanceAs (Decidable (_ = _))
instance (t : Fin cfg0.N) : Decidable (AtMid t) := inferInstanceAs (Decidable (_ ∧ _))
instance (t : Fin cfg0.N) : Decidable (AtLast t) := inferInstanceAs (Decidable (_ = _))
instance (t : Fin cfg0.N) : Decidable (AtStart t) := inferInstanceAs (Decidable (_ ∧ _))

theorem lt_68 (t : Fin cfg0.N) : t.val < 68 := lt_of_lt_of_eq t.isLt (show cfg0.N = 68 from N_0)

theorem AtFirst.conds {t : Fin cfg0.N} (h : AtFirst t) :
    cond0_0 (grid0.coords t) ∧ cond0_1 (grid0.coords t) ∧ ¬cond0_2 (grid0.coords t) ∧ ¬cond0_3 (grid0.coords t) := by
  have := lt_68 t; unfold AtFirst at h
  rw [hcond0_0, hcond0_1, hcond0_2, hcond0_3]; omega
theorem AtMid.conds {t : Fin cfg0.N} (h : AtMid t) :
    ¬cond0_0 (grid0.coords t) ∧ cond0_1 (grid0.coords t) ∧ cond0_2 (grid0.coords t) ∧ ¬cond0_3 (grid0.coords t) := by
  have := lt_68 t; unfold AtMid at h
  rw [hcond0_0, hcond0_1, hcond0_2, hcond0_3]; omega
theorem AtLast.conds {t : Fin cfg0.N} (h : AtLast t) :
    ¬cond0_0 (grid0.coords t) ∧ ¬cond0_1 (grid0.coords t) ∧ cond0_3 (grid0.coords t) := by
  have := lt_68 t; unfold AtLast at h
  rw [hcond0_0, hcond0_1, hcond0_3]; omega
theorem AtStart.conds {t : Fin cfg0.N} (h : AtStart t) :
    ¬cond0_0 (grid0.coords t) ∧ cond0_1 (grid0.coords t) ∧ ¬cond0_2 (grid0.coords t) ∧ ¬cond0_3 (grid0.coords t) := by
  have := lt_68 t; unfold AtStart at h
  rw [hcond0_0, hcond0_1, hcond0_2, hcond0_3]; omega

theorem kinds (t : Fin cfg0.N) : AtFirst t ∨ AtMid t ∨ AtLast t ∨ AtStart t := by
  have := lt_68 t; unfold AtFirst AtMid AtLast AtStart; omega

/-! ## Where the two outputs are stored into -/

theorem dp_idle : ∀ t : Fin cfg0.N, t.val % 17 = 0 → cfg0.idle 13 (grid0.coords t) = true := by decide +kernel
theorem dp_noFlush : ∀ t : Fin cfg0.N, t.val % 17 = 0 → (cfg0.win 13).flush t = false := by decide +kernel
theorem dp_live : ∀ t : Fin cfg0.N, t.val % 17 ≠ 0 → cfg0.idle 13 (grid0.coords t) = false := by decide +kernel
theorem ds_live : ∀ t : Fin cfg0.N, t.val % 17 ≠ 16 → cfg0.idle 14 (grid0.coords t) = false := by decide +kernel
theorem ds_idle : ∀ t : Fin cfg0.N, t.val % 17 = 16 → cfg0.idle 14 (grid0.coords t) = true := by decide +kernel
theorem ds_flush : ∀ t : Fin cfg0.N, (cfg0.win 14).flush t = decide (t.val = 67) := by decide +kernel

/-- Whether nothing has been stored into the sink tile yet: only before the first point, and after the last. -/
def tileFresh : ℕ → Bool := fun n => n == 0 || n == 68
theorem tileFresh_step : ∀ t : Fin cfg0.N,
    tileFresh (t.val + 1) = ((cfg0.win 14).flush t || (cfg0.idle 14 (cfg0.grid.coords t) && tileFresh t.val)) := by decide +kernel
theorem ds_notFresh (t : Fin cfg0.N) (h : t.val ≠ 0) : cfg0.fresh 14 t.val = false := by
  rw [Pipeline.Cfg.fresh_tab cfg0 14 tileFresh rfl tileFresh_step t.val (Nat.le_of_lt t.isLt)]
  have := lt_68 t
  unfold tileFresh
  simp only [Bool.or_eq_false_iff, beq_eq_false_iff_ne]
  omega

/-! ## The state -/

/-- What the kernel's own buffers hold between two points: the block of the gradient array, the tile of sink gradients,
and the staged block's four parts (gradients of the queries, of the gate, of the keys and of the values). -/
structure St (F : FTy → Type) where
  dp : Vec F S128x2304 .f32
  ds : Vec F S8x128 .f32
  dq : Vec F S128x1024 .f32
  dz : Vec F S128x1024 .f32
  dk : Vec F S128x128 .f32
  dv : Vec F S128x128 .f32

/-- A buffer's contents after a list of stores that cover it, read through any whole view: over junk. -/
def rd {κ : Kind} {sp : Space} {S : Shape} (V : View sig κ sp S .f32) (L : List (View.Piece (Elt F) S .f32)) : Vec F S .f32 :=
  V.read (Elt F) (V.writes (Elt F) V.junk L)

theorem read_rd {κ κ' : Kind} {sp sp' : Space} {S : Shape} (V : View sig κ sp S .f32) (V' : View sig κ' sp' S .f32) (f) (L : List (View.Piece (Elt F) S .f32))
    (h : ∀ y : S.Idx, ∃ pc ∈ L, y ∈ pc.1.set) : V'.read (Elt F) (V'.writes (Elt F) f L) = rd V L :=
  View.read_writes_of_cover _ _ _ _ _ h

abbrev Vdp : View sig .tc .vmem S128x2304 .f32 := (Memref.whole cc0_stg13_0 : Memref sig .tc .vmem S128x2304 .f32).view
abbrev Vds : View sig .tc .vmem S8x128 .f32 := (Memref.whole cc0_stg14_0 : Memref sig .tc .vmem S8x128 .f32).view
abbrev Vdq : View sig .tc .vmem S128x1024 .f32 := scM0_0.view
abbrev Vdz : View sig .tc .vmem S128x1024 .f32 := scM0_1.view
abbrev Vdk : View sig .tc .vmem S128x128 .f32 := scM0_2.view
abbrev Vdv : View sig .tc .vmem S128x128 .f32 := scM0_3.view

/-- The run at point `t`, a point of this kind, at the point's buffers and blocks. -/
def atFirst (c : Dev nD) (t : Fin cfg0.N) (h : AtFirst t) :=
  runFirst (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t) (hs0_13
    t) (ms0_14 t) (hs0_14 t) scM0_0 (Memref.isWhole_whole _) scM0_1 (Memref.isWhole_whole _) scM0_2 (Memref.isWhole_whole _) scM0_3
    (Memref.isWhole_whole _)
    (h.conds.1) (h.conds.2.1) (h.conds.2.2.1) (h.conds.2.2.2)
    (iblk m c 0 t) (X0_1 m c t) (X0_2 m c t) (iblk m c 3 t) (iblk m c 4 t) (iblk m c 5 t) (iblk m c 6 t) (iblk m c 7 t) (iblk m c 8 t) (iblk m c 9 t)
    (iblk m c 10 t) (iblk m c 11 t) (iblk m c 12 t)

/-- The run at point `t`, a point of this kind, at the point's buffers and blocks and the state `s` before it. -/
def atMid (c : Dev nD) (t : Fin cfg0.N) (h : AtMid t) (s : St F) :=
  runMid (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t) (hs0_13
    t) (ms0_14 t) (hs0_14 t) scM0_0 (Memref.isWhole_whole _) scM0_1 (Memref.isWhole_whole _) scM0_2 (Memref.isWhole_whole _) scM0_3
    (Memref.isWhole_whole _)
    (h.conds.1) (h.conds.2.1) (h.conds.2.2.1) (h.conds.2.2.2)
    (iblk m c 0 t) (X0_1 m c t) (X0_2 m c t) (iblk m c 3 t) (iblk m c 4 t) (iblk m c 5 t) (iblk m c 6 t) (iblk m c 7 t) (iblk m c 8 t) (iblk m c 9 t)
    (iblk m c 10 t) (iblk m c 11 t) (iblk m c 12 t) s.ds s.dq s.dz s.dk s.dv

/-- The run at point `t`, a point of this kind, at the point's buffers and blocks and the state `s` before it. -/
def atLast (c : Dev nD) (t : Fin cfg0.N) (h : AtLast t) (s : St F) :=
  runLast (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t) (hs0_13
    t) (ms0_14 t) (hs0_14 t) scM0_0 (Memref.isWhole_whole _) scM0_1 (Memref.isWhole_whole _) scM0_2 (Memref.isWhole_whole _) scM0_3
    (Memref.isWhole_whole _)
    (h.conds.1) (h.conds.2.1) (h.conds.2.2)
    (iblk m c 0 t) (X0_1 m c t) (X0_2 m c t) (iblk m c 3 t) (iblk m c 4 t) (iblk m c 5 t) (iblk m c 6 t) (iblk m c 7 t) (iblk m c 8 t) (iblk m c 9 t)
    (iblk m c 10 t) (iblk m c 11 t) (iblk m c 12 t) s.ds s.dq s.dz s.dk s.dv

/-- The run at point `t`, a point of this kind, at the point's buffers and blocks and the state `s` before it. -/
def atStart (c : Dev nD) (t : Fin cfg0.N) (h : AtStart t) (s : St F) :=
  runStart (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t) (hs0_13
    t) (ms0_14 t) (hs0_14 t) scM0_0 (Memref.isWhole_whole _) scM0_1 (Memref.isWhole_whole _) scM0_2 (Memref.isWhole_whole _) scM0_3
    (Memref.isWhole_whole _)
    (h.conds.1) (h.conds.2.1) (h.conds.2.2.1) (h.conds.2.2.2)
    (iblk m c 0 t) (X0_1 m c t) (X0_2 m c t) (iblk m c 3 t) (iblk m c 4 t) (iblk m c 5 t) (iblk m c 6 t) (iblk m c 7 t) (iblk m c 8 t) (iblk m c 9 t)
    (iblk m c 10 t) (iblk m c 11 t) (iblk m c 12 t) s.ds

/-! ## Every buffer is covered by the stores of the points that store into it -/

theorem coverFirst_ds (c : Dev nD) (t : Fin cfg0.N) (h : AtFirst t) (y : S8x128.Idx) :
    ∃ pc ∈ (atFirst m c t h).1, y ∈ pc.1.set :=
  View.cover_of_tiledL (atFirst m c t h).1 S8x128.size (by sl_kernel_rfl) y
theorem coverFirst_dq (c : Dev nD) (t : Fin cfg0.N) (h : AtFirst t) (y : S128x1024.Idx) :
    ∃ pc ∈ (atFirst m c t h).2.1, y ∈ pc.1.set :=
  View.cover_of_tiledL (atFirst m c t h).2.1 S128x128.size (by sl_kernel_rfl) y
theorem coverFirst_dz (c : Dev nD) (t : Fin cfg0.N) (h : AtFirst t) (y : S128x1024.Idx) :
    ∃ pc ∈ (atFirst m c t h).2.2.1, y ∈ pc.1.set :=
  View.cover_of_tiledL (atFirst m c t h).2.2.1 S128x128.size (by sl_kernel_rfl) y
theorem coverFirst_dk (c : Dev nD) (t : Fin cfg0.N) (h : AtFirst t) (y : S128x128.Idx) :
    ∃ pc ∈ (atFirst m c t h).2.2.2.1, y ∈ pc.1.set :=
  View.cover_of_tiledL (atFirst m c t h).2.2.2.1 S128x128.size (by sl_kernel_rfl) y
theorem coverFirst_dv (c : Dev nD) (t : Fin cfg0.N) (h : AtFirst t) (y : S128x128.Idx) :
    ∃ pc ∈ (atFirst m c t h).2.2.2.2.1, y ∈ pc.1.set :=
  View.cover_of_tiledL (atFirst m c t h).2.2.2.2.1 S128x128.size (by sl_kernel_rfl) y
theorem coverMid_dp (c : Dev nD) (t : Fin cfg0.N) (h : AtMid t) (s : St F) (y : S128x2304.Idx) :
    ∃ pc ∈ (atMid m c t h s).1, y ∈ pc.1.set :=
  View.cover_of_tiledBy (atMid m c t h s).1 ![128, 128] (by sl_kernel_rfl) y
theorem coverMid_ds (c : Dev nD) (t : Fin cfg0.N) (h : AtMid t) (s : St F) (y : S8x128.Idx) :
    ∃ pc ∈ (atMid m c t h s).2.1, y ∈ pc.1.set :=
  View.cover_of_tiledL (atMid m c t h s).2.1 S8x128.size (by sl_kernel_rfl) y
theorem coverMid_dq (c : Dev nD) (t : Fin cfg0.N) (h : AtMid t) (s : St F) (y : S128x1024.Idx) :
    ∃ pc ∈ (atMid m c t h s).2.2.1, y ∈ pc.1.set :=
  View.cover_of_tiledL (atMid m c t h s).2.2.1 S128x128.size (by sl_kernel_rfl) y
theorem coverMid_dz (c : Dev nD) (t : Fin cfg0.N) (h : AtMid t) (s : St F) (y : S128x1024.Idx) :
    ∃ pc ∈ (atMid m c t h s).2.2.2.1, y ∈ pc.1.set :=
  View.cover_of_tiledL (atMid m c t h s).2.2.2.1 S128x128.size (by sl_kernel_rfl) y
theorem coverMid_dk (c : Dev nD) (t : Fin cfg0.N) (h : AtMid t) (s : St F) (y : S128x128.Idx) :
    ∃ pc ∈ (atMid m c t h s).2.2.2.2.1, y ∈ pc.1.set :=
  View.cover_of_tiledL (atMid m c t h s).2.2.2.2.1 S128x128.size (by sl_kernel_rfl) y
theorem coverMid_dv (c : Dev nD) (t : Fin cfg0.N) (h : AtMid t) (s : St F) (y : S128x128.Idx) :
    ∃ pc ∈ (atMid m c t h s).2.2.2.2.2.1, y ∈ pc.1.set :=
  View.cover_of_tiledL (atMid m c t h s).2.2.2.2.2.1 S128x128.size (by sl_kernel_rfl) y
theorem coverLast_dp (c : Dev nD) (t : Fin cfg0.N) (h : AtLast t) (s : St F) (y : S128x2304.Idx) :
    ∃ pc ∈ (atLast m c t h s).1, y ∈ pc.1.set :=
  View.cover_of_tiledBy (atLast m c t h s).1 ![128, 128] (by sl_kernel_rfl) y
theorem coverStart_ds (c : Dev nD) (t : Fin cfg0.N) (h : AtStart t) (s : St F) (y : S8x128.Idx) :
    ∃ pc ∈ (atStart m c t h s).1, y ∈ pc.1.set :=
  View.cover_of_tiledL (atStart m c t h s).1 S8x128.size (by sl_kernel_rfl) y
theorem coverStart_dq (c : Dev nD) (t : Fin cfg0.N) (h : AtStart t) (s : St F) (y : S128x1024.Idx) :
    ∃ pc ∈ (atStart m c t h s).2.1, y ∈ pc.1.set :=
  View.cover_of_tiledL (atStart m c t h s).2.1 S128x128.size (by sl_kernel_rfl) y
theorem coverStart_dz (c : Dev nD) (t : Fin cfg0.N) (h : AtStart t) (s : St F) (y : S128x1024.Idx) :
    ∃ pc ∈ (atStart m c t h s).2.2.1, y ∈ pc.1.set :=
  View.cover_of_tiledL (atStart m c t h s).2.2.1 S128x128.size (by sl_kernel_rfl) y
theorem coverStart_dk (c : Dev nD) (t : Fin cfg0.N) (h : AtStart t) (s : St F) (y : S128x128.Idx) :
    ∃ pc ∈ (atStart m c t h s).2.2.2.1, y ∈ pc.1.set :=
  View.cover_of_tiledL (atStart m c t h s).2.2.2.1 S128x128.size (by sl_kernel_rfl) y
theorem coverStart_dv (c : Dev nD) (t : Fin cfg0.N) (h : AtStart t) (s : St F) (y : S128x128.Idx) :
    ∃ pc ∈ (atStart m c t h s).2.2.2.2.1, y ∈ pc.1.set :=
  View.cover_of_tiledL (atStart m c t h s).2.2.2.2.1 S128x128.size (by sl_kernel_rfl) y

/-! ## The state after a point -/

def nextFirst (c : Dev nD) (t : Fin cfg0.N) (h : AtFirst t) : St F where
  dp := rd Vdp []
  ds := rd Vds (atFirst m c t h).1
  dq := rd Vdq (atFirst m c t h).2.1
  dz := rd Vdz (atFirst m c t h).2.2.1
  dk := rd Vdk (atFirst m c t h).2.2.2.1
  dv := rd Vdv (atFirst m c t h).2.2.2.2.1

def nextMid (c : Dev nD) (t : Fin cfg0.N) (h : AtMid t) (s : St F) : St F where
  dp := rd Vdp (atMid m c t h s).1
  ds := rd Vds (atMid m c t h s).2.1
  dq := rd Vdq (atMid m c t h s).2.2.1
  dz := rd Vdz (atMid m c t h s).2.2.2.1
  dk := rd Vdk (atMid m c t h s).2.2.2.2.1
  dv := rd Vdv (atMid m c t h s).2.2.2.2.2.1

def nextLast (c : Dev nD) (t : Fin cfg0.N) (h : AtLast t) (s : St F) : St F where
  dp := rd Vdp (atLast m c t h s).1
  ds := s.ds
  dq := s.dq
  dz := s.dz
  dk := s.dk
  dv := s.dv

def nextStart (c : Dev nD) (t : Fin cfg0.N) (h : AtStart t) (s : St F) : St F where
  dp := s.dp
  ds := rd Vds (atStart m c t h s).1
  dq := rd Vdq (atStart m c t h s).2.1
  dz := rd Vdz (atStart m c t h s).2.2.1
  dk := rd Vdk (atStart m c t h s).2.2.2.1
  dv := rd Vdv (atStart m c t h s).2.2.2.2.1

/-- THE STATE after point `n`. -/
def stAt (c : Dev nD) : (n : ℕ) → n < cfg0.N → St F
  | 0, hn => nextFirst m c ⟨0, hn⟩ rfl
  | n + 1, hn =>
    if h : AtMid ⟨n + 1, hn⟩ then nextMid m c ⟨n + 1, hn⟩ h (stAt c n (Nat.lt_of_succ_lt hn))
    else if h : AtLast ⟨n + 1, hn⟩ then nextLast m c ⟨n + 1, hn⟩ h (stAt c n (Nat.lt_of_succ_lt hn))
    else if h : AtStart ⟨n + 1, hn⟩ then nextStart m c ⟨n + 1, hn⟩ h (stAt c n (Nat.lt_of_succ_lt hn))
    else stAt c n (Nat.lt_of_succ_lt hn)

/-- The state before point `t`, for a point that is not the first. -/
def stPre (c : Dev nD) (t : Fin cfg0.N) : St F := stAt m c (t.val - 1) (Nat.lt_of_le_of_lt (Nat.sub_le _ _) t.isLt)

theorem stAt_first (c : Dev nD) (t : Fin cfg0.N) (h : AtFirst t) : stAt m c t.val t.isLt = nextFirst m c t h := by
  obtain ⟨n, hn⟩ := t
  obtain rfl : n = 0 := h
  rfl
theorem stAt_mid (c : Dev nD) (t : Fin cfg0.N) (h : AtMid t) : stAt m c t.val t.isLt = nextMid m c t h (stPre m c t) := by
  obtain ⟨n, hn⟩ := t
  cases n with
  | zero => exact absurd h.1 (by simp)
  | succ n => exact dif_pos h
theorem stAt_last (c : Dev nD) (t : Fin cfg0.N) (h : AtLast t) : stAt m c t.val t.isLt = nextLast m c t h (stPre m c t) := by
  obtain ⟨n, hn⟩ := t
  cases n with
  | zero => exact absurd h (by simp [AtLast])
  | succ n => exact (dif_neg (by unfold AtLast at h; unfold AtMid; dsimp only at h ⊢; omega)).trans (dif_pos h)
theorem stAt_start (c : Dev nD) (t : Fin cfg0.N) (h : AtStart t) : stAt m c t.val t.isLt = nextStart m c t h (stPre m c t) := by
  obtain ⟨n, hn⟩ := t
  cases n with
  | zero => exact absurd rfl h.2
  | succ n =>
    exact (dif_neg (by unfold AtStart at h; unfold AtMid; dsimp only at h ⊢; omega)).trans
      ((dif_neg (by unfold AtStart at h; unfold AtLast; dsimp only at h ⊢; omega)).trans (dif_pos h))

/-! ## The body at a point, from state to state -/

/-- The input windows' buffers at point `t`, each at its block. -/
def ins (c : Dev nD) (t : Fin cfg0.N) : sProp 𝕄 :=
  iprop(owns (c : Thread nD τ) (ms0_0 t) fullShare (iblk m c 0 t)
    ∗ owns (c : Thread nD τ) (ms0_1 t) fullShare (X0_1 m c t)
    ∗ owns (c : Thread nD τ) (ms0_2 t) fullShare (X0_2 m c t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t))

/-- The four staging buffers of the kernel at a state. -/
def held (c : Dev nD) (s : St F) : sProp 𝕄 :=
  iprop(owns (c : Thread nD τ) scM0_0 fullShare s.dq
    ∗ owns (c : Thread nD τ) scM0_1 fullShare s.dz
    ∗ owns (c : Thread nD τ) scM0_2 fullShare s.dk
    ∗ owns (c : Thread nD τ) scM0_3 fullShare s.dv)

/-- The four staging buffers at anything. -/
def loose (c : Dev nD) : sProp 𝕄 :=
  iprop((∃ d, owns (c : Thread nD τ) scM0_0 fullShare d)
    ∗ (∃ d, owns (c : Thread nD τ) scM0_1 fullShare d)
    ∗ (∃ d, owns (c : Thread nD τ) scM0_2 fullShare d)
    ∗ (∃ d, owns (c : Thread nD τ) scM0_3 fullShare d))

theorem held_loose (c : Dev nD) (s : St F) : held c s ⊢ loose c := by
  unfold held loose
  iintro ⟨H0, H1, H2, H3⟩
  isplitl [H0]; · iexists _; iexact H0
  isplitl [H1]; · iexists _; iexact H1
  isplitl [H2]; · iexists _; iexact H2
  iexists _; iexact H3

set_option maxHeartbeats 1600000 in
theorem stepFirst (c : Dev nD) (t : Fin cfg0.N) (h : AtFirst t) (d13 : Vec F S128x2304 .f32) (K : PUnit → sProp 𝕄) :
    iprop(ins m c t ∗ owns (c : Thread nD τ) (ms0_13 t) fullShare d13 ∗ (∃ d, owns (c : Thread nD τ) (ms0_14 t) fullShare d) ∗ loose c
        ∗ (iprop(ins m c t ∗ owns (c : Thread nD τ) (ms0_13 t) fullShare d13 ∗ owns (c : Thread nD τ) (ms0_14 t) fullShare (nextFirst m c t h).ds
            ∗ held c (nextFirst m c t h)) -∗ K ⟨⟩))
      ⊢ wp frame (wpE (defs₀ (F := F)) Variants.none c none) Set.univ (bodyAt0 t) K := by
  unfold ins loose held bodyAt0
  iintro ⟨⟨H0, H1, H2, H3, H4, H5, H6, H7, H8, H9, H10, H11, H12⟩, H13, H14, ⟨HS0, HS1, HS2, HS3⟩, Hk⟩
  iapply ((atFirst m c t h).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, ⟨%eH14, H14⟩, ⟨%eHS0, HS0⟩, ⟨%eHS1, HS1⟩, ⟨%eHS2, HS2⟩, ⟨%eHS3, HS3⟩⟩
  iapply Hk
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · iexact H13
  isplitl [H14]
  · unfold owns; iexists _; isplitr
    swap; · iexact H14
    ipureintro; exact (read_rd Vds _ _ _ (coverFirst_ds m c t h) : _ = rd Vds (atFirst m c t h).1)
  isplitl [HS0]
  · unfold owns; iexists _; isplitr
    swap; · iexact HS0
    ipureintro; exact (read_rd Vdq _ _ _ (coverFirst_dq m c t h) : _ = rd Vdq (atFirst m c t h).2.1)
  isplitl [HS1]
  · unfold owns; iexists _; isplitr
    swap; · iexact HS1
    ipureintro; exact (read_rd Vdz _ _ _ (coverFirst_dz m c t h) : _ = rd Vdz (atFirst m c t h).2.2.1)
  isplitl [HS2]
  · unfold owns; iexists _; isplitr
    swap; · iexact HS2
    ipureintro; exact (read_rd Vdk _ _ _ (coverFirst_dk m c t h) : _ = rd Vdk (atFirst m c t h).2.2.2.1)
  unfold owns; iexists _; isplitr
  swap; · iexact HS3
  ipureintro; exact (read_rd Vdv _ _ _ (coverFirst_dv m c t h) : _ = rd Vdv (atFirst m c t h).2.2.2.2.1)

set_option maxHeartbeats 1600000 in
theorem stepMid (c : Dev nD) (t : Fin cfg0.N) (h : AtMid t) (s : St F) (K : PUnit → sProp 𝕄) :
    iprop(ins m c t ∗ (∃ d, owns (c : Thread nD τ) (ms0_13 t) fullShare d) ∗ owns (c : Thread nD τ) (ms0_14 t) fullShare s.ds ∗ held c s
        ∗ (iprop(ins m c t ∗ owns (c : Thread nD τ) (ms0_13 t) fullShare (nextMid m c t h s).dp ∗ owns (c : Thread nD τ) (ms0_14 t) fullShare (nextMid m c t h s).ds
            ∗ held c (nextMid m c t h s)) -∗ K ⟨⟩))
      ⊢ wp frame (wpE (defs₀ (F := F)) Variants.none c none) Set.univ (bodyAt0 t) K := by
  unfold ins held bodyAt0
  iintro ⟨⟨H0, H1, H2, H3, H4, H5, H6, H7, H8, H9, H10, H11, H12⟩, H13, H14, ⟨HS0, HS1, HS2, HS3⟩, Hk⟩
  iapply ((atMid m c t h s).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, ⟨%eH13, H13⟩, ⟨%eH14, H14⟩, ⟨%eHS0, HS0⟩, ⟨%eHS1, HS1⟩, ⟨%eHS2, HS2⟩, ⟨%eHS3, HS3⟩⟩
  iapply Hk
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · unfold owns; iexists _; isplitr
    swap; · iexact H13
    ipureintro; exact (read_rd Vdp _ _ _ (coverMid_dp m c t h s) : _ = rd Vdp (atMid m c t h s).1)
  isplitl [H14]
  · unfold owns; iexists _; isplitr
    swap; · iexact H14
    ipureintro; exact (read_rd Vds _ _ _ (coverMid_ds m c t h s) : _ = rd Vds (atMid m c t h s).2.1)
  isplitl [HS0]
  · unfold owns; iexists _; isplitr
    swap; · iexact HS0
    ipureintro; exact (read_rd Vdq _ _ _ (coverMid_dq m c t h s) : _ = rd Vdq (atMid m c t h s).2.2.1)
  isplitl [HS1]
  · unfold owns; iexists _; isplitr
    swap; · iexact HS1
    ipureintro; exact (read_rd Vdz _ _ _ (coverMid_dz m c t h s) : _ = rd Vdz (atMid m c t h s).2.2.2.1)
  isplitl [HS2]
  · unfold owns; iexists _; isplitr
    swap; · iexact HS2
    ipureintro; exact (read_rd Vdk _ _ _ (coverMid_dk m c t h s) : _ = rd Vdk (atMid m c t h s).2.2.2.2.1)
  unfold owns; iexists _; isplitr
  swap; · iexact HS3
  ipureintro; exact (read_rd Vdv _ _ _ (coverMid_dv m c t h s) : _ = rd Vdv (atMid m c t h s).2.2.2.2.2.1)

set_option maxHeartbeats 1600000 in
theorem stepLast (c : Dev nD) (t : Fin cfg0.N) (h : AtLast t) (s : St F) (K : PUnit → sProp 𝕄) :
    iprop(ins m c t ∗ (∃ d, owns (c : Thread nD τ) (ms0_13 t) fullShare d) ∗ owns (c : Thread nD τ) (ms0_14 t) fullShare s.ds ∗ held c s
        ∗ (iprop(ins m c t ∗ owns (c : Thread nD τ) (ms0_13 t) fullShare (nextLast m c t h s).dp ∗ owns (c : Thread nD τ) (ms0_14 t) fullShare s.ds
            ∗ held c s) -∗ K ⟨⟩))
      ⊢ wp frame (wpE (defs₀ (F := F)) Variants.none c none) Set.univ (bodyAt0 t) K := by
  unfold ins held bodyAt0
  iintro ⟨⟨H0, H1, H2, H3, H4, H5, H6, H7, H8, H9, H10, H11, H12⟩, H13, H14, ⟨HS0, HS1, HS2, HS3⟩, Hk⟩
  iapply ((atLast m c t h s).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, ⟨%eH13, H13⟩, H14, HS0, HS1, HS2, HS3⟩
  iapply Hk
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · unfold owns; iexists _; isplitr
    swap; · iexact H13
    ipureintro; exact (read_rd Vdp _ _ _ (coverLast_dp m c t h s) : _ = rd Vdp (atLast m c t h s).1)
  isplitl [H14]
  · iexact H14
  isplitl [HS0]
  · iexact HS0
  isplitl [HS1]
  · iexact HS1
  isplitl [HS2]
  · iexact HS2
  iexact HS3

set_option maxHeartbeats 1600000 in
theorem stepStart (c : Dev nD) (t : Fin cfg0.N) (h : AtStart t) (s : St F) (d13 : Vec F S128x2304 .f32) (K : PUnit → sProp 𝕄) :
    iprop(ins m c t ∗ owns (c : Thread nD τ) (ms0_13 t) fullShare d13 ∗ owns (c : Thread nD τ) (ms0_14 t) fullShare s.ds ∗ loose c
        ∗ (iprop(ins m c t ∗ owns (c : Thread nD τ) (ms0_13 t) fullShare d13 ∗ owns (c : Thread nD τ) (ms0_14 t) fullShare (nextStart m c t h s).ds
            ∗ held c (nextStart m c t h s)) -∗ K ⟨⟩))
      ⊢ wp frame (wpE (defs₀ (F := F)) Variants.none c none) Set.univ (bodyAt0 t) K := by
  unfold ins loose held bodyAt0
  iintro ⟨⟨H0, H1, H2, H3, H4, H5, H6, H7, H8, H9, H10, H11, H12⟩, H13, H14, ⟨HS0, HS1, HS2, HS3⟩, Hk⟩
  iapply ((atStart m c t h s).2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, ⟨%eH14, H14⟩, ⟨%eHS0, HS0⟩, ⟨%eHS1, HS1⟩, ⟨%eHS2, HS2⟩, ⟨%eHS3, HS3⟩⟩
  iapply Hk
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · iexact H13
  isplitl [H14]
  · unfold owns; iexists _; isplitr
    swap; · iexact H14
    ipureintro; exact (read_rd Vds _ _ _ (coverStart_ds m c t h s) : _ = rd Vds (atStart m c t h s).1)
  isplitl [HS0]
  · unfold owns; iexists _; isplitr
    swap; · iexact HS0
    ipureintro; exact (read_rd Vdq _ _ _ (coverStart_dq m c t h s) : _ = rd Vdq (atStart m c t h s).2.1)
  isplitl [HS1]
  · unfold owns; iexists _; isplitr
    swap; · iexact HS1
    ipureintro; exact (read_rd Vdz _ _ _ (coverStart_dz m c t h s) : _ = rd Vdz (atStart m c t h s).2.2.1)
  isplitl [HS2]
  · unfold owns; iexists _; isplitr
    swap; · iexact HS2
    ipureintro; exact (read_rd Vdk _ _ _ (coverStart_dk m c t h s) : _ = rd Vdk (atStart m c t h s).2.2.2.1)
  unfold owns; iexists _; isplitr
  swap; · iexact HS3
  ipureintro; exact (read_rd Vdv _ _ _ (coverStart_dv m c t h s) : _ = rd Vdv (atStart m c t h s).2.2.2.2.1)

end Cert.KernelIdeal.Val

end
-- ==== Proof.Attn.Launch.lean ====
module

public import proofs.«01_k».proof.Proof.Attn.Steps
public import Idealize.ShloMosaic.Lib.Claim

@[expose] public section

/-! The launch of the attention kernel with its results named: the pipeline runs, and its two output arrays end holding what
the states of the points wrote back. -/

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is held before position `n`: before the first point every staging buffer at anything, afterwards at the state. -/
def PhiS (c : Dev nD) : (n : ℕ) → n ≤ cfg0.N → sProp 𝕄
  | 0, _ => Pipeline.ΦA spec0 c
  | n + 1, hn => iprop(held c (stAt m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(held c (stAt m c n hn) ∗ (∃ r, prngReg c r)) := rfl
theorem PhiS_pos (c : Dev nD) (n : ℕ) (h : n ≤ cfg0.N) (hz : n ≠ 0) :
    PhiS m c n h = iprop(held c (stAt m c (n - 1) (by omega)) ∗ (∃ r, prngReg c r)) := by
  cases n with
  | zero => exact absurd rfl hz
  | succ n => rfl

/-- The pipeline's proof data on core `c`: inputs at their blocks, the two outputs at the state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (stAt m c t.val t.isLt).dp
    | ⟨14, _⟩ => (stAt m c t.val t.isLt).ds
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = (stAt m c t.val t.isLt).dp := by dsimp only [dats]
theorem after_14 (c : Dev nD) (t : Fin cfg0.N) : (dats m 0 c).after 14 t = (stAt m c t.val t.isLt).ds := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem leaves_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after_0]
theorem leaves_1 (c : Dev nD) (t : Fin cfg0.N) :
    (dats m 0 c).leavesExact 1 t = owns (c : Thread nD τ) (ms0_1 t) fullShare (X0_1 m c t) := by
  rw [show (dats m 0 c).leavesExact 1 t = owns (c : Thread nD τ) (ms0_1 t) fullShare ((dats m 0 c).after 1 t) from by
    unfold Dat.leavesExact; rw [liveAt0_1 t], after_1]
theorem leaves_2 (c : Dev nD) (t : Fin cfg0.N) :
    (dats m 0 c).leavesExact 2 t = owns (c : Thread nD τ) (ms0_2 t) fullShare (X0_2 m c t) := by
  rw [show (dats m 0 c).leavesExact 2 t = owns (c : Thread nD τ) (ms0_2 t) fullShare ((dats m 0 c).after 2 t) from by
    unfold Dat.leavesExact; rw [liveAt0_2 t], after_2]
theorem leaves_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after_3]
theorem leaves_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after_4]
theorem leaves_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after_5]
theorem leaves_6 (c : Dev nD) (t : Fin cfg0.N) :
    (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after_6]
theorem leaves_7 (c : Dev nD) (t : Fin cfg0.N) :
    (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [liveAt0_7 t], after_7]
theorem leaves_8 (c : Dev nD) (t : Fin cfg0.N) :
    (dats m 0 c).leavesExact 8 t = owns (c : Thread nD τ) (ms0_8 t) fullShare (iblk m c 8 t) := by
  rw [show (dats m 0 c).leavesExact 8 t = owns (c : Thread nD τ) (ms0_8 t) fullShare ((dats m 0 c).after 8 t) from by
    unfold Dat.leavesExact; rw [liveAt0_8 t], after_8]
theorem leaves_9 (c : Dev nD) (t : Fin cfg0.N) :
    (dats m 0 c).leavesExact 9 t = owns (c : Thread nD τ) (ms0_9 t) fullShare (iblk m c 9 t) := by
  rw [show (dats m 0 c).leavesExact 9 t = owns (c : Thread nD τ) (ms0_9 t) fullShare ((dats m 0 c).after 9 t) from by
    unfold Dat.leavesExact; rw [liveAt0_9 t], after_9]
theorem leaves_10 (c : Dev nD) (t : Fin cfg0.N) :
    (dats m 0 c).leavesExact 10 t = owns (c : Thread nD τ) (ms0_10 t) fullShare (iblk m c 10 t) := by
  rw [show (dats m 0 c).leavesExact 10 t = owns (c : Thread nD τ) (ms0_10 t) fullShare ((dats m 0 c).after 10 t) from by
    unfold Dat.leavesExact; rw [liveAt0_10 t], after_10]
theorem leaves_11 (c : Dev nD) (t : Fin cfg0.N) :
    (dats m 0 c).leavesExact 11 t = owns (c : Thread nD τ) (ms0_11 t) fullShare (iblk m c 11 t) := by
  rw [show (dats m 0 c).leavesExact 11 t = owns (c : Thread nD τ) (ms0_11 t) fullShare ((dats m 0 c).after 11 t) from by
    unfold Dat.leavesExact; rw [liveAt0_11 t], after_11]
theorem leaves_12 (c : Dev nD) (t : Fin cfg0.N) :
    (dats m 0 c).leavesExact 12 t = owns (c : Thread nD τ) (ms0_12 t) fullShare (iblk m c 12 t) := by
  rw [show (dats m 0 c).leavesExact 12 t = owns (c : Thread nD τ) (ms0_12 t) fullShare ((dats m 0 c).after 12 t) from by
    unfold Dat.leavesExact; rw [liveAt0_12 t], after_12]

/-- Through the points that store nothing into the sink tile its contents are carried. -/
theorem ds_carry (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  rw [after_14, after_14]
  by_cases h : t.val % 17 = 16
  · rw [stAt_last m c t h]; rfl
  · rw [ds_live t h] at hi; exact absurd hi Bool.false_ne_true

/-- Before every point but the first the sink tile is the state's. -/
theorem ds_before (c : Dev nD) (t : Fin cfg0.N) (hz : t.val ≠ 0) (d) : (dats m 0 c).before 14 t d = (stPre m c t).ds := by
  rw [Dat.before_out_traj _ 14 rfl (fun _ _ => rfl) (ds_carry m c) t.val t rfl d,
    if_neg (by rw [ds_notFresh t hz]; exact Bool.false_ne_true)]
  dsimp only [dats]; rfl

theorem dp_leaves_live (c : Dev nD) (t : Fin cfg0.N) (h : t.val % 17 ≠ 0) :
    (dats m 0 c).leavesExact 13 t = owns (c : Thread nD τ) (ms0_13 t) fullShare (stAt m c t.val t.isLt).dp := by
  rw [show (dats m 0 c).leavesExact 13 t = owns (c : Thread nD τ) (ms0_13 t) fullShare ((dats m 0 c).after 13 t) from by
    unfold Dat.leavesExact; rw [dp_live t h], after_13]
theorem ds_leaves_live (c : Dev nD) (t : Fin cfg0.N) (h : t.val % 17 ≠ 16) :
    (dats m 0 c).leavesExact 14 t = owns (c : Thread nD τ) (ms0_14 t) fullShare (stAt m c t.val t.isLt).ds := by
  rw [show (dats m 0 c).leavesExact 14 t = owns (c : Thread nD τ) (ms0_14 t) fullShare ((dats m 0 c).after 14 t) from by
    unfold Dat.leavesExact; rw [ds_live t h], after_14]

/-- At a closing point the sink tile may be handed back as the state has it: untouched, or about to be written back. -/
theorem ds_leaves_last (c : Dev nD) (t : Fin cfg0.N) (h : AtLast t) :
    owns (c : Thread nD τ) (ms0_14 t) fullShare (stPre m c t).ds ⊢ (dats m 0 c).leavesExact 14 t := by
  have hz : t.val ≠ 0 := by unfold AtLast at h; omega
  by_cases hl : t.val = 67
  · rw [show (dats m 0 c).leavesExact 14 t = owns (c : Thread nD τ) (ms0_14 t) fullShare ((dats m 0 c).after 14 t) from by
      unfold Dat.leavesExact; rw [ds_idle t h, ds_flush t, decide_eq_true hl], after_14, stAt_last m c t h]
    exact Idealize.SL.BI.Entails.refl _
  · rw [Dat.leavesExact_idle (dats m 0 c) 14 t (ds_idle t h) (by rw [ds_flush t, decide_eq_false hl])]
    iintro H
    iexists default
    rw [ds_before m c t hz]
    iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- The same with the inputs' buffers at their blocks, and the rest as one. -/
theorem bodyPre_ins (c : Dev nD) (t : Fin cfg0.N) :
    bodyPre m c t ⊢ iprop(PhiS m c t.val (Nat.le_of_lt t.isLt) ∗ (dats m 0 c).owesAt () t.castSucc ∗ ins m c t
      ∗ (∃ d, owns (c : Thread nD τ) (ms0_13 t) fullShare ((dats m 0 c).before 13 t d))
      ∗ (∃ d, owns (c : Thread nD τ) (ms0_14 t) fullShare ((dats m 0 c).before 14 t d))) := by
  unfold bodyPre ins
  rw [Phi_castSucc m c t]
  simp only [before_0, before_1, before_2, before_3, before_4, before_5, before_6, before_7, before_8, before_9, before_10, before_11, before_12]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14⟩
  isplitl [HP]; · iexact HP
  isplitl [Ho]; · iexact Ho
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexact H13
  iexact H14

theorem bodyPost_ins (c : Dev nD) (t : Fin cfg0.N) :
    iprop(held c (stAt m c t.val t.isLt) ∗ (∃ r, prngReg c r) ∗ (dats m 0 c).owesAt () t.castSucc ∗ ins m c t
      ∗ (dats m 0 c).leavesExact 13 t ∗ (dats m 0 c).leavesExact 14 t) ⊢ bodyPost m c t := by
  unfold bodyPost ins
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8, leaves_9, leaves_10, leaves_11, leaves_12]
  iintro ⟨HP, Hg, Ho, ⟨H0, H1, H2, H3, H4, H5, H6, H7, H8, H9, H10, H11, H12⟩, H13, H14⟩
  isplitl [HP Hg]
  · isplitl [HP]; · iexact HP
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem sound_body (c : Dev nD) (t : Fin cfg0.N) :
    bodyPre m c t ⊢ wp frame (wpE (defs₀ (F := F)) Variants.none c none) Set.univ (bodyAt0 t) (fun _ => bodyPost m c t) := by
  refine (bodyPre_ins m c t).trans ?_
  rcases kinds t with h | h | h | h
  · have h17 : t.val % 17 = 0 := by unfold AtFirst at h; omega
    rw [PhiS_zero m c _ _ h, PhiA0_eq]
    iintro ⟨⟨HS, Hg⟩, Ho, HI, ⟨%d13, H13⟩, ⟨%d14, H14⟩⟩
    iapply (stepFirst m c t h _ _)
    isplitl [HI]; · iexact HI
    isplitl [H13]; · iexact H13
    isplitl [H14]; · iexists _; iexact H14
    isplitl [HS]; · unfold loose; iexact HS
    iintro ⟨HI, H13, H14, HS⟩
    iapply (bodyPost_ins m c t)
    rw [Dat.leavesExact_idle (dats m 0 c) 13 t (dp_idle t h17) (dp_noFlush t h17), ds_leaves_live m c t (by omega), stAt_first m c t h]
    isplitl [HS]; · iexact HS
    isplitl [Hg]; · iexact Hg
    isplitl [Ho]; · iexact Ho
    isplitl [HI]; · iexact HI
    isplitl [H13]; · iexists _; iexact H13
    iexact H14
  · have hz : t.val ≠ 0 := by unfold AtMid at h; omega
    rw [PhiS_pos m c _ _ hz]
    iintro ⟨⟨HS, Hg⟩, Ho, HI, ⟨%d13, H13⟩, ⟨%d14, H14⟩⟩
    rw [ds_before m c t hz]
    iapply (stepMid m c t h (stPre m c t) _)
    isplitl [HI]; · iexact HI
    isplitl [H13]; · iexists _; iexact H13
    isplitl [H14]; · iexact H14
    isplitl [HS]; · iexact HS
    iintro ⟨HI, H13, H14, HS⟩
    iapply (bodyPost_ins m c t)
    rw [dp_leaves_live m c t (by unfold AtMid at h; omega), ds_leaves_live m c t (by unfold AtMid at h; omega), stAt_mid m c t h]
    isplitl [HS]; · iexact HS
    isplitl [Hg]; · iexact Hg
    isplitl [Ho]; · iexact Ho
    isplitl [HI]; · iexact HI
    isplitl [H13]; · iexact H13
    iexact H14
  · have hz : t.val ≠ 0 := by unfold AtLast at h; omega
    rw [PhiS_pos m c _ _ hz]
    iintro ⟨⟨HS, Hg⟩, Ho, HI, ⟨%d13, H13⟩, ⟨%d14, H14⟩⟩
    rw [ds_before m c t hz]
    iapply (stepLast m c t h (stPre m c t) _)
    isplitl [HI]; · iexact HI
    isplitl [H13]; · iexists _; iexact H13
    isplitl [H14]; · iexact H14
    isplitl [HS]; · iexact HS
    iintro ⟨HI, H13, H14, HS⟩
    iapply (bodyPost_ins m c t)
    rw [dp_leaves_live m c t (by unfold AtLast at h; omega)]
    isplitl [HS]; · rw [stAt_last m c t h]; iexact HS
    isplitl [Hg]; · iexact Hg
    isplitl [Ho]; · iexact Ho
    isplitl [HI]; · iexact HI
    isplitl [H13]; · rw [stAt_last m c t h]; iexact H13
    iapply (ds_leaves_last m c t h); iexact H14
  · have hz : t.val ≠ 0 := h.2
    rw [PhiS_pos m c _ _ hz]
    iintro ⟨⟨HS, Hg⟩, Ho, HI, ⟨%d13, H13⟩, ⟨%d14, H14⟩⟩
    rw [ds_before m c t hz]
    iapply (stepStart m c t h (stPre m c t) _ _)
    isplitl [HI]; · iexact HI
    isplitl [H13]; · iexact H13
    isplitl [H14]; · iexact H14
    isplitl [HS]; · iapply (held_loose c); iexact HS
    iintro ⟨HI, H13, H14, HS⟩
    iapply (bodyPost_ins m c t)
    rw [Dat.leavesExact_idle (dats m 0 c) 13 t (dp_idle t h.1) (dp_noFlush t h.1), ds_leaves_live m c t (by have := h.1; omega), stAt_start m c t h]
    isplitl [HS]; · iexact HS
    isplitl [Hg]; · iexact Hg
    isplitl [Ho]; · iexact Ho
    isplitl [HI]; · iexact HI
    isplitl [H13]; · iexists _; iexact H13
    iexact H14

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem phi_in (c : Dev nD) : Pipeline.ΦA spec0 c ⊢ (dats m 0 c).Φ 0 := by
  rw [show (dats m 0 c).Φ 0 = PhiS m c 0 (Nat.zero_le _) from rfl, PhiS_zero m c 0 _ rfl]

theorem phi_out (c : Dev nD) : (dats m 0 c).Φ (Fin.last cfg0.N) ⊢ Pipeline.ΦA spec0 c := by
  rw [show (dats m 0 c).Φ (Fin.last cfg0.N) = PhiS m c cfg0.N (le_refl _) from rfl,
    PhiS_pos m c _ _ (by have : cfg0.N = 68 := N_0; omega), PhiA0_eq]
  change iprop(held c _ ∗ (∃ r, prngReg c r)) ⊢ iprop(loose c ∗ (∃ r, prngReg c r))
  iintro ⟨HS, Hg⟩
  isplitl [HS]
  · iapply (held_loose c); iexact HS
  iexact Hg

set_option backward.isDefEq.respectTransparency.types false in
/-- The launch: from any memory the kernel's program ends with every array of the pipeline at what the states give, and
every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _)
      cfgs (dats m) (0 : Fin 1) launch₀0 defs₀ Variants.none m ρ main
      (hbody := fun c => (body_obligation m c).loose) (hq := fun _ _ _ => rfl)
      (howed := fun _ _ => rfl) (V := V m) (hmain := hmain m Variants.none) (hA := A_eq m) (hin := phi_in m) (hout := phi_out m)

/-- The launch without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_quiescent m ρ))

end Cert.KernelIdeal.Val

end
-- ==== Proof.Proj.Norm.lean ====
/-
  Root-mean-square normalisation at an index, as the programs of this proof compute it.
-/
module

public import Idealize.ShloMosaic.Lib.Pointwise

@[expose] public section

noncomputable section

namespace Cert.Norm

open Idealize.ShloMosaic

/-- The inverse root of a row's mean square, with the rounding constant 1e-6 added under the root. -/
def inv (row : Fin 1024 → EReal) : EReal :=
  Ideal.rsqrt (Ideal.div (∑ k, row k * row k) (Ideal.ofBits FTy.f32 1149239296#32) + Ideal.ofBits FTy.f32 897988541#32)

/-- An element of the normalised and scaled row. -/
def scaled (row w : Fin 1024 → EReal) (l : Fin 1024) : EReal := row l * inv row * w l

end Cert.Norm

end
-- ==== Proof.Norm.Back.lean ====
/-
  The gradient of root-mean-square normalisation on one row, over the extended reals: the form the kernels compute and the
  form differentiation gives are the same number, at every row — the inverse root is a real number, zero when the row's mean
  square is infinite.
-/
module

public import proofs.«01_k».proof.Proof.Proj.Norm
public import Idealize.ShloMosaic.Lib.IdealHost

@[expose] public section

noncomputable section

namespace Cert.Norm

open Idealize.ShloMosaic

/-- The row length, the rounding constant and minus one half, as the programs write them. -/
abbrev width : EReal := Ideal.ofBits FTy.f32 1149239296#32
abbrev eps : EReal := Ideal.ofBits FTy.f32 897988541#32
abbrev mhalf : EReal := Ideal.ofBits FTy.f32 3204448256#32

theorem width_eq : width = ((1024 : ℝ) : EReal) := by
  simp [width, Ideal.ofBits, Ideal.ieee, -EReal.coe_mul]; norm_num
theorem eps_pos : ∃ e : ℝ, 0 < e ∧ eps = (e : EReal) :=
  ⟨8796093 * (2 : ℝ) ^ (-43 : ℤ), by positivity, by simp [eps, Ideal.ofBits, Ideal.ieee, -EReal.coe_mul]; try norm_num⟩
theorem mhalf_eq : mhalf = ((-(1 / 2) : ℝ) : EReal) := by
  simp [mhalf, Ideal.ofBits, Ideal.ieee, -EReal.coe_mul]; norm_num

/-- A row's mean square with the rounding constant. -/
def ms (row : Fin 1024 → EReal) : EReal := Ideal.div (∑ k, row k * row k) width + eps

theorem inv_eq (row : Fin 1024 → EReal) : inv row = Ideal.rsqrt (ms row) := rfl

theorem div_width (x : EReal) : Ideal.div x width = x * ((1 / 1024 : ℝ) : EReal) := by
  rw [width_eq, Ideal.div_coe (by norm_num)]

theorem sq_nonneg (x : EReal) : 0 ≤ x * x := by
  induction x with
  | bot => simp
  | top => simp
  | coe r => exact_mod_cast mul_self_nonneg r

theorem ms_pos (row : Fin 1024 → EReal) : 0 < ms row := by
  obtain ⟨e, he, h⟩ := eps_pos
  rw [ms, h, div_width]
  have h1 : (0 : EReal) ≤ (∑ k, row k * row k) * ((1 / 1024 : ℝ) : EReal) :=
    mul_nonneg (Finset.sum_nonneg fun k _ => sq_nonneg _) (by exact_mod_cast (by norm_num : (0 : ℝ) ≤ 1 / 1024))
  exact lt_of_lt_of_le (by exact_mod_cast he : (0 : EReal) < (e : EReal)) (le_add_of_nonneg_left h1)

/-- The inverse root is a real `ρ ≥ 0`, and divided by the mean square it is `ρ³`. -/
theorem inv_real (row : Fin 1024 → EReal) :
    ∃ ρ : ℝ, 0 ≤ ρ ∧ inv row = (ρ : EReal) ∧ Ideal.div (inv row) (ms row) = ((ρ * ρ * ρ : ℝ) : EReal) := by
  have hp := ms_pos row
  rw [inv_eq]
  revert hp
  generalize ms row = v
  intro hp
  induction v with
  | bot => simp at hp
  | top => exact ⟨0, le_refl _, by simp, by simp [Ideal.div]⟩
  | coe r =>
    have hr : 0 < r := by exact_mod_cast hp
    refine ⟨(Real.sqrt r)⁻¹, by positivity, by simp [not_lt.mpr hr.le, hr.ne'], ?_⟩
    rw [Ideal.div_coe hr.ne', Ideal.rsqrt_coe, if_neg (not_lt.mpr hr.le), if_neg hr.ne', ← EReal.coe_mul]
    congr 1
    have h2 : (Real.sqrt r)⁻¹ * (Real.sqrt r)⁻¹ = 1 / r := by
      rw [← mul_inv, Real.mul_self_sqrt hr.le, one_div]
    rw [mul_assoc, h2]

/-- A real factor that is not negative moves out of a sum. -/
theorem sum_mul_real {ι : Type} (s : Finset ι) (f : ι → EReal) (ρ : ℝ) (hρ : 0 ≤ ρ) :
    ∑ k ∈ s, f k * (ρ : EReal) = (∑ k ∈ s, f k) * (ρ : EReal) := by
  classical
  induction s using Finset.induction with
  | empty => simp
  | insert a s ha ih =>
    rw [Finset.sum_insert ha, Finset.sum_insert ha, ih,
      EReal.right_distrib_of_nonneg_of_ne_top (by exact_mod_cast hρ) (EReal.coe_ne_top _)]

/-- The gradient of a normalised row, as the kernels compute it: `d` is the gradient of the scaled row. -/
def back (row d : Fin 1024 → EReal) (l : Fin 1024) : EReal :=
  inv row * (d l - row l * inv row * Ideal.div (∑ k, d k * (row k * inv row)) width)

/-- What differentiation gives for the mean square's part, per element of the row. -/
def slope (row d : Fin 1024 → EReal) : EReal :=
  Ideal.div ((∑ k, row k * d k) * (mhalf * Ideal.div (inv row) (ms row))) width

theorem back_eq (row d : Fin 1024 → EReal) (l : Fin 1024) :
    back row d l = d l * inv row + (row l * slope row d + slope row d * row l) := by
  obtain ⟨ρ, hρ, h1, h2⟩ := inv_real row
  unfold back slope
  rw [h2, h1, div_width, div_width, mhalf_eq, ← EReal.coe_mul]
  have hs : ∑ k, d k * (row k * (ρ : EReal)) = (∑ k, row k * d k) * (ρ : EReal) := by
    rw [← sum_mul_real _ _ ρ hρ]
    exact Finset.sum_congr rfl fun k _ => by rw [← mul_assoc, mul_comm (d k)]
  rw [hs]
  generalize (∑ k, row k * d k) = T
  generalize row l = x
  generalize d l = y
  have hc : (0 : ℝ) ≤ 1 / 2 * (ρ * ρ * ρ) * (1 / 1024) := by positivity
  have e1 : (ρ : EReal) * (y - x * (ρ : EReal) * (T * (ρ : EReal) * ((1 / 1024 : ℝ) : EReal)))
      = y * (ρ : EReal) + -(x * T) * ((ρ * ρ * ρ * (1 / 1024) : ℝ) : EReal) := by
    rw [sub_eq_add_neg, EReal.left_distrib_of_nonneg_of_ne_top (by exact_mod_cast hρ) (EReal.coe_ne_top _), mul_comm _ y]
    congr 1
    rw [mul_neg, neg_mul]
    congr 1
    push_cast
    simp only [mul_assoc, mul_left_comm, mul_comm]
  have e2 : x * (T * ((-(1 / 2) * (ρ * ρ * ρ) : ℝ) : EReal) * ((1 / 1024 : ℝ) : EReal))
      = -(x * T) * ((1 / 2 * (ρ * ρ * ρ) * (1 / 1024) : ℝ) : EReal) := by
    rw [show (-(1 / 2) * (ρ * ρ * ρ) : ℝ) = -(1 / 2 * (ρ * ρ * ρ)) by ring, EReal.coe_neg, mul_neg, neg_mul, mul_neg, neg_mul]
    congr 1
    push_cast
    simp only [mul_assoc, mul_left_comm, mul_comm]
  rw [e1, mul_comm _ x, e2, ← EReal.left_distrib_of_nonneg (by exact_mod_cast hc) (by exact_mod_cast hc), ← EReal.coe_add]
  congr 3
  ring

end Cert.Norm

end
-- ==== Proof.Norm.Store.lean ====
/-
  Reading a row buffer after stores of parts of it: a store that does not hold the index is passed over, one that holds it
  answers with its payload.
-/
module

public import Idealize.ShloMosaic.Lib.Pointwise
public import Idealize.ShloMosaic.Lib.Pipeline.FrameBody
public import Idealize.ShloMosaic.Lib.Pipeline.Value

@[expose] public section

noncomputable section

namespace Cert.Norm

open Idealize.ShloMosaic

/-- A row of `n` elements. -/
abbrev Row (n : Nat) : Shape := ⟨2, ![1, n]⟩

variable {n w : Nat} {e : EltTy}

/-- A store of columns `o … o + w - 1` is passed over at a column outside them. -/
theorem canon_skip (o : Nat) (inb : ∀ a, (![0, o] : Fin 2 → Nat) a + (Row w).size a ≤ (Row n).size a)
    (p : (Row w).Idx → Elt Ideal e) (L : List (View.Piece (Elt Ideal) (Row n) e)) (l : Fin n) (h : l.val < o ∨ o + w ≤ l.val) :
    View.canon (Val := Elt Ideal) ((⟨Rect.unit (s := Row n) ![0, o] (Row w).size inb, p⟩ : View.Piece (Elt Ideal) (Row n) e) :: L) (ix2 0 l) = View.canon L (ix2 0 l) := by
  refine View.canon_cons_of_not_mem _ _ fun hm => ?_
  have h1 : o ≤ l.val ∧ l.val < o + w := (Rect.mem_set_unit (inb := inb)).mp hm (1 : Fin 2)
  omega

/-- One that holds the column answers. -/
theorem canon_hit (o : Nat) (inb : ∀ a, (![0, o] : Fin 2 → Nat) a + (Row w).size a ≤ (Row n).size a)
    (p : (Row w).Idx → Elt Ideal e) (L : List (View.Piece (Elt Ideal) (Row n) e)) (l : Fin n) (z : Fin w) (h : l.val = o + z.val) :
    View.canon (Val := Elt Ideal) ((⟨Rect.unit (s := Row n) ![0, o] (Row w).size inb, p⟩ : View.Piece (Elt Ideal) (Row n) e) :: L) (ix2 0 l) = p (ix2 0 z) := by
  have he : (ix2 0 l : (Row n).Idx) = (Rect.unit (s := Row n) ![0, o] (Row w).size inb).emb (ix2 0 z : (Row w).Idx) := by
    funext a; apply Fin.ext
    match a with
    | ⟨0, _⟩ => rfl
    | ⟨1, _⟩ => show l.val = o + 1 * z.val; omega
  rw [he]
  exact View.canon_cons_emb (Rect.unit (s := Row n) ![0, o] (Row w).size inb) p L (ix2 0 z : (Row w).Idx)

/-- A load of columns `o …` of a row buffer known by its stores alone. -/
theorem readCov_row {sig : RefSig} {κ : Kind} {sp : Space} (v : View sig κ sp (Row n) e) (L : List (View.Piece (Elt Ideal) (Row n) e)) (o : Nat)
    (inb : ∀ a, (![0, o] : Fin 2 → Nat) a + (Row w).size a ≤ (Row n).size a) (z : Fin w) (l : Fin n) (h : l.val = o + z.val) :
    v.readCov L (Rect.unit (s := Row n) ![0, o] (Row w).size inb).toLoadRect (ix2 0 z : (Row w).Idx) = View.canon L (ix2 0 l) := by
  rw [View.readCov_eq_canon']
  refine congrArg (View.canon L) (funext fun a => Fin.ext ?_)
  match a with
  | ⟨0, _⟩ => rfl
  | ⟨1, _⟩ => show o + 1 * z.val = l.val; omega

/-- Loading a part of a row reads the row at the part's place. -/
theorem ld_row (x : (Row n).Idx → Elt Ideal e) (o : Nat) (inb : ∀ a, (![0, o] : Fin 2 → Nat) a + (Row w).size a ≤ (Row n).size a)
    (z : Fin w) (l : Fin n) (h : l.val = o + z.val) :
    View.ld x (Rect.unit (s := Row n) ![0, o] (Row w).size inb) (ix2 0 z : (Row w).Idx) = x (ix2 0 l) := by
  refine congrArg x (funext fun a => Fin.ext ?_)
  match a with
  | ⟨0, _⟩ => rfl
  | ⟨1, _⟩ => show o + 1 * z.val = l.val; omega

/-- The 16 points' sums over their 512 rows are the sum over all rows. -/
theorem sum_points {N : Nat} (hN : N = 16) (g : Fin 8192 → EReal) (f : Fin N → EReal)
    (hf : ∀ p : Fin N, f p = ∑ r : Fin 512, g ⟨p.val * 512 + r.val, by omega⟩) : 0 + ∑ p : Fin N, f p = ∑ R : Fin 8192, g R := by
  subst hN
  rw [zero_add, Fin.sum_univ_tiles 16 512 rfl g]
  exact Finset.sum_congr rfl fun p _ => hf p

end Cert.Norm

end
-- ==== Proof.Norm.P3.lean ====
/-
  The gradient of the attention layer's input norm and projection: what the three result arrays hold, and that this is the reference's.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Norm.Back
public import proofs.«01_k».proof.Proof.Norm.Store
public import Idealize.ShloMosaic.Lib.Pipeline.ValueKit.Acc
public import Idealize.ShloMosaic.Lib.Quiescent

@[expose] public section

noncomputable section

namespace Cert.Kernel3Ideal.Norm

open Cert.Kernel3Ideal Cert.Kernel3Ideal.Gen Cert.Kernel3Ideal.Value Idealize.ShloMosaic Idealize.ShloMosaic.TcCoe Idealize.SL.Sem
open Cert.Norm

theorem zeros2 : (![0, 0] : Fin 2 → Nat) = fun _ => 0 := by
  funext a; match a with | ⟨0, _⟩ => rfl | ⟨1, _⟩ => rfl

/-! ## The body -/

/-- The gradient of the normalised and scaled row: a row of the projection's gradient times the weights. -/
def dh {n : Nat} (x0 : (⟨2, ![n, 2304]⟩ : Shape).Idx → EReal) (x1 : (⟨2, ![1024, 2304]⟩ : Shape).Idx → EReal) (r : Fin n) (k : Fin 1024) : EReal :=
  ∑ j : Fin 2304, x0 (ix2 r j) * x1 (ix2 k j)

theorem dh_apply (x0 : Vec Ideal S512x2304 .f32) (x1 : Vec Ideal S1024x2304 .bf16) (r : Fin 512) (k : Fin 1024) :
    k0_pay9 (F := Ideal) (k0_pay6 (F := Ideal) (View.ld (Val := Elt Ideal) x0 (Rect.unit (s := S512x2304) ![0, 0] S512x768.size inb_S512x2304_S512x768_0_0)) (View.ld (Val := Elt Ideal) x1 (Rect.unit (s := S1024x2304) ![0, 0] S1024x768.size inb_S1024x2304_S1024x768_0_0)) (View.ld (Val := Elt Ideal) x0 (Rect.unit (s := S512x2304) ![0, 768] S512x768.size inb_S512x2304_S512x768_0_768)) (View.ld (Val := Elt Ideal) x1 (Rect.unit (s := S1024x2304) ![0, 768] S1024x768.size inb_S1024x2304_S1024x768_0_768))) (View.ld (Val := Elt Ideal) x0 (Rect.unit (s := S512x2304) ![0, 1536] S512x768.size inb_S512x2304_S512x768_0_1536)) (View.ld (Val := Elt Ideal) x1 (Rect.unit (s := S1024x2304) ![0, 1536] S1024x768.size inb_S1024x2304_S1024x768_0_1536)) (ix2 r k) = dh x0 x1 r k := by
  unfold dh
  rw [Fin.sum_univ_tiles 3 768 rfl, Fin.sum_univ_three]
  pointwise [k0_pay9, k0_pay6]

/-- A block of the tokens' gradient. -/
theorem dx_apply (x0 : Vec Ideal S512x2304 .f32) (x1 : Vec Ideal S1024x2304 .bf16) (x2 : Vec Ideal S512x1024 .f32) (x3 : Vec Ideal S1x1024 .f32) (x4 : Vec Ideal S512x1024 .f32) (r : Fin 512) (l : Fin 1024) :
    k0_pay1 (F := Ideal) (k0_pay10 x2) (k0_pay11 x2) (k0_pay13 (k0_pay6 (F := Ideal) (View.ld (Val := Elt Ideal) x0 (Rect.unit (s := S512x2304) ![0, 0] S512x768.size inb_S512x2304_S512x768_0_0)) (View.ld (Val := Elt Ideal) x1 (Rect.unit (s := S1024x2304) ![0, 0] S1024x768.size inb_S1024x2304_S1024x768_0_0)) (View.ld (Val := Elt Ideal) x0 (Rect.unit (s := S512x2304) ![0, 768] S512x768.size inb_S512x2304_S512x768_0_768)) (View.ld (Val := Elt Ideal) x1 (Rect.unit (s := S1024x2304) ![0, 768] S1024x768.size inb_S1024x2304_S1024x768_0_768))) (View.ld (Val := Elt Ideal) x0 (Rect.unit (s := S512x2304) ![0, 1536] S512x768.size inb_S512x2304_S512x768_0_1536)) (View.ld (Val := Elt Ideal) x1 (Rect.unit (s := S1024x2304) ![0, 1536] S1024x768.size inb_S1024x2304_S1024x768_0_1536)) x3) x4 (k0_pay14 (k0_pay6 (F := Ideal) (View.ld (Val := Elt Ideal) x0 (Rect.unit (s := S512x2304) ![0, 0] S512x768.size inb_S512x2304_S512x768_0_0)) (View.ld (Val := Elt Ideal) x1 (Rect.unit (s := S1024x2304) ![0, 0] S1024x768.size inb_S1024x2304_S1024x768_0_0)) (View.ld (Val := Elt Ideal) x0 (Rect.unit (s := S512x2304) ![0, 768] S512x768.size inb_S512x2304_S512x768_0_768)) (View.ld (Val := Elt Ideal) x1 (Rect.unit (s := S1024x2304) ![0, 768] S1024x768.size inb_S1024x2304_S1024x768_0_768))) (View.ld (Val := Elt Ideal) x0 (Rect.unit (s := S512x2304) ![0, 1536] S512x768.size inb_S512x2304_S512x768_0_1536)) (View.ld (Val := Elt Ideal) x1 (Rect.unit (s := S1024x2304) ![0, 1536] S1024x768.size inb_S1024x2304_S1024x768_0_1536)) x2 x3) (ix2 r l)
      = x4 (ix2 r l) + back (fun k => x2 (ix2 r k)) (fun k => dh x0 x1 r k * x3 (ix2 0 k)) l := by
  pointwise [k0_pay1, k0_pay10, k0_pay11, k0_pay13, k0_pay14]
  simp only [dh_apply]
  rfl

theorem dpw_apply (x0 : Vec Ideal S512x2304 .f32) (x1 : Vec Ideal S1024x2304 .bf16) (x2 : Vec Ideal S512x1024 .f32) (xo : Vec Ideal S1x1024 .f32) (l : Fin 1024) :
    k0_pay12 (F := Ideal) (k0_pay6 (F := Ideal) (View.ld (Val := Elt Ideal) x0 (Rect.unit (s := S512x2304) ![0, 0] S512x768.size inb_S512x2304_S512x768_0_0)) (View.ld (Val := Elt Ideal) x1 (Rect.unit (s := S1024x2304) ![0, 0] S1024x768.size inb_S1024x2304_S1024x768_0_0)) (View.ld (Val := Elt Ideal) x0 (Rect.unit (s := S512x2304) ![0, 768] S512x768.size inb_S512x2304_S512x768_0_768)) (View.ld (Val := Elt Ideal) x1 (Rect.unit (s := S1024x2304) ![0, 768] S1024x768.size inb_S1024x2304_S1024x768_0_768))) (View.ld (Val := Elt Ideal) x0 (Rect.unit (s := S512x2304) ![0, 1536] S512x768.size inb_S512x2304_S512x768_0_1536)) (View.ld (Val := Elt Ideal) x1 (Rect.unit (s := S1024x2304) ![0, 1536] S1024x768.size inb_S1024x2304_S1024x768_0_1536)) x2 xo (ix2 0 l)
      = xo (ix2 0 l) + ∑ r : Fin 512, dh x0 x1 r l * (x2 (ix2 r l) * inv (fun k => x2 (ix2 r k))) := by
  pointwise [k0_pay12, k0_pay10, k0_pay11]
  simp only [dh_apply]
  rfl

theorem pay4_apply (x : Vec Ideal S512x2304 .f32) (a : Vec Ideal S1x768 .f32) (z : Fin 768) : k0_pay4 (F := Ideal) (View.ld x (Rect.unit ![0, 0] S512x768.size inb_S512x2304_S512x768_0_0)) a (ix2 0 z)
    = a (ix2 0 z) + ∑ r : Fin 512, x (ix2 r ⟨z.val, by omega⟩) := by
  pointwise [k0_pay4]
theorem pay5_apply (x : Vec Ideal S512x2304 .f32) (a : Vec Ideal S1x768 .f32) (z : Fin 768) : k0_pay5 (F := Ideal) (View.ld x (Rect.unit ![0, 768] S512x768.size inb_S512x2304_S512x768_0_768)) a (ix2 0 z)
    = a (ix2 0 z) + ∑ r : Fin 512, x (ix2 r ⟨768 + z.val, by omega⟩) := by
  pointwise [k0_pay5]
theorem pay8_apply (x : Vec Ideal S512x2304 .f32) (a : Vec Ideal S1x768 .f32) (z : Fin 768) : k0_pay8 (F := Ideal) (View.ld x (Rect.unit ![0, 1536] S512x768.size inb_S512x2304_S512x768_0_1536)) (k0_pay7 a) (ix2 0 z)
    = a (ix2 0 z) + ∑ r : Fin 512, x (ix2 r ⟨1536 + z.val, by omega⟩) := by
  pointwise [k0_pay8, k0_pay7]
/-- Three stores side by side hold, at each column, the payload of the part it lies in. -/
theorem three (p0 p1 p2 : S1x768.Idx → Elt Ideal .f32) (L : List (View.Piece (Elt Ideal) S1x2304 .f32)) (G : Fin 2304 → EReal)
    (h0 : ∀ z : Fin 768, p0 (ix2 0 z) = G ⟨z.val, by omega⟩) (h1 : ∀ z : Fin 768, p1 (ix2 0 z) = G ⟨768 + z.val, by omega⟩)
    (h2 : ∀ z : Fin 768, p2 (ix2 0 z) = G ⟨1536 + z.val, by omega⟩) (l : Fin 2304) :
    View.canon (Val := Elt Ideal) (⟨Rect.unit (s := S1x2304) ![0, 1536] S1x768.size inb_S1x2304_S1x768_0_1536, p2⟩ :: ⟨Rect.unit (s := S1x2304) ![0, 768] S1x768.size inb_S1x2304_S1x768_0_768, p1⟩
      :: ⟨Rect.unit (s := S1x2304) ![0, 0] S1x768.size inb_S1x2304_S1x768_0_0, p0⟩ :: L) (ix2 0 l) = G l := by
  by_cases hl2 : 1536 ≤ l.val
  · refine (canon_hit 1536 inb_S1x2304_S1x768_0_1536 p2 _ l ⟨l.val - 1536, by omega⟩ (by show _ = 1536 + (l.val - 1536); omega)).trans ((h2 _).trans (congrArg G (Fin.ext ?_)))
    show 1536 + (l.val - 1536) = l.val; omega
  refine (canon_skip 1536 inb_S1x2304_S1x768_0_1536 p2 _ l (by omega)).trans ?_
  by_cases hl1 : 768 ≤ l.val
  · refine (canon_hit 768 inb_S1x2304_S1x768_0_768 p1 _ l ⟨l.val - 768, by omega⟩ (by show _ = 768 + (l.val - 768); omega)).trans ((h1 _).trans (congrArg G (Fin.ext ?_)))
    show 768 + (l.val - 768) = l.val; omega
  refine (canon_skip 768 inb_S1x2304_S1x768_0_768 p1 _ l (by omega)).trans ?_
  exact (canon_hit 0 inb_S1x2304_S1x768_0_0 p0 _ l ⟨l.val, by omega⟩ (by show _ = 0 + l.val; omega)).trans (h0 _)

/-- The zero block under anything. -/
theorem zero_row (l : Fin 2304) : View.canon (Val := Elt Ideal) [(⟨Rect.unit (s := S1x2304) ![0, 0] S1x2304.size inb_S1x2304_S1x2304_0_0, k0_pay3 (F := Ideal)⟩ : View.Piece (Elt Ideal) S1x2304 .f32)] (ix2 0 l) = 0 := by
  rw [View.canon_unit_zero zeros2]
  pointwise [k0_pay3]

/-! ## The blocks of the arguments -/

variable (m : (ℓ : Loc nD τ sig) → Buf (Elt Ideal) ℓ)

abbrev arr0 (c : Dev nD) : Vec Ideal S8192x2304 .f32 := m ((c : Thread nD τ).loc main_arg0)
abbrev arr1 (c : Dev nD) : Vec Ideal S1024x2304 .bf16 := m ((c : Thread nD τ).loc main_arg1)
abbrev arr2 (c : Dev nD) : Vec Ideal S8192x1024 .f32 := m ((c : Thread nD τ).loc main_arg2)
abbrev arr3 (c : Dev nD) : Vec Ideal S1x1024 .f32 := m ((c : Thread nD τ).loc main_arg3)
abbrev arr4 (c : Dev nD) : Vec Ideal S8192x1024 .f32 := m ((c : Thread nD τ).loc main_arg4)

theorem win_facts : ∀ t : Fin cfg0.N, win0_0.index t (0 : Fin 2) = t.val ∧ win0_0.index t (1 : Fin 2) = 0 ∧ win0_1.index t (0 : Fin 2) = 0 ∧ win0_1.index t (1 : Fin 2) = 0 ∧ win0_2.index t (0 : Fin 2) = t.val ∧ win0_2.index t (1 : Fin 2) = 0 ∧ win0_3.index t (0 : Fin 2) = 0 ∧ win0_3.index t (1 : Fin 2) = 0 ∧ win0_4.index t (0 : Fin 2) = t.val ∧ win0_4.index t (1 : Fin 2) = 0 ∧ win0_5.index t (0 : Fin 2) = t.val ∧ win0_5.index t (1 : Fin 2) = 0 ∧ win0_6.index t (0 : Fin 2) = 0 ∧ win0_6.index t (1 : Fin 2) = 0 ∧ win0_7.index t (0 : Fin 2) = 0 ∧ win0_7.index t (1 : Fin 2) = 0 :=
  (by decide +kernel : ∀ t : Fin grid0.N, _)

theorem N16 (t : Fin cfg0.N) : t.val < 16 := lt_of_lt_of_eq t.isLt (show cfg0.N = 16 from N_0)

/-- Row `r` of point `t`'s block. -/
abbrev row (t : Fin cfg0.N) (r : Fin 512) : Fin 8192 := ⟨t.val * 512 + r.val, by have := N16 t; omega⟩

theorem blk0 (c : Dev nD) (t : Fin cfg0.N) (r : Fin 512) (l : Fin 2304) : iblk m c 0 t (ix2 r l) = arr0 m c (ix2 (row t r) l) := by
  have e := win_facts t
  show arr0 m c (((cfg0.win 0).blk t).view.emb (ix2 r l)) = _
  refine congrArg _ (funext fun a => Fin.ext ?_)
  match a with
  | ⟨0, _⟩ => show win0_0.index t (0 : Fin 2) * 512 + 1 * r.val = _; rw [e.1]; show _ = t.val * 512 + r.val; omega
  | ⟨1, _⟩ => show win0_0.index t (1 : Fin 2) * 2304 + 1 * l.val = l.val; rw [e.2.1]; omega

theorem blk1 (c : Dev nD) (t : Fin cfg0.N) (r : Fin 1024) (l : Fin 2304) : iblk m c 1 t (ix2 r l) = arr1 m c (ix2 (r) l) := by
  have e := win_facts t
  show arr1 m c (((cfg0.win 1).blk t).view.emb (ix2 r l)) = _
  refine congrArg _ (funext fun a => Fin.ext ?_)
  match a with
  | ⟨0, _⟩ => show win0_1.index t (0 : Fin 2) * 1024 + 1 * r.val = r.val; rw [e.2.2.1]; omega
  | ⟨1, _⟩ => show win0_1.index t (1 : Fin 2) * 2304 + 1 * l.val = l.val; rw [e.2.2.2.1]; omega

theorem blk2 (c : Dev nD) (t : Fin cfg0.N) (r : Fin 512) (l : Fin 1024) : iblk m c 2 t (ix2 r l) = arr2 m c (ix2 (row t r) l) := by
  have e := win_facts t
  show arr2 m c (((cfg0.win 2).blk t).view.emb (ix2 r l)) = _
  refine congrArg _ (funext fun a => Fin.ext ?_)
  match a with
  | ⟨0, _⟩ => show win0_2.index t (0 : Fin 2) * 512 + 1 * r.val = _; rw [e.2.2.2.2.1]; show _ = t.val * 512 + r.val; omega
  | ⟨1, _⟩ => show win0_2.index t (1 : Fin 2) * 1024 + 1 * l.val = l.val; rw [e.2.2.2.2.2.1]; omega

theorem blk3 (c : Dev nD) (t : Fin cfg0.N) (r : Fin 1) (l : Fin 1024) : iblk m c 3 t (ix2 r l) = arr3 m c (ix2 (r) l) := by
  have e := win_facts t
  show arr3 m c (((cfg0.win 3).blk t).view.emb (ix2 r l)) = _
  refine congrArg _ (funext fun a => Fin.ext ?_)
  match a with
  | ⟨0, _⟩ => show win0_3.index t (0 : Fin 2) * 1 + 1 * r.val = r.val; rw [e.2.2.2.2.2.2.1]; omega
  | ⟨1, _⟩ => show win0_3.index t (1 : Fin 2) * 1024 + 1 * l.val = l.val; rw [e.2.2.2.2.2.2.2.1]; omega

theorem blk4 (c : Dev nD) (t : Fin cfg0.N) (r : Fin 512) (l : Fin 1024) : iblk m c 4 t (ix2 r l) = arr4 m c (ix2 (row t r) l) := by
  have e := win_facts t
  show arr4 m c (((cfg0.win 4).blk t).view.emb (ix2 r l)) = _
  refine congrArg _ (funext fun a => Fin.ext ?_)
  match a with
  | ⟨0, _⟩ => show win0_4.index t (0 : Fin 2) * 512 + 1 * r.val = _; rw [e.2.2.2.2.2.2.2.2.1]; show _ = t.val * 512 + r.val; omega
  | ⟨1, _⟩ => show win0_4.index t (1 : Fin 2) * 1024 + 1 * l.val = l.val; rw [e.2.2.2.2.2.2.2.2.2.1]; omega

/-! ## What the outputs' blocks hold, point by point -/

/-- The blocks a point reads. -/
abbrev B0 (c : Dev nD) (t : Fin cfg0.N) : Vec Ideal S512x2304 .f32 := iblk m c 0 t
abbrev B1 (c : Dev nD) (t : Fin cfg0.N) : Vec Ideal S1024x2304 .bf16 := iblk m c 1 t
abbrev B2 (c : Dev nD) (t : Fin cfg0.N) : Vec Ideal S512x1024 .f32 := iblk m c 2 t
abbrev B3 (c : Dev nD) (t : Fin cfg0.N) : Vec Ideal S1x1024 .f32 := iblk m c 3 t
abbrev B4 (c : Dev nD) (t : Fin cfg0.N) : Vec Ideal S512x1024 .f32 := iblk m c 4 t
/-- The blocks the sums over the rows lie in after point `n`. -/
abbrev O6 (c : Dev nD) (n : Nat) (h : n < cfg0.N) : Vec Ideal S1x1024 .f32 := (outsAt0 m c n h).2.1
abbrev O7 (c : Dev nD) (n : Nat) (h : n < cfg0.N) : Vec Ideal S1x2304 .f32 := (outsAt0 m c n h).2.2

theorem dx_pt (c : Dev nD) (t : Fin cfg0.N) (r : Fin 512) (l : Fin 1024) : (outsAt0 m c t.val t.isLt).1 (ix2 r l)
    = B4 m c t (ix2 r l) + back (fun k => B2 m c t (ix2 r k)) (fun k => dh (B0 m c t) (B1 m c t) r k * B3 m c t (ix2 0 k)) l := by
  by_cases h0 : t.val % 16 = 0
  · rw [outsAt0_A m c t h0]; frame_out; exact dx_apply ..
  · rw [outsAt0_B m c t h0]; frame_out; exact dx_apply ..

/-- One point's part of the scale's gradient. -/
def dpwPart (x0 : Vec Ideal S512x2304 .f32) (x1 : Vec Ideal S1024x2304 .bf16) (x2 : Vec Ideal S512x1024 .f32) (l : Fin 1024) : EReal :=
  ∑ r : Fin 512, dh x0 x1 r l * (x2 (ix2 r l) * inv (fun k => x2 (ix2 r k)))

theorem dpw_A (c : Dev nD) (t : Fin cfg0.N) (h0 : t.val % 16 = 0) (l : Fin 1024) : O6 m c t.val t.isLt (ix2 0 l)
    = 0 + dpwPart (B0 m c t) (B1 m c t) (B2 m c t) l := by
  show (outsAt0 m c t.val t.isLt).2.1 (ix2 0 l) = _; rw [outsAt0_A m c t h0]; frame_out
  refine (dpw_apply ..).trans (congrArg (· + _) ?_)
  pointwise [k0_pay2]
theorem dpw_B (c : Dev nD) (t : Fin cfg0.N) (h0 : ¬t.val % 16 = 0) (l : Fin 1024) : O6 m c t.val t.isLt (ix2 0 l)
    = O6 m c (t.val - 1) (Nat.lt_of_le_of_lt (Nat.sub_le _ _) t.isLt) (ix2 0 l) + dpwPart (B0 m c t) (B1 m c t) (B2 m c t) l := by
  show (outsAt0 m c t.val t.isLt).2.1 (ix2 0 l) = _; rw [outsAt0_B m c t h0]; frame_out
  exact dpw_apply ..

theorem db_A (c : Dev nD) (t : Fin cfg0.N) (h0 : t.val % 16 = 0) (l : Fin 2304) : O7 m c t.val t.isLt (ix2 0 l)
    = 0 + ∑ r : Fin 512, B0 m c t (ix2 r l) := by
  show (outsAt0 m c t.val t.isLt).2.2 (ix2 0 l) = _; rw [outsAt0_A m c t h0]; frame_out
  refine three _ _ _ _ (fun l => 0 + ∑ r : Fin 512, B0 m c t (ix2 r l)) (fun z => ?_) (fun z => ?_) (fun z => ?_) l
  · refine (pay4_apply _ _ z).trans (congrArg (· + _) ?_)
    exact (readCov_row _ _ 0 _ z ⟨z.val, by omega⟩ (by show z.val = 0 + z.val; omega)).trans (zero_row _)
  · refine (pay5_apply _ _ z).trans (congrArg (· + _) ?_)
    exact (readCov_row _ _ 768 _ z ⟨768 + z.val, by omega⟩ rfl).trans ((canon_skip 0 _ _ _ _ (by right; simp)).trans (zero_row _))
  · refine (pay8_apply _ _ z).trans (congrArg (· + _) ?_)
    exact (readCov_row _ _ 1536 _ z ⟨1536 + z.val, by omega⟩ rfl).trans ((canon_skip 768 _ _ _ _ (by right; simp)).trans ((canon_skip 0 _ _ _ _ (by right; simp; omega)).trans (zero_row _)))
theorem db_B (c : Dev nD) (t : Fin cfg0.N) (h0 : ¬t.val % 16 = 0) (l : Fin 2304) : O7 m c t.val t.isLt (ix2 0 l)
    = O7 m c (t.val - 1) (Nat.lt_of_le_of_lt (Nat.sub_le _ _) t.isLt) (ix2 0 l) + ∑ r : Fin 512, B0 m c t (ix2 r l) := by
  show (outsAt0 m c t.val t.isLt).2.2 (ix2 0 l) = _; rw [outsAt0_B m c t h0]; frame_out
  refine three _ _ _ _ (fun l => O7 m c (t.val - 1) (Nat.lt_of_le_of_lt (Nat.sub_le _ _) t.isLt) (ix2 0 l) + ∑ r : Fin 512, B0 m c t (ix2 r l)) (fun z => ?_) (fun z => ?_) (fun z => ?_) l
  · refine (pay4_apply _ _ z).trans (congrArg (· + _) ?_)
    exact ld_row _ 0 _ z ⟨z.val, by omega⟩ (by show z.val = 0 + z.val; omega)
  · refine (pay5_apply _ _ z).trans (congrArg (· + _) ?_)
    exact ld_row _ 768 _ z ⟨768 + z.val, by omega⟩ rfl
  · refine (pay8_apply _ _ z).trans (congrArg (· + _) ?_)
    exact ld_row _ 1536 _ z ⟨1536 + z.val, by omega⟩ rfl

/-! ## The reference, and the equations of the arrays -/

open Cert.Reference3Ideal.Read in
theorem ref_dx (x0 : Vec Ideal S8192x2304 .f32) (x1 : Vec Ideal S1024x2304 .bf16) (x2 : Vec Ideal S8192x1024 .f32) (x3 : Vec Ideal S1x1024 .f32) (x4 : Vec Ideal S8192x1024 .f32) (R : Fin 8192) (l : Fin 1024) :
    val_main_v43 (F := Ideal) x0 x1 x2 x3 x4 (ix2 R l)
      = x4 (ix2 R l) + back (fun k => x2 (ix2 R k)) (fun k => (∑ j : Fin 2304, x0 (ix2 R j) * x1 (ix2 k j)) * x3 (ix2 0 k)) l := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v23, val_main_v20, val_main_v16, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, val_main_cst_7, val_main_cst_8]
  simp only [zero_add, Finset.univ_unique, Finset.sum_singleton]
  rw [back_eq, add_assoc, add_assoc]
  rfl
open Cert.Reference3Ideal.Read in
theorem ref_dpw (x0 : Vec Ideal S8192x2304 .f32) (x1 : Vec Ideal S1024x2304 .bf16) (x2 : Vec Ideal S8192x1024 .f32) (l : Fin 1024) :
    val_main_v26 (F := Ideal) x0 x1 x2 (ix2 0 l) = ∑ R : Fin 8192, (∑ j : Fin 2304, x0 (ix2 R j) * x1 (ix2 l j)) * (x2 (ix2 R l) * inv (fun k => x2 (ix2 R k))) := by
  pointwise [val_main_v26, val_main_v25, val_main_v24, val_main_v23, val_main_v20, val_main_v16, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, val_main_cst_7, val_main_cst_8]
  exact Finset.sum_congr rfl fun _ _ => mul_comm _ _
open Cert.Reference3Ideal.Read in
theorem ref_db (x0 : Vec Ideal S8192x2304 .f32) (l : Fin 2304) :
    val_main_v22 (F := Ideal) x0 (ix2 0 l) = ∑ R : Fin 8192, x0 (ix2 R l) := by
  pointwise [val_main_v22, val_main_v21, val_main_cst, val_main_cst_0, val_main_cst_1, val_main_cst_2, val_main_cst_3, val_main_cst_4, val_main_cst_5, val_main_cst_6, val_main_cst_7, val_main_cst_8]

theorem dx_eq (c : Dev nD) : (dats m 0 c).arrAt 5 cfg0.N = Cert.Reference3Ideal.Read.val_main_v43 (F := Ideal) (arr0 m c) (arr1 m c) (arr2 m c) (arr3 m c) (arr4 m c) := by
  refine Pipeline.Dat.arrAt_eq_of_cover (dats m 0 c) 5 _ (fun t _ => ?_) (fun i => ?_)
  · rw [flushed5]
    have e := win_facts t
    funext (y : S512x1024.Idx)
    idx_vars y
    show (outsAt0 m c t.val t.isLt).1 (ix2 y0 y1) = Cert.Reference3Ideal.Read.val_main_v43 (F := Ideal) (arr0 m c) (arr1 m c) (arr2 m c) (arr3 m c) (arr4 m c) (((cfg0.win 5).blk t).view.emb (ix2 y0 y1 : S512x1024.Idx))
    have hi : ((cfg0.win 5).blk t).view.emb (ix2 y0 y1 : S512x1024.Idx) = (ix2 (row t y0) y1 : S8192x1024.Idx) := by
      funext a; apply Fin.ext
      match a with
      | ⟨0, _⟩ => show win0_5.index t (0 : Fin 2) * 512 + 1 * y0.val = _; rw [e.2.2.2.2.2.2.2.2.2.2.1]; show _ = t.val * 512 + y0.val; omega
      | ⟨1, _⟩ => show win0_5.index t (1 : Fin 2) * 1024 + 1 * y1.val = y1.val; rw [e.2.2.2.2.2.2.2.2.2.2.2.1]; omega
    rw [hi]
    refine (dx_pt m c t y0 y1).trans (Eq.trans ?_ (ref_dx (arr0 m c) (arr1 m c) (arr2 m c) (arr3 m c) (arr4 m c) (row t y0) y1).symm)
    simp only [dh, blk0, blk1, blk2, blk3, blk4]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_5 t, ?_⟩
    have e := win_facts t
    have hi : ((cfg0.win 5).blk t).view.emb (ix2 r l : S512x1024.Idx) = (ix2 R l : S8192x1024.Idx) := by
      funext a; apply Fin.ext
      match a with
      | ⟨0, _⟩ => show win0_5.index t (0 : Fin 2) * 512 + 1 * r.val = R.val; rw [e.2.2.2.2.2.2.2.2.2.2.1]; omega
      | ⟨1, _⟩ => show win0_5.index t (1 : Fin 2) * 1024 + 1 * l.val = l.val; rw [e.2.2.2.2.2.2.2.2.2.2.2.1]; omega
    exact hi ▸ ((cfg0.win 5).blk t).view.emb_mem_set (ix2 r l : S512x1024.Idx)

theorem dpw_eq (c : Dev nD) : (dats m 0 c).arrAt 6 cfg0.N = Cert.Reference3Ideal.Read.val_main_v26 (F := Ideal) (arr0 m c) (arr1 m c) (arr2 m c) := by
  have hN : cfg0.N = 16 := N_0
  refine Pipeline.Dat.arrAt_eq_of_cover (dats m 0 c) 6 _ (fun t hf => ?_) (fun i => ?_)
  · have ht : t.val + 1 = cfg0.N := by have := (flush0_6 t).mp hf; omega
    rw [flushed6]
    have e := win_facts t
    funext (y : S1x1024.Idx)
    idx_vars y
    show O6 m c t.val t.isLt (ix2 y0 y1) = Cert.Reference3Ideal.Read.val_main_v26 (F := Ideal) (arr0 m c) (arr1 m c) (arr2 m c) (((cfg0.win 6).blk t).view.emb (ix2 y0 y1 : S1x1024.Idx))
    have hi : ∀ (r : Fin 1) (l : Fin 1024), ((cfg0.win 6).blk t).view.emb (ix2 r l : S1x1024.Idx) = (ix2 r l : S1x1024.Idx) := by
      intro r l; funext a; apply Fin.ext
      match a with
      | ⟨0, _⟩ => show win0_6.index t (0 : Fin 2) * 1 + 1 * r.val = r.val; rw [e.2.2.2.2.2.2.2.2.2.2.2.2.1]; omega
      | ⟨1, _⟩ => show win0_6.index t (1 : Fin 2) * 1024 + 1 * l.val = l.val; rw [e.2.2.2.2.2.2.2.2.2.2.2.2.2.1]; omega
    rw [hi]
    rw [show y0 = 0 from Subsingleton.elim _ _]
    refine (Pipeline.eq_sum_fin_of_reset_step_apply_last (fun n h l => O6 m c n h (ix2 0 l)) 16 (fun _ => 0) (fun t l => dpwPart (B0 m c t) (B1 m c t) (B2 m c t) l)
      (fun t h l => dpw_A m c t h l) (fun t h l => dpw_B m c t h l) (by omega) t ht y1).trans (Eq.trans ?_ (ref_dpw (arr0 m c) (arr1 m c) (arr2 m c) y1).symm)
    refine sum_points hN _ _ (fun p => ?_)
    simp only [dpwPart, dh, blk0, blk1, blk2]
  · obtain ⟨R, l, rfl⟩ : ∃ (R : Fin 1) (l : Fin 1024), i = (ix2 R l : S1x1024.Idx) :=
      ⟨i 0, i 1, by funext a; match a with | ⟨0, _⟩ => rfl | ⟨1, _⟩ => rfl⟩
    obtain ⟨t, ht⟩ : ∃ t : Fin cfg0.N, t.val = 15 := ⟨⟨15, by omega⟩, rfl⟩
    refine ⟨t, (flush0_6 t).mpr (by omega), ?_⟩
    have e := win_facts t
    have hi : ∀ (r : Fin 1) (l : Fin 1024), ((cfg0.win 6).blk t).view.emb (ix2 r l : S1x1024.Idx) = (ix2 r l : S1x1024.Idx) := by
      intro r l; funext a; apply Fin.ext
      match a with
      | ⟨0, _⟩ => show win0_6.index t (0 : Fin 2) * 1 + 1 * r.val = r.val; rw [e.2.2.2.2.2.2.2.2.2.2.2.2.1]; omega
      | ⟨1, _⟩ => show win0_6.index t (1 : Fin 2) * 1024 + 1 * l.val = l.val; rw [e.2.2.2.2.2.2.2.2.2.2.2.2.2.1]; omega
    exact hi R l ▸ ((cfg0.win 6).blk t).view.emb_mem_set (ix2 R l : S1x1024.Idx)

theorem db_eq (c : Dev nD) : (dats m 0 c).arrAt 7 cfg0.N = Cert.Reference3Ideal.Read.val_main_v22 (F := Ideal) (arr0 m c) := by
  have hN : cfg0.N = 16 := N_0
  refine Pipeline.Dat.arrAt_eq_of_cover (dats m 0 c) 7 _ (fun t hf => ?_) (fun i => ?_)
  · have ht : t.val + 1 = cfg0.N := by have := (flush0_7 t).mp hf; omega
    rw [flushed7]
    have e := win_facts t
    funext (y : S1x2304.Idx)
    idx_vars y
    show O7 m c t.val t.isLt (ix2 y0 y1) = Cert.Reference3Ideal.Read.val_main_v22 (F := Ideal) (arr0 m c) (((cfg0.win 7).blk t).view.emb (ix2 y0 y1 : S1x2304.Idx))
    have hi : ∀ (r : Fin 1) (l : Fin 2304), ((cfg0.win 7).blk t).view.emb (ix2 r l : S1x2304.Idx) = (ix2 r l : S1x2304.Idx) := by
      intro r l; funext a; apply Fin.ext
      match a with
      | ⟨0, _⟩ => show win0_7.index t (0 : Fin 2) * 1 + 1 * r.val = r.val; rw [e.2.2.2.2.2.2.2.2.2.2.2.2.2.2.1]; omega
      | ⟨1, _⟩ => show win0_7.index t (1 : Fin 2) * 2304 + 1 * l.val = l.val; rw [e.2.2.2.2.2.2.2.2.2.2.2.2.2.2.2]; omega
    rw [hi]
    rw [show y0 = 0 from Subsingleton.elim _ _]
    refine (Pipeline.eq_sum_fin_of_reset_step_apply_last (fun n h l => O7 m c n h (ix2 0 l)) 16 (fun _ => 0) (fun t l => ∑ r : Fin 512, B0 m c t (ix2 r l))
      (fun t h l => db_A m c t h l) (fun t h l => db_B m c t h l) (by omega) t ht y1).trans (Eq.trans ?_ (ref_db (arr0 m c) y1).symm)
    refine sum_points hN _ _ (fun p => ?_)
    simp only [blk0]
  · obtain ⟨R, l, rfl⟩ : ∃ (R : Fin 1) (l : Fin 2304), i = (ix2 R l : S1x2304.Idx) :=
      ⟨i 0, i 1, by funext a; match a with | ⟨0, _⟩ => rfl | ⟨1, _⟩ => rfl⟩
    obtain ⟨t, ht⟩ : ∃ t : Fin cfg0.N, t.val = 15 := ⟨⟨15, by omega⟩, rfl⟩
    refine ⟨t, (flush0_7 t).mpr (by omega), ?_⟩
    have e := win_facts t
    have hi : ∀ (r : Fin 1) (l : Fin 2304), ((cfg0.win 7).blk t).view.emb (ix2 r l : S1x2304.Idx) = (ix2 r l : S1x2304.Idx) := by
      intro r l; funext a; apply Fin.ext
      match a with
      | ⟨0, _⟩ => show win0_7.index t (0 : Fin 2) * 1 + 1 * r.val = r.val; rw [e.2.2.2.2.2.2.2.2.2.2.2.2.2.2.1]; omega
      | ⟨1, _⟩ => show win0_7.index t (1 : Fin 2) * 2304 + 1 * l.val = l.val; rw [e.2.2.2.2.2.2.2.2.2.2.2.2.2.2.2]; omega
    exact hi R l ▸ ((cfg0.win 7).blk t).view.emb_mem_set (ix2 R l : S1x2304.Idx)

end Cert.Kernel3Ideal.Norm

namespace Cert.Norm3

open Idealize.ShloMosaic Idealize.ShloMosaic.TcCoe Idealize.SL.Sem

/-- The claim about the two programs. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N, fun c => (Cert.Kernel3Ideal.Gen.dats m 0 c).arrAt 7 Cert.Kernel3Ideal.cfg0.N,
    Cert.Kernel3Ideal.Value.run_blocks m g, ?_⟩
  refine (θ_run Cert.Reference3Ideal.defs _ _).mono (fun r h c => ?_) (Cert.Reference3Ideal.Value.run (F := Ideal) m' g')
  refine ⟨(h c).1.trans ?_, (h c).2.1.trans ?_, (h c).2.2.1.trans ?_, (h c).2.2.2⟩
  · refine (Cert.Reference3Ideal.Read.val_main_v43_eq m' c).trans ?_
    rw [(hagree c).1, (hagree c).2.1, (hagree c).2.2.1, (hagree c).2.2.2.1, (hagree c).2.2.2.2]
    exact (Cert.Kernel3Ideal.Norm.dx_eq m c).symm
  · rw [(hagree c).1, (hagree c).2.1, (hagree c).2.2.1]
    exact (Cert.Kernel3Ideal.Norm.dpw_eq m c).symm
  · rw [(hagree c).1]
    exact (Cert.Kernel3Ideal.Norm.db_eq m c).symm

/-- The reference's frame: it has no counters at all. -/
theorem frame_ref : Cert.quiescent_Reference3Ideal (hReference3Ideal := Cert.Reference3Ideal.Gen.facts) := by
  intro m g _
  exact (θ_run Cert.Reference3Ideal.defs _ _).mono (fun r h => ⟨fun c => (h c).2.2.2, sem_eq_zero_of_no_sems (by decide) r.2⟩)
    (Cert.Reference3Ideal.Value.run (F := Ideal) m g)

end Cert.Norm3

end
-- ==== Proof.Rec.Points.lean ====
module

public import proofs.«01_k».proof.Proof.Gen.Kernel4Ideal.Frame
public import proofs.«01_k».proof.Proof.Gen.Kernel4Ideal.Launch
public import proofs.«01_k».proof.Proof.Gen.Kernel4Ideal.Points
public import proofs.«01_k».proof.Proof.Gen.Kernel4Ideal.Skeleton
public import Idealize.ShloMosaic.Lib.Pipeline.FrameBody

@[expose] public section

/-! The one branch of the recurrent layer's gradient kernel, and the buffers a point of its grid is given. -/

set_option maxRecDepth 16384

noncomputable section

namespace Cert.Kernel4Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- The two accumulated rows are cleared here. -/
abbrev clears (i : grid0.Coords) : Prop := k0_cond1 i = 1#1

theorem clears_iff : ∀ t : Fin cfg0.N, clears (grid0.coords t) ↔ t.val = 0 :=
  (by decide +kernel : ∀ t : Fin grid0.N, clears (grid0.coords t) ↔ t.val = 0)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := by decide +kernel
theorem live_9 : ∀ t : Fin cfg0.N, cfg0.idle 9 (grid0.coords t) = false := by decide +kernel
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4096 .f32 := win0_10.stage (cfg0.slots t 10)
abbrev hs0_10 (t : Fin cfg0.N) : (ms0_10 t).IsWhole := hstage0_10 ((cfg0.slots t 10).cast nbuf0_10)

end Cert.Kernel4Ideal.Val

end
-- ==== Proof.Rec.RunFirst.lean ====
module

public import proofs.«01_k».proof.Proof.Rec.Points

@[expose] public section

/-! The first point of the grid: the two accumulated rows are cleared, then the point's rows go through. -/

set_option maxRecDepth 16384

noncomputable section

namespace Cert.Kernel4Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

set_option maxHeartbeats 1600000 in
/-- The body at such a point, on any staging buffers: what its stores leave in the outputs' buffers, as lists of pieces the run finds. -/
def runFirst (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S1024x4096 .bf16) (harg5 : arg5.IsWhole)
    (arg6 : Memref sig .tc .vmem S512x1024 .f32) (harg6 : arg6.IsWhole)
    (arg7 : Memref sig .tc .vmem S1x1024 .f32) (harg7 : arg7.IsWhole)
    (arg8 : Memref sig .tc .vmem S512x1024 .f32) (harg8 : arg8.IsWhole)
    (arg9 : Memref sig .tc .vmem S512x1024 .f32) (harg9 : arg9.IsWhole)
    (arg10 : Memref sig .tc .vmem S1x1024 .f32) (harg10 : arg10.IsWhole)
    (arg11 : Memref sig .tc .vmem S1x4096 .f32) (harg11 : arg11.IsWhole)
    (hc : clears i)
    (x0 : Vec F S512x1024 .f32)
    (x1 : Vec F S512x1024 .f32)
    (x2 : Vec F S512x1024 .f32)
    (x3 : Vec F S512x1024 .f32)
    (x4 : Vec F S1024x4096 .bf16)
    (x5 : Vec F S512x1024 .f32)
    (x6 : Vec F S1x1024 .f32)
    (x7 : Vec F S512x1024 .f32) :
    Σ' (L8 : List (View.Piece (Elt F) S512x1024 .f32)),
    Σ' (L9 : List (View.Piece (Elt F) S1x1024 .f32)),
    { L10 : List (View.Piece (Elt F) S1x4096 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f L10)) -∗ K ⟨⟩))
          ⊢ wp frame (wpE (defs₀ (F := F)) Variants.none c none) E
              (cc0_rec_in_bwd i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_rec_in_bwd_eq_skeleton]; unfold cc0_rec_in_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; iexact H10

end Cert.Kernel4Ideal.Val

end
-- ==== Proof.Rec.RunRest.lean ====
module

public import proofs.«01_k».proof.Proof.Rec.Points

@[expose] public section

/-! A later point: its rows go through, the scale's gradient goes on from what the point before left, and the third row is not touched. -/

set_option maxRecDepth 16384

noncomputable section

namespace Cert.Kernel4Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

set_option maxHeartbeats 1600000 in
/-- The body at such a point, on any staging buffers: what its stores leave in the outputs' buffers, as lists of pieces the run finds. -/
def runRest (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S1024x4096 .bf16) (harg5 : arg5.IsWhole)
    (arg6 : Memref sig .tc .vmem S512x1024 .f32) (harg6 : arg6.IsWhole)
    (arg7 : Memref sig .tc .vmem S1x1024 .f32) (harg7 : arg7.IsWhole)
    (arg8 : Memref sig .tc .vmem S512x1024 .f32) (harg8 : arg8.IsWhole)
    (arg9 : Memref sig .tc .vmem S512x1024 .f32) (harg9 : arg9.IsWhole)
    (arg10 : Memref sig .tc .vmem S1x1024 .f32) (harg10 : arg10.IsWhole)
    (arg11 : Memref sig .tc .vmem S1x4096 .f32) (harg11 : arg11.IsWhole)
    (hc : ¬clears i)
    (x0 : Vec F S512x1024 .f32)
    (x1 : Vec F S512x1024 .f32)
    (x2 : Vec F S512x1024 .f32)
    (x3 : Vec F S512x1024 .f32)
    (x4 : Vec F S1024x4096 .bf16)
    (x5 : Vec F S512x1024 .f32)
    (x6 : Vec F S1x1024 .f32)
    (x7 : Vec F S512x1024 .f32)
    (xo9 : Vec F S1x1024 .f32) :
    Σ' (L8 : List (View.Piece (Elt F) S512x1024 .f32)),
    { L9 : List (View.Piece (Elt F) S1x1024 .f32) //
      ∀ (xi10 : Vec F S1x4096 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ (∃ d, owns (c : Thread nD τ) arg9 fullShare d)
            ∗ owns (c : Thread nD τ) arg10 fullShare xo9
            ∗ owns (c : Thread nD τ) arg11 fullShare xi10
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ owns (c : Thread nD τ) arg11 fullShare xi10) -∗ K ⟨⟩))
          ⊢ wp frame (wpE (defs₀ (F := F)) Variants.none c none) E
              (cc0_rec_in_bwd i arg1 harg1 arg2 harg2 arg3 harg3 arg4 harg4 arg5 harg5 arg6 harg6 arg7 harg7 arg8 harg8 arg9 harg9 arg10 harg10 arg11 harg11) K } := by
  refine ⟨?_, ?_, fun xi10 E K => ?run⟩
  case run =>
    simp only [cc0_rec_in_bwd_eq_skeleton]; unfold cc0_rec_in_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _; isplitr; · ipureintro; exact harg11.read_unread _
    iexact H10

end Cert.Kernel4Ideal.Val

end
-- ==== Proof.Rec.Steps.lean ====
module

public import proofs.«01_k».proof.Proof.Rec.RunFirst
public import proofs.«01_k».proof.Proof.Rec.RunRest
public import Idealize.ShloMosaic.Lib.Pipeline.TableIdle

@[expose] public section

/-! What the three output buffers of the recurrent layer's gradient kernel hold after each of its 16 points, as one state that
each point maps to the next. -/

set_option maxRecDepth 16384

noncomputable section

namespace Cert.Kernel4Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ)

theorem lt_16 (t : Fin cfg0.N) : t.val < 16 := lt_of_lt_of_eq t.isLt (show cfg0.N = 16 from N_0)

/-! ## Where the third output, which only the first point stores into, is touched and written back -/

theorem db_live : ∀ t : Fin cfg0.N, t.val = 0 → cfg0.idle 10 (grid0.coords t) = false := by decide +kernel
theorem db_idle : ∀ t : Fin cfg0.N, t.val ≠ 0 → cfg0.idle 10 (grid0.coords t) = true := by decide +kernel
theorem db_flush : ∀ t : Fin cfg0.N, (cfg0.win 10).flush t = decide (t.val = 15) := by decide +kernel

/-- Nothing has been stored into an accumulated row only before the first point, and after the last has been written back. -/
def rowFresh : ℕ → Bool := fun n => n == 0 || n == 16
theorem rowFresh_step9 : ∀ t : Fin cfg0.N,
    rowFresh (t.val + 1) = ((cfg0.win 9).flush t || (cfg0.idle 9 (cfg0.grid.coords t) && rowFresh t.val)) := by decide +kernel
theorem rowFresh_step10 : ∀ t : Fin cfg0.N,
    rowFresh (t.val + 1) = ((cfg0.win 10).flush t || (cfg0.idle 10 (cfg0.grid.coords t) && rowFresh t.val)) := by decide +kernel
theorem rowFresh_false (t : Fin cfg0.N) (h : t.val ≠ 0) : rowFresh t.val = false := by
  have := lt_16 t
  unfold rowFresh
  simp only [Bool.or_eq_false_iff, beq_eq_false_iff_ne]
  omega
theorem dpw_notFresh (t : Fin cfg0.N) (h : t.val ≠ 0) : cfg0.fresh 9 t.val = false := by
  rw [Pipeline.Cfg.fresh_tab cfg0 9 rowFresh rfl rowFresh_step9 t.val (Nat.le_of_lt t.isLt)]; exact rowFresh_false t h
theorem db_notFresh (t : Fin cfg0.N) (h : t.val ≠ 0) : cfg0.fresh 10 t.val = false := by
  rw [Pipeline.Cfg.fresh_tab cfg0 10 rowFresh rfl rowFresh_step10 t.val (Nat.le_of_lt t.isLt)]; exact rowFresh_false t h

/-! ## The state -/

/-- What the output buffers hold between two points: the block of the tokens' gradient, the scale's gradient and the third row. -/
structure St (F : FTy → Type) where
  dx : Vec F S512x1024 .f32
  dpw : Vec F S1x1024 .f32
  db : Vec F S1x4096 .f32

/-- A buffer's contents after a list of stores that cover it, read through any whole view: over junk. -/
def rd {κ : Kind} {sp : Space} {S : Shape} (V : View sig κ sp S .f32) (L : List (View.Piece (Elt F) S .f32)) : Vec F S .f32 :=
  V.read (Elt F) (V.writes (Elt F) V.junk L)

theorem read_rd {κ κ' : Kind} {sp sp' : Space} {S : Shape} (V : View sig κ sp S .f32) (V' : View sig κ' sp' S .f32) (f) (L : List (View.Piece (Elt F) S .f32))
    (h : ∀ y : S.Idx, ∃ pc ∈ L, y ∈ pc.1.set) : V'.read (Elt F) (V'.writes (Elt F) f L) = rd V L :=
  View.read_writes_of_cover _ _ _ _ _ h

abbrev Vdx : View sig .tc .vmem S512x1024 .f32 := (Memref.whole cc0_stg8_0 : Memref sig .tc .vmem S512x1024 .f32).view
abbrev Vdpw : View sig .tc .vmem S1x1024 .f32 := (Memref.whole cc0_stg9_0 : Memref sig .tc .vmem S1x1024 .f32).view
abbrev Vdb : View sig .tc .vmem S1x4096 .f32 := (Memref.whole cc0_stg10_0 : Memref sig .tc .vmem S1x4096 .f32).view

/-- The run at point `t`, at the point's buffers and blocks. -/
def atFirst (c : Dev nD) (t : Fin cfg0.N) (h : t.val = 0) :=
  runFirst (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t)
    ((clears_iff t).mpr h)
    (iblk m c 0 t) (iblk m c 1 t) (iblk m c 2 t) (iblk m c 3 t) (iblk m c 4 t) (iblk m c 5 t) (iblk m c 6 t) (iblk m c 7 t)

/-- The run at point `t`, at the point's buffers and blocks and the state `s` before it. -/
def atRest (c : Dev nD) (t : Fin cfg0.N) (h : t.val ≠ 0) (s : St F) :=
  runRest (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t)
    (fun hc => h ((clears_iff t).mp hc))
    (iblk m c 0 t) (iblk m c 1 t) (iblk m c 2 t) (iblk m c 3 t) (iblk m c 4 t) (iblk m c 5 t) (iblk m c 6 t) (iblk m c 7 t) s.dpw

/-! ## Every buffer is covered by the stores of the points that store into it -/

theorem coverFirst_dx (c : Dev nD) (t : Fin cfg0.N) (h : t.val = 0) (y : S512x1024.Idx) :
    ∃ pc ∈ (atFirst m c t h).1, y ∈ pc.1.set :=
  View.cover_of_tiledL (atFirst m c t h).1 S512x1024.size (by sl_kernel_rfl) y
theorem coverFirst_dpw (c : Dev nD) (t : Fin cfg0.N) (h : t.val = 0) (y : S1x1024.Idx) :
    ∃ pc ∈ (atFirst m c t h).2.1, y ∈ pc.1.set :=
  View.cover_of_tiledL (atFirst m c t h).2.1 S1x1024.size (by sl_kernel_rfl) y
theorem coverFirst_db (c : Dev nD) (t : Fin cfg0.N) (h : t.val = 0) (y : S1x4096.Idx) :
    ∃ pc ∈ (atFirst m c t h).2.2.1, y ∈ pc.1.set :=
  View.cover_of_tiledL (atFirst m c t h).2.2.1 S1x4096.size (by sl_kernel_rfl) y
theorem coverRest_dx (c : Dev nD) (t : Fin cfg0.N) (h : t.val ≠ 0) (s : St F) (y : S512x1024.Idx) :
    ∃ pc ∈ (atRest m c t h s).1, y ∈ pc.1.set :=
  View.cover_of_tiledL (atRest m c t h s).1 S512x1024.size (by sl_kernel_rfl) y
theorem coverRest_dpw (c : Dev nD) (t : Fin cfg0.N) (h : t.val ≠ 0) (s : St F) (y : S1x1024.Idx) :
    ∃ pc ∈ (atRest m c t h s).2.1, y ∈ pc.1.set :=
  View.cover_of_tiledL (atRest m c t h s).2.1 S1x1024.size (by sl_kernel_rfl) y

/-! ## The state after a point -/

def nextFirst (c : Dev nD) (t : Fin cfg0.N) (h : t.val = 0) : St F where
  dx := rd Vdx (atFirst m c t h).1
  dpw := rd Vdpw (atFirst m c t h).2.1
  db := rd Vdb (atFirst m c t h).2.2.1
theorem nextFirst_dx (c : Dev nD) (t : Fin cfg0.N) (h : t.val = 0) : (nextFirst m c t h).dx = rd Vdx (atFirst m c t h).1 := by
  with_reducible exact (nextFirst.eq_1 m c t h ▸ rfl)
theorem nextFirst_dpw (c : Dev nD) (t : Fin cfg0.N) (h : t.val = 0) : (nextFirst m c t h).dpw = rd Vdpw (atFirst m c t h).2.1 := by
  with_reducible exact (nextFirst.eq_1 m c t h ▸ rfl)
theorem nextFirst_db (c : Dev nD) (t : Fin cfg0.N) (h : t.val = 0) : (nextFirst m c t h).db = rd Vdb (atFirst m c t h).2.2.1 := by
  with_reducible exact (nextFirst.eq_1 m c t h ▸ rfl)

def nextRest (c : Dev nD) (t : Fin cfg0.N) (h : t.val ≠ 0) (s : St F) : St F where
  dx := rd Vdx (atRest m c t h s).1
  dpw := rd Vdpw (atRest m c t h s).2.1
  db := s.db
theorem nextRest_dx (c : Dev nD) (t : Fin cfg0.N) (h : t.val ≠ 0) (s : St F) : (nextRest m c t h s).dx = rd Vdx (atRest m c t h s).1 := by
  with_reducible exact (nextRest.eq_1 m c t h s ▸ rfl)
theorem nextRest_dpw (c : Dev nD) (t : Fin cfg0.N) (h : t.val ≠ 0) (s : St F) : (nextRest m c t h s).dpw = rd Vdpw (atRest m c t h s).2.1 := by
  with_reducible exact (nextRest.eq_1 m c t h s ▸ rfl)
theorem nextRest_db (c : Dev nD) (t : Fin cfg0.N) (h : t.val ≠ 0) (s : St F) : (nextRest m c t h s).db = s.db := by
  with_reducible exact (nextRest.eq_1 m c t h s ▸ rfl)

/-- THE STATE after point `n`. -/
def stAt (c : Dev nD) : (n : ℕ) → n < cfg0.N → St F
  | 0, hn => nextFirst m c ⟨0, hn⟩ rfl
  | n + 1, hn => nextRest m c ⟨n + 1, hn⟩ (Nat.succ_ne_zero n) (stAt c n (Nat.lt_of_succ_lt hn))

/-- The state before point `t`, for a point that is not the first. -/
def stPre (c : Dev nD) (t : Fin cfg0.N) : St F := stAt m c (t.val - 1) (Nat.lt_of_le_of_lt (Nat.sub_le _ _) t.isLt)

theorem stAt_first (c : Dev nD) (t : Fin cfg0.N) (h : t.val = 0) : stAt m c t.val t.isLt = nextFirst m c t h := by
  obtain ⟨n, hn⟩ := t
  obtain rfl : n = 0 := h
  rfl
theorem stAt_rest (c : Dev nD) (t : Fin cfg0.N) (h : t.val ≠ 0) : stAt m c t.val t.isLt = nextRest m c t h (stPre m c t) := by
  obtain ⟨n, hn⟩ := t
  cases n with
  | zero => exact absurd rfl h
  | succ n => rfl

/-! ## The body at a point, from state to state -/

/-- The input windows' buffers at point `t`, each at its block. -/
def ins (c : Dev nD) (t : Fin cfg0.N) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t))

set_option maxHeartbeats 1600000 in
theorem stepFirst (c : Dev nD) (t : Fin cfg0.N) (h : t.val = 0) (K : PUnit → sProp 𝕄) :
    iprop(ins m c t ∗ (∃ d, owns (c : Thread nD τ) (ms0_8 t) fullShare d)
        ∗ (∃ d, owns (c : Thread nD τ) (ms0_9 t) fullShare d)
        ∗ (∃ d, owns (c : Thread nD τ) (ms0_10 t) fullShare d)
        ∗ (iprop(ins m c t ∗ owns (c : Thread nD τ) (ms0_8 t) fullShare (nextFirst m c t h).dx
            ∗ owns (c : Thread nD τ) (ms0_9 t) fullShare (nextFirst m c t h).dpw
            ∗ owns (c : Thread nD τ) (ms0_10 t) fullShare (nextFirst m c t h).db) -∗ K ⟨⟩))
      ⊢ wp frame (wpE (defs₀ (F := F)) Variants.none c none) Set.univ (bodyAt0 t) K := by
  unfold ins bodyAt0
  iintro ⟨⟨H0, H1, H2, H3, H4, H5, H6, H7⟩, H8, H9, H10, Hk⟩
  iapply ((atFirst m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, ⟨%e8, H8⟩, ⟨%e9, H9⟩, ⟨%e10, H10⟩⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · unfold owns; iexists _; isplitr
    swap; · iexact H8
    ipureintro; rw [nextFirst_dx]; with_reducible exact read_rd Vdx _ _ _ (coverFirst_dx m c t h)
  isplitl [H9]
  · unfold owns; iexists _; isplitr
    swap; · iexact H9
    ipureintro; rw [nextFirst_dpw]; with_reducible exact read_rd Vdpw _ _ _ (coverFirst_dpw m c t h)
  unfold owns; iexists _; isplitr
  swap; · iexact H10
  ipureintro; rw [nextFirst_db]; with_reducible exact read_rd Vdb _ _ _ (coverFirst_db m c t h)

set_option maxHeartbeats 1600000 in
theorem stepRest (c : Dev nD) (t : Fin cfg0.N) (h : t.val ≠ 0) (s : St F) (K : PUnit → sProp 𝕄) :
    iprop(ins m c t ∗ (∃ d, owns (c : Thread nD τ) (ms0_8 t) fullShare d)
        ∗ owns (c : Thread nD τ) (ms0_9 t) fullShare s.dpw
        ∗ owns (c : Thread nD τ) (ms0_10 t) fullShare s.db
        ∗ (iprop(ins m c t ∗ owns (c : Thread nD τ) (ms0_8 t) fullShare (nextRest m c t h s).dx
            ∗ owns (c : Thread nD τ) (ms0_9 t) fullShare (nextRest m c t h s).dpw
            ∗ owns (c : Thread nD τ) (ms0_10 t) fullShare s.db) -∗ K ⟨⟩))
      ⊢ wp frame (wpE (defs₀ (F := F)) Variants.none c none) Set.univ (bodyAt0 t) K := by
  unfold ins bodyAt0
  iintro ⟨⟨H0, H1, H2, H3, H4, H5, H6, H7⟩, H8, H9, H10, Hk⟩
  iapply ((atRest m c t h s).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, ⟨%e8, H8⟩, ⟨%e9, H9⟩, H10⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · unfold owns; iexists _; isplitr
    swap; · iexact H8
    ipureintro; rw [nextRest_dx]; with_reducible exact read_rd Vdx _ _ _ (coverRest_dx m c t h s)
  isplitl [H9]
  · unfold owns; iexists _; isplitr
    swap; · iexact H9
    ipureintro; rw [nextRest_dpw]; with_reducible exact read_rd Vdpw _ _ _ (coverRest_dpw m c t h s)
  iexact H10

end Cert.Kernel4Ideal.Val

end
-- ==== Proof.Rec.Launch.lean ====
module

public import proofs.«01_k».proof.Proof.Rec.Steps
public import Idealize.ShloMosaic.Lib.Claim

@[expose] public section

/-! The launch of the recurrent layer's gradient kernel with its results named: the pipeline runs, and its output arrays end
holding what the states of the points wrote back. -/

set_option maxRecDepth 16384

noncomputable section

namespace Cert.Kernel4Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data on core `c`: inputs at their blocks, the outputs at the state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).dx
    | ⟨9, _⟩ => (stAt m c t.val t.isLt).dpw
    | ⟨10, _⟩ => (stAt m c t.val t.isLt).db
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (stAt m c t.val t.isLt).dx := by dsimp only [dats]
theorem after_9 (c : Dev nD) (t : Fin cfg0.N) : (dats m 0 c).after 9 t = (stAt m c t.val t.isLt).dpw := by dsimp only [dats]
theorem after_10 (c : Dev nD) (t : Fin cfg0.N) : (dats m 0 c).after 10 t = (stAt m c t.val t.isLt).db := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem leaves_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [live_0 t], after_0]
theorem leaves_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [live_1 t], after_1]
theorem leaves_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [live_2 t], after_2]
theorem leaves_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [live_3 t], after_3]
theorem leaves_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [live_4 t], after_4]
theorem leaves_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [live_5 t], after_5]
theorem leaves_6 (c : Dev nD) (t : Fin cfg0.N) :
    (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [live_6 t], after_6]
theorem leaves_7 (c : Dev nD) (t : Fin cfg0.N) :
    (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [live_7 t], after_7]
theorem leaves_8 (c : Dev nD) (t : Fin cfg0.N) :
    (dats m 0 c).leavesExact 8 t = owns (c : Thread nD τ) (ms0_8 t) fullShare (stAt m c t.val t.isLt).dx := by
  rw [show (dats m 0 c).leavesExact 8 t = owns (c : Thread nD τ) (ms0_8 t) fullShare ((dats m 0 c).after 8 t) from by
    unfold Dat.leavesExact; rw [live_8 t], after_8]
theorem leaves_9 (c : Dev nD) (t : Fin cfg0.N) :
    (dats m 0 c).leavesExact 9 t = owns (c : Thread nD τ) (ms0_9 t) fullShare (stAt m c t.val t.isLt).dpw := by
  rw [show (dats m 0 c).leavesExact 9 t = owns (c : Thread nD τ) (ms0_9 t) fullShare ((dats m 0 c).after 9 t) from by
    unfold Dat.leavesExact; rw [live_9 t], after_9]

/-- The scale's gradient before a later point is the state's. -/
theorem dpw_before (c : Dev nD) (t : Fin cfg0.N) (hz : t.val ≠ 0) (d) : (dats m 0 c).before 9 t d = (stPre m c t).dpw := by
  rw [Dat.before_out_traj _ 9 rfl (fun _ _ => rfl)
    (fun t _ hi _ => absurd (hi.symm.trans (live_9 t)) (by decide)) t.val t rfl d,
    if_neg (by rw [dpw_notFresh t hz]; exact Bool.false_ne_true)]
  dsimp only [dats]; rfl

/-- The third row is carried through the later points. -/
theorem db_carry (c : Dev nD) (t : Fin cfg0.N) (hz : t.val ≠ 0) :
    (dats m 0 c).after 10 t = (dats m 0 c).after 10 ⟨t.val - 1, by omega⟩ := by
  rw [after_10, after_10, stAt_rest m c t hz, nextRest_db]; unfold stPre; with_reducible rfl

theorem db_before (c : Dev nD) (t : Fin cfg0.N) (hz : t.val ≠ 0) (d) : (dats m 0 c).before 10 t d = (stPre m c t).db := by
  rw [Dat.before_out_traj _ 10 rfl (fun _ _ => rfl) (fun t hz _ _ => db_carry m c t hz) t.val t rfl d,
    if_neg (by rw [db_notFresh t hz]; exact Bool.false_ne_true)]
  dsimp only [dats]; rfl

theorem db_leaves_first (c : Dev nD) (t : Fin cfg0.N) (h : t.val = 0) :
    (dats m 0 c).leavesExact 10 t = owns (c : Thread nD τ) (ms0_10 t) fullShare (stAt m c t.val t.isLt).db := by
  rw [show (dats m 0 c).leavesExact 10 t = owns (c : Thread nD τ) (ms0_10 t) fullShare ((dats m 0 c).after 10 t) from by
    unfold Dat.leavesExact; rw [db_live t h], after_10]

/-- A later point may hand the third row back as it found it: untouched, or about to be written back. -/
theorem db_leaves_rest (c : Dev nD) (t : Fin cfg0.N) (h : t.val ≠ 0) :
    owns (c : Thread nD τ) (ms0_10 t) fullShare (stPre m c t).db ⊢ (dats m 0 c).leavesExact 10 t := by
  by_cases hl : t.val = 15
  · rw [show (dats m 0 c).leavesExact 10 t = owns (c : Thread nD τ) (ms0_10 t) fullShare ((dats m 0 c).after 10 t) from by
      unfold Dat.leavesExact; rw [db_idle t h, db_flush t, decide_eq_true hl], after_10, stAt_rest m c t h, nextRest_db]
  · rw [Dat.leavesExact_idle (dats m 0 c) 10 t (db_idle t h) (by rw [db_flush t, decide_eq_false hl])]
    iintro H
    iexists default
    rw [db_before m c t h]
    iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The same with the inputs' buffers at their blocks, and the rest as one. -/
theorem bodyPre_ins (c : Dev nD) (t : Fin cfg0.N) :
    bodyPre m c t ⊢ iprop(Pipeline.ΦA spec0 c ∗ (dats m 0 c).owesAt () t.castSucc ∗ ins m c t
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))) := by
  unfold bodyPre ins
  rw [show (dats m 0 c).Φ t.castSucc = Pipeline.ΦA spec0 c from rfl]
  simp only [before_0, before_1, before_2, before_3, before_4, before_5, before_6, before_7]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  isplitl [HP]; · iexact HP
  isplitl [Ho]; · iexact Ho
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  iexact H10

theorem bodyPost_ins (c : Dev nD) (t : Fin cfg0.N) :
    iprop(Pipeline.ΦA spec0 c ∗ (dats m 0 c).owesAt () t.castSucc ∗ ins m c t
      ∗ owns (c : Thread nD τ) (ms0_8 t) fullShare (stAt m c t.val t.isLt).dx
      ∗ owns (c : Thread nD τ) (ms0_9 t) fullShare (stAt m c t.val t.isLt).dpw ∗ (dats m 0 c).leavesExact 10 t) ⊢ bodyPost m c t := by
  unfold bodyPost ins
  rw [show (dats m 0 c).owesAt () t.succ = (dats m 0 c).owesAt () t.castSucc from rfl]
  rw [show (dats m 0 c).Φ t.succ = Pipeline.ΦA spec0 c from rfl]
  rw [leaves_0, leaves_1, leaves_2, leaves_3, leaves_4, leaves_5, leaves_6, leaves_7, leaves_8, leaves_9]
  iintro ⟨HP, Ho, ⟨H0, H1, H2, H3, H4, H5, H6, H7⟩, H8, H9, H10⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem sound_body (c : Dev nD) (t : Fin cfg0.N) :
    bodyPre m c t ⊢ wp frame (wpE (defs₀ (F := F)) Variants.none c none) Set.univ (bodyAt0 t) (fun _ => bodyPost m c t) := by
  refine (bodyPre_ins m c t).trans ?_
  by_cases h : t.val = 0
  · iintro ⟨HP, Ho, HI, ⟨%d8, H8⟩, ⟨%d9, H9⟩, ⟨%d10, H10⟩⟩
    iapply (stepFirst m c t h _)
    isplitl [HI]; · iexact HI
    isplitl [H8]; · iexists _; iexact H8
    isplitl [H9]; · iexists _; iexact H9
    isplitl [H10]; · iexists _; iexact H10
    iintro ⟨HI, H8, H9, H10⟩
    iapply (bodyPost_ins m c t)
    rw [db_leaves_first m c t h, stAt_first m c t h]
    isplitl [HP]; · iexact HP
    isplitl [Ho]; · iexact Ho
    isplitl [HI]; · iexact HI
    isplitl [H8]; · iexact H8
    isplitl [H9]; · iexact H9
    iexact H10
  · iintro ⟨HP, Ho, HI, ⟨%d8, H8⟩, ⟨%d9, H9⟩, ⟨%d10, H10⟩⟩
    rw [dpw_before m c t h, db_before m c t h]
    iapply (stepRest m c t h (stPre m c t) _)
    isplitl [HI]; · iexact HI
    isplitl [H8]; · iexists _; iexact H8
    isplitl [H9]; · iexact H9
    isplitl [H10]; · iexact H10
    iintro ⟨HI, H8, H9, H10⟩
    iapply (bodyPost_ins m c t)
    rw [stAt_rest m c t h]
    isplitl [HP]; · iexact HP
    isplitl [Ho]; · iexact Ho
    isplitl [HI]; · iexact HI
    isplitl [H8]; · iexact H8
    isplitl [H9]; · iexact H9
    iapply (db_leaves_rest m c t h); iexact H10

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: from any memory the kernel's program ends with every array of the pipeline at what the states give, and
every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
      (hbody := fun c => (body_obligation m c).loose) (hshare := fun c => (dats m 0 c).share_full fun _ => rfl)
      (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ))
    ((θ_run defs _ _).mono (fun _ h => h.2) (run_quiescent m ρ))

end Cert.Kernel4Ideal.Val

end
-- ==== Proof.Norm.P4.lean ====
/-
  The gradient of the recurrent layer's input norm and projection: what the two result arrays hold, and that this is the reference's.
-/
module

public import proofs.«01_k».proof.Defs
public import proofs.«01_k».proof.Proof.Rec.Launch
public import proofs.«01_k».proof.Proof.Gen.Reference4Ideal.Run
public import proofs.«01_k».proof.Proof.Gen.Reference4Ideal.Read
public import proofs.«01_k».proof.Proof.Norm.Back
public import proofs.«01_k».proof.Proof.Norm.Store
public import Idealize.ShloMosaic.Lib.Pipeline.ValueKit.Acc
public import Idealize.ShloMosaic.Lib.Quiescent

@[expose] public section

noncomputable section

namespace Cert.Kernel4Ideal.Norm

open Cert.Kernel4Ideal Cert.Kernel4Ideal.Gen Cert.Kernel4Ideal.Val Idealize.ShloMosaic Idealize.ShloMosaic.TcCoe Idealize.SL.Sem
open Cert.Norm

theorem zeros2 : (![0, 0] : Fin 2 → Nat) = fun _ => 0 := by
  funext a; match a with | ⟨0, _⟩ => rfl | ⟨1, _⟩ => rfl

/-! ## The body -/

/-- The gradient of the normalised and scaled row: a row of the four pieces of the projection's gradient times the weights. -/
def dh {n : Nat} (x0 x1 x2 x3 : (⟨2, ![n, 1024]⟩ : Shape).Idx → EReal) (w : (⟨2, ![1024, 4096]⟩ : Shape).Idx → EReal) (r : Fin n) (k : Fin 1024) : EReal :=
  ((∑ j : Fin 1024, x0 (ix2 r j) * w (ix2 k ⟨j.val, by omega⟩)) + (∑ j : Fin 1024, x1 (ix2 r j) * w (ix2 k ⟨1024 + j.val, by omega⟩))) + (∑ j : Fin 1024, x2 (ix2 r j) * w (ix2 k ⟨2048 + j.val, by omega⟩))
    + (∑ j : Fin 1024, x3 (ix2 r j) * w (ix2 k ⟨3072 + j.val, by omega⟩))

theorem dh_apply (x0 x1 x2 x3 : Vec Ideal S512x1024 .f32) (x4 : Vec Ideal S1024x4096 .bf16) (r : Fin 512) (k : Fin 1024) :
    (k0_pay7 (F := Ideal) x0 (View.ld (Val := Elt Ideal) x4 (Rect.unit (s := S1024x4096) ![0, 0] S1024x1024.size inb_S1024x4096_S1024x1024_0_0)) x1 (View.ld (Val := Elt Ideal) x4 (Rect.unit (s := S1024x4096) ![0, 1024] S1024x1024.size inb_S1024x4096_S1024x1024_0_1024)) x2 (View.ld (Val := Elt Ideal) x4 (Rect.unit (s := S1024x4096) ![0, 2048] S1024x1024.size inb_S1024x4096_S1024x1024_0_2048)) x3 (View.ld (Val := Elt Ideal) x4 (Rect.unit (s := S1024x4096) ![0, 3072] S1024x1024.size inb_S1024x4096_S1024x1024_0_3072))) (ix2 r k) = dh x0 x1 x2 x3 x4 r k := by
  unfold dh
  pointwise [k0_pay7]

/-- A block of the tokens' gradient. -/
theorem dx_apply (x0 x1 x2 x3 : Vec Ideal S512x1024 .f32) (x4 : Vec Ideal S1024x4096 .bf16) (x5 : Vec Ideal S512x1024 .f32) (x6 : Vec Ideal S1x1024 .f32) (x7 : Vec Ideal S512x1024 .f32) (r : Fin 512) (l : Fin 1024) :
    k0_pay4 (F := Ideal) (k0_pay7 (F := Ideal) x0 (View.ld (Val := Elt Ideal) x4 (Rect.unit (s := S1024x4096) ![0, 0] S1024x1024.size inb_S1024x4096_S1024x1024_0_0)) x1 (View.ld (Val := Elt Ideal) x4 (Rect.unit (s := S1024x4096) ![0, 1024] S1024x1024.size inb_S1024x4096_S1024x1024_0_1024)) x2 (View.ld (Val := Elt Ideal) x4 (Rect.unit (s := S1024x4096) ![0, 2048] S1024x1024.size inb_S1024x4096_S1024x1024_0_2048)) x3 (View.ld (Val := Elt Ideal) x4 (Rect.unit (s := S1024x4096) ![0, 3072] S1024x1024.size inb_S1024x4096_S1024x1024_0_3072))) x5 (k0_pay8 x5) (Scalar.ofBits (F := Ideal) .f32 0x358637BD#32) x6 x7 (ix2 r l)
      = x7 (ix2 r l) + back (fun k => x5 (ix2 r k)) (fun k => dh x0 x1 x2 x3 x4 r k * x6 (ix2 0 k)) l := by
  pointwise [k0_pay4, k0_pay2, k0_pay1, k0_pay8]
  simp only [dh_apply]
  rfl

theorem dpw_apply (x0 x1 x2 x3 : Vec Ideal S512x1024 .f32) (x4 : Vec Ideal S1024x4096 .bf16) (x5 : Vec Ideal S512x1024 .f32) (xo : Vec Ideal S1x1024 .f32) (l : Fin 1024) :
    k0_pay3 (F := Ideal) (k0_pay7 (F := Ideal) x0 (View.ld (Val := Elt Ideal) x4 (Rect.unit (s := S1024x4096) ![0, 0] S1024x1024.size inb_S1024x4096_S1024x1024_0_0)) x1 (View.ld (Val := Elt Ideal) x4 (Rect.unit (s := S1024x4096) ![0, 1024] S1024x1024.size inb_S1024x4096_S1024x1024_0_1024)) x2 (View.ld (Val := Elt Ideal) x4 (Rect.unit (s := S1024x4096) ![0, 2048] S1024x1024.size inb_S1024x4096_S1024x1024_0_2048)) x3 (View.ld (Val := Elt Ideal) x4 (Rect.unit (s := S1024x4096) ![0, 3072] S1024x1024.size inb_S1024x4096_S1024x1024_0_3072))) x5 (k0_pay8 x5) (Scalar.ofBits (F := Ideal) .f32 0x358637BD#32) xo (ix2 0 l)
      = xo (ix2 0 l) + ∑ r : Fin 512, dh x0 x1 x2 x3 x4 r l * (x5 (ix2 r l) * inv (fun k => x5 (ix2 r k))) := by
  pointwise [k0_pay3, k0_pay2, k0_pay1, k0_pay8]
  simp only [dh_apply]
  rfl

/-! ## The blocks of the arguments -/

variable (m : (ℓ : Loc nD τ sig) → Buf (Elt Ideal) ℓ)

abbrev arr0 (c : Dev nD) : Vec Ideal S8192x1024 .f32 := m ((c : Thread nD τ).loc main_arg0)
abbrev arr1 (c : Dev nD) : Vec Ideal S8192x1024 .f32 := m ((c : Thread nD τ).loc main_arg1)
abbrev arr2 (c : Dev nD) : Vec Ideal S8192x1024 .f32 := m ((c : Thread nD τ).loc main_arg2)
abbrev arr3 (c : Dev nD) : Vec Ideal S8192x1024 .f32 := m ((c : Thread nD τ).loc main_arg3)
abbrev arr4 (c : Dev nD) : Vec Ideal S1024x4096 .bf16 := m ((c : Thread nD τ).loc main_arg4)
abbrev arr5 (c : Dev nD) : Vec Ideal S8192x1024 .f32 := m ((c : Thread nD τ).loc main_arg5)
abbrev arr6 (c : Dev nD) : Vec Ideal S1x1024 .f32 := m ((c : Thread nD τ).loc main_arg6)
abbrev arr7 (c : Dev nD) : Vec Ideal S8192x1024 .f32 := m ((c : Thread nD τ).loc main_arg7)

theorem win_facts : ∀ t : Fin cfg0.N, win0_0.index t (0 : Fin 2) = t.val ∧ win0_0.index t (1 : Fin 2) = 0 ∧ win0_1.index t (0 : Fin 2) = t.val ∧ win0_1.index t (1 : Fin 2) = 0 ∧ win0_2.index t (0 : Fin 2) = t.val ∧ win0_2.index t (1 : Fin 2) = 0 ∧ win0_3.index t (0 : Fin 2) = t.val ∧ win0_3.index t (1 : Fin 2) = 0 ∧ win0_4.index t (0 : Fin 2) = 0 ∧ win0_4.index t (1 : Fin 2) = 0 ∧ win0_5.index t (0 : Fin 2) = t.val ∧ win0_5.index t (1 : Fin 2) = 0 ∧ win0_6.index t (0 : Fin 2) = 0 ∧ win0_6.index t (1 : Fin 2) = 0 ∧ win0_7.index t (0 : Fin 2) = t.val ∧ win0_7.index t (1 : Fin 2) = 0 ∧ win0_8.index t (0 : Fin 2) = t.val ∧ win0_8.index t (1 : Fin 2) = 0 ∧ win0_9.index t (0 : Fin 2) = 0 ∧ win0_9.index t (1 : Fin 2) = 0 :=
  (by decide +kernel : ∀ t : Fin grid0.N, _)

theorem N16 (t : Fin cfg0.N) : t.val < 16 := lt_of_lt_of_eq t.isLt (show cfg0.N = 16 from N_0)

/-- Row `r` of point `t`'s block. -/
abbrev row (t : Fin cfg0.N) (r : Fin 512) : Fin 8192 := ⟨t.val * 512 + r.val, by have := N16 t; omega⟩

theorem blk0 (c : Dev nD) (t : Fin cfg0.N) (r : Fin 512) (l : Fin 1024) : iblk m c 0 t (ix2 r l) = arr0 m c (ix2 (row t r) l) := by
  have e := win_facts t
  show arr0 m c (((cfg0.win 0).blk t).view.emb (ix2 r l)) = _
  refine congrArg _ (funext fun a => Fin.ext ?_)
  match a with
  | ⟨0, _⟩ => show win0_0.index t (0 : Fin 2) * 512 + 1 * r.val = _; rw [e.1]; show _ = t.val * 512 + r.val; omega
  | ⟨1, _⟩ => show win0_0.index t (1 : Fin 2) * 1024 + 1 * l.val = l.val; rw [e.2.1]; omega

theorem blk1 (c : Dev nD) (t : Fin cfg0.N) (r : Fin 512) (l : Fin 1024) : iblk m c 1 t (ix2 r l) = arr1 m c (ix2 (row t r) l) := by
  have e := win_facts t
  show arr1 m c (((cfg0.win 1).blk t).view.emb (ix2 r l)) = _
  refine congrArg _ (funext fun a => Fin.ext ?_)
  match a with
  | ⟨0, _⟩ => show win0_1.index t (0 : Fin 2) * 512 + 1 * r.val = _; rw [e.2.2.1]; show _ = t.val * 512 + r.val; omega
  | ⟨1, _⟩ => show win0_1.index t (1 : Fin 2) * 1024 + 1 * l.val = l.val; rw [e.2.2.2.1]; omega

theorem blk2 (c : Dev nD) (t : Fin cfg0.N) (r : Fin 512) (l : Fin 1024) : iblk m c 2 t (ix2 r l) = arr2 m c (ix2 (row t r) l) := by
  have e := win_facts t
  show arr2 m c (((cfg0.win 2).blk t).view.emb (ix2 r l)) = _
  refine congrArg _ (funext fun a => Fin.ext ?_)
  match a with
  | ⟨0, _⟩ => show win0_2.index t (0 : Fin 2) * 512 + 1 * r.val = _; rw [e.2.2.2.2.1]; show _ = t.val * 512 + r.val; omega
  | ⟨1, _⟩ => show win0_2.index t (1 : Fin 2) * 1024 + 1 * l.val = l.val; rw [e.2.2.2.2.2.1]; omega

theorem blk3 (c : Dev nD) (t : Fin cfg0.N) (r : Fin 512) (l : Fin 1024) : iblk m c 3 t (ix2 r l) = arr3 m c (ix2 (row t r) l) := by
  have e := win_facts t
  show arr3 m c (((cfg0.win 3).blk t).view.emb (ix2 r l)) = _
  refine congrArg _ (funext fun a => Fin.ext ?_)
  match a with
  | ⟨0, _⟩ => show win0_3.index t (0 : Fin 2) * 512 + 1 * r.val = _; rw [e.2.2.2.2.2.2.1]; show _ = t.val * 512 + r.val; omega
  | ⟨1, _⟩ => show win0_3.index t (1 : Fin 2) * 1024 + 1 * l.val = l.val; rw [e.2.2.2.2.2.2.2.1]; omega

theorem blk4 (c : Dev nD) (t : Fin cfg0.N) (r : Fin 1024) (l : Fin 4096) : iblk m c 4 t (ix2 r l) = arr4 m c (ix2 (r) l) := by
  have e := win_facts t
  show arr4 m c (((cfg0.win 4).blk t).view.emb (ix2 r l)) = _
  refine congrArg _ (funext fun a => Fin.ext ?_)
  match a with
  | ⟨0, _⟩ => show win0_4.index t (0 : Fin 2) * 1024 + 1 * r.val = r.val; rw [e.2.2.2.2.2.2.2.2.1]; omega
  | ⟨1, _⟩ => show win0_4.index t (1 : Fin 2) * 4096 + 1 * l.val = l.val; rw [e.2.2.2.2.2.2.2.2.2.1]; omega

theorem blk5 (c : Dev nD) (t : Fin cfg0.N) (r : Fin 512) (l : Fin 1024) : iblk m c 5 t (ix2 r l) = arr5 m c (ix2 (row t r) l) := by
  have e := win_facts t
  show arr5 m c (((cfg0.win 5).blk t).view.emb (ix2 r l)) = _
  refine congrArg _ (funext fun a => Fin.ext ?_)
  match a with
  | ⟨0, _⟩ => show win0_5.index t (0 : Fin 2) * 512 + 1 * r.val = _; rw [e.2.2.2.2.2.2.2.2.2.2.1]; show _ = t.val * 512 + r.val; omega
  | ⟨1, _⟩ => show win0_5.index t (1 : Fin 2) * 1024 + 1 * l.val = l.val; rw [e.2.2.2.2.2.2.2.2.2.2.2.1]; omega

theorem blk6 (c : Dev nD) (t : Fin cfg0.N) (r : Fin 1) (l : Fin 1024) : iblk m c 6 t (ix2 r l) = arr6 m c (ix2 (r) l) := by
  have e := win_facts t
  show arr6 m c (((cfg0.win 6).blk t).view.emb (ix2 r l)) = _
  refine congrArg _ (funext fun a => Fin.ext ?_)
  match a with
  | ⟨0, _⟩ => show win0_6.index t (0 : Fin 2) * 1 + 1 * r.val = r.val; rw [e.2.2.2.2.2.2.2.2.2.2.2.2.1]; omega
  | ⟨1, _⟩ => show win0_6.index t (1 : Fin 2) * 1024 + 1 * l.val = l.val; rw [e.2.2.2.2.2.2.2.2.2.2.2.2.2.1]; omega

theorem blk7 (c : Dev nD) (t : Fin cfg0.N) (r : Fin 512) (l : Fin 1024) : iblk m c 7 t (ix2 r l) = arr7 m c (ix2 (row t r) l) := by
  have e := win_facts t
  show arr7 m c (((cfg0.win 7).blk t).view.emb (ix2 r l)) = _
  refine congrArg _ (funext fun a => Fin.ext ?_)
  match a with
  | ⟨0, _⟩ => show win0_7.index t (0 : Fin 2) * 512 + 1 * r.val = _; rw [e.2.2.2.2.2.2.2.2.2.2.2.2.2.2.1]; show _ = t.val * 512 + r.val; omega
  | ⟨1, _⟩ => show win0_7.index t (1 : Fin 2) * 1024 + 1 * l.val = l.val; rw [e.2.2.2.2.2.2.2.2.2.2.2.2.2.2.2.1]; omega

/-! ## What the outputs' blocks hold, point by point -/

/-- The blocks a point reads. -/
abbrev B0 (c : Dev nD) (t : Fin cfg0.N) : Vec Ideal S512x1024 .f32 := iblk m c 0 t
abbrev B1 (c : Dev nD) (t : Fin cfg0.N) : Vec Ideal S512x1024 .f32 := iblk m c 1 t
abbrev B2 (c : Dev nD) (t : Fin cfg0.N) : Vec Ideal S512x1024 .f32 := iblk m c 2 t
abbrev B3 (c : Dev nD) (t : Fin cfg0.N) : Vec Ideal S512x1024 .f32 := iblk m c 3 t
abbrev B4 (c : Dev nD) (t : Fin cfg0.N) : Vec Ideal S1024x4096 .bf16 := iblk m c 4 t
abbrev B5 (c : Dev nD) (t : Fin cfg0.N) : Vec Ideal S512x1024 .f32 := iblk m c 5 t
abbrev B6 (c : Dev nD) (t : Fin cfg0.N) : Vec Ideal S1x1024 .f32 := iblk m c 6 t
abbrev B7 (c : Dev nD) (t : Fin cfg0.N) : Vec Ideal S512x1024 .f32 := iblk m c 7 t
/-- The block the sum over the rows lies in after point `n`. -/
abbrev O9 (c : Dev nD) (n : Nat) (h : n < cfg0.N) : Vec Ideal S1x1024 .f32 := (stAt m c n h).dpw

theorem dx_pt (c : Dev nD) (t : Fin cfg0.N) (r : Fin 512) (l : Fin 1024) : (stAt m c t.val t.isLt).dx (ix2 r l)
    = B7 m c t (ix2 r l) + back (fun k => B5 m c t (ix2 r k)) (fun k => dh (B0 m c t) (B1 m c t) (B2 m c t) (B3 m c t) (B4 m c t) r k * B6 m c t (ix2 0 k)) l := by
  by_cases h0 : t.val = 0
  · rw [stAt_first m c t h0]; rw [nextFirst_dx]; unfold atFirst; frame_out; exact dx_apply ..
  · rw [stAt_rest m c t h0]; rw [nextRest_dx]; unfold atRest; frame_out; exact dx_apply ..

/-- One point's part of the scale's gradient. -/
def dpwPart (x0 x1 x2 x3 : Vec Ideal S512x1024 .f32) (x4 : Vec Ideal S1024x4096 .bf16) (x5 : Vec Ideal S512x1024 .f32) (l : Fin 1024) : EReal :=
  ∑ r : Fin 512, dh x0 x1 x2 x3 x4 r l * (x5 (ix2 r l) * inv (fun k => x5 (ix2 r k)))

theorem dpw_A (c : Dev nD) (t : Fin cfg0.N) (h : t.val % 16 = 0) (l : Fin 1024) : O9 m c t.val t.isLt (ix2 0 l)
    = 0 + dpwPart (B0 m c t) (B1 m c t) (B2 m c t) (B3 m c t) (B4 m c t) (B5 m c t) l := by
  have h0 : t.val = 0 := by have := lt_16 t; omega
  show (stAt m c t.val t.isLt).dpw (ix2 0 l) = _; rw [stAt_first m c t h0]
  rw [nextFirst_dpw]; unfold atFirst; frame_out
  refine (dpw_apply ..).trans (congrArg (· + _) ?_)
  pointwise [k0_pay5]
theorem dpw_B (c : Dev nD) (t : Fin cfg0.N) (h : ¬t.val % 16 = 0) (l : Fin 1024) : O9 m c t.val t.isLt (ix2 0 l)
    = O9 m c (t.val - 1) (Nat.lt_of_le_of_lt (Nat.sub_le _ _) t.isLt) (ix2 0 l) + dpwPart (B0 m c t) (B1 m c t) (B2 m c t) (B3 m c t) (B4 m c t) (B5 m c t) l := by
  have h0 : t.val ≠ 0 := by omega
  show (stAt m c t.val t.isLt).dpw (ix2 0 l) = _; rw [stAt_rest m c t h0]
  rw [nextRest_dpw]; unfold atRest; frame_out
  exact dpw_apply ..

/-! ## The reference, and the equations of the arrays -/

open Cert.Reference4Ideal.Read in
theorem cat0 (x0 x1 x2 x3 : Vec Ideal S8192x1024 .f32) (R : Fin 8192) (j : Fin 1024) :
    val_main_v21 (F := Ideal) x0 x1 x2 x3 (ix2 R (⟨j.val, by omega⟩ : Fin 4096)) = x0 (ix2 R j) := by
  pointwise [val_main_v21]

open Cert.Reference4Ideal.Read in
theorem cat1 (x0 x1 x2 x3 : Vec Ideal S8192x1024 .f32) (R : Fin 8192) (j : Fin 1024) :
    val_main_v21 (F := Ideal) x0 x1 x2 x3 (ix2 R (⟨1024 + j.val, by omega⟩ : Fin 4096)) = x1 (ix2 R j) := by
  pointwise [val_main_v21]

open Cert.Reference4Ideal.Read in
theorem cat2 (x0 x1 x2 x3 : Vec Ideal S8192x1024 .f32) (R : Fin 8192) (j : Fin 1024) :
    val_main_v21 (F := Ideal) x0 x1 x2 x3 (ix2 R (⟨2048 + j.val, by omega⟩ : Fin 4096)) = x2 (ix2 R j) := by
  pointwise [val_main_v21]
  rw [dif_neg (by omega), dif_neg (by omega), dif_pos (by omega)]
  refine congrArg (fun z => x2 (ix2 R z)) (Fin.ext ?_)
  show 2048 + j.val - 1024 - 1024 = j.val; omega

open Cert.Reference4Ideal.Read in
theorem cat3 (x0 x1 x2 x3 : Vec Ideal S8192x1024 .f32) (R : Fin 8192) (j : Fin 1024) :
    val_main_v21 (F := Ideal) x0 x1 x2 x3 (ix2 R (⟨3072 + j.val, by omega⟩ : Fin 4096)) = x3 (ix2 R j) := by
  pointwise [val_main_v21]
  rw [dif_neg (by omega), dif_neg (by omega), dif_neg (by omega)]
  refine congrArg (fun z => x3 (ix2 R z)) (Fin.ext ?_)
  show 3072 + j.val - 1024 - 1024 - 1024 = j.val; omega

open Cert.Reference4Ideal.Read in
theorem ref_dh (x0 x1 x2 x3 : Vec Ideal S8192x1024 .f32) (x4 : Vec Ideal S1024x4096 .bf16) (R : Fin 8192) (k : Fin 1024) : val_main_v22 (F := Ideal) x0 x1 x2 x3 x4 (ix2 R k) = dh x0 x1 x2 x3 x4 R k := by
  have e : val_main_v22 (F := Ideal) x0 x1 x2 x3 x4 (ix2 R k) = ∑ q : Fin 4096, val_main_v21 (F := Ideal) x0 x1 x2 x3 (ix2 R q) * x4 (ix2 k q) := by
    pointwise [val_main_v22, val_main_v15]
  rw [e, Fin.sum_univ_tiles 4 1024 rfl, Fin.sum_univ_four]
  unfold dh
  refine congrArg₂ (· + ·) (congrArg₂ (· + ·) (congrArg₂ (· + ·) ?_ ?_) ?_) ?_ <;> refine Finset.sum_congr rfl fun j _ => ?_
  · refine Eq.trans ?_ (congrArg (· * _) (cat0 x0 x1 x2 x3 R j))
    pointwise []
  · exact congrArg (· * _) (cat1 x0 x1 x2 x3 R j)
  · exact congrArg (· * _) (cat2 x0 x1 x2 x3 R j)
  · exact congrArg (· * _) (cat3 x0 x1 x2 x3 R j)

open Cert.Reference4Ideal.Read in
theorem ref_dx (x0 x1 x2 x3 : Vec Ideal S8192x1024 .f32) (x4 : Vec Ideal S1024x4096 .bf16) (x5 : Vec Ideal S8192x1024 .f32) (x6 : Vec Ideal S1x1024 .f32) (x7 : Vec Ideal S8192x1024 .f32) (R : Fin 8192) (l : Fin 1024) :
    val_main_v42 (F := Ideal) x0 x1 x2 x3 x4 x5 x6 x7 (ix2 R l)
      = x7 (ix2 R l) + back (fun k => x5 (ix2 R k)) (fun k => dh x0 x1 x2 x3 x4 R k * x6 (ix2 0 k)) l := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6]
  simp only [zero_add, Finset.univ_unique, Finset.sum_singleton, ref_dh]
  rw [back_eq, add_assoc, add_assoc]
  rfl
open Cert.Reference4Ideal.Read in
theorem ref_dpw (x0 x1 x2 x3 : Vec Ideal S8192x1024 .f32) (x4 : Vec Ideal S1024x4096 .bf16) (x5 : Vec Ideal S8192x1024 .f32) (l : Fin 1024) :
    val_main_v25 (F := Ideal) x0 x1 x2 x3 x4 x5 (ix2 0 l) = ∑ R : Fin 8192, dh x0 x1 x2 x3 x4 R l * (x5 (ix2 R l) * inv (fun k => x5 (ix2 R k))) := by
  pointwise [val_main_v25, val_main_v24, val_main_v23, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6]
  simp only [ref_dh]
  exact Finset.sum_congr rfl fun _ _ => mul_comm _ _

theorem flushed8 (c : Dev nD) (t : Fin cfg0.N) : (dats m 0 c).flushed 8 t = (cfg0.win 8).cut (grid0.coords t) ((stAt m c t.val t.isLt).dx) := by
  show (cfg0.win 8).cut (grid0.coords t) ((dats m 0 c).after 8 t) = _
  rw [after_8]
theorem flushed9 (c : Dev nD) (t : Fin cfg0.N) : (dats m 0 c).flushed 9 t = (cfg0.win 9).cut (grid0.coords t) ((stAt m c t.val t.isLt).dpw) := by
  show (cfg0.win 9).cut (grid0.coords t) ((dats m 0 c).after 9 t) = _
  rw [after_9]

theorem dx_eq (c : Dev nD) : (dats m 0 c).arrAt 8 cfg0.N = Cert.Reference4Ideal.Read.val_main_v42 (F := Ideal) (arr0 m c) (arr1 m c) (arr2 m c) (arr3 m c) (arr4 m c) (arr5 m c) (arr6 m c) (arr7 m c) := by
  refine Pipeline.Dat.arrAt_eq_of_cover (dats m 0 c) 8 _ (fun t _ => ?_) (fun i => ?_)
  · rw [flushed8]
    have e := win_facts t
    funext (y : S512x1024.Idx)
    idx_vars y
    show (stAt m c t.val t.isLt).dx (ix2 y0 y1) = Cert.Reference4Ideal.Read.val_main_v42 (F := Ideal) (arr0 m c) (arr1 m c) (arr2 m c) (arr3 m c) (arr4 m c) (arr5 m c) (arr6 m c) (arr7 m c) (((cfg0.win 8).blk t).view.emb (ix2 y0 y1 : S512x1024.Idx))
    have hi : ((cfg0.win 8).blk t).view.emb (ix2 y0 y1 : S512x1024.Idx) = (ix2 (row t y0) y1 : S8192x1024.Idx) := by
      funext a; apply Fin.ext
      match a with
      | ⟨0, _⟩ => show win0_8.index t (0 : Fin 2) * 512 + 1 * y0.val = _; rw [e.2.2.2.2.2.2.2.2.2.2.2.2.2.2.2.2.1]; show _ = t.val * 512 + y0.val; omega
      | ⟨1, _⟩ => show win0_8.index t (1 : Fin 2) * 1024 + 1 * y1.val = y1.val; rw [e.2.2.2.2.2.2.2.2.2.2.2.2.2.2.2.2.2.1]; omega
    rw [hi]
    refine (dx_pt m c t y0 y1).trans (Eq.trans ?_ (ref_dx (arr0 m c) (arr1 m c) (arr2 m c) (arr3 m c) (arr4 m c) (arr5 m c) (arr6 m c) (arr7 m c) (row t y0) y1).symm)
    simp only [dh, blk0, blk1, blk2, blk3, blk4, blk5, blk6, blk7]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_8 t, ?_⟩
    have e := win_facts t
    have hi : ((cfg0.win 8).blk t).view.emb (ix2 r l : S512x1024.Idx) = (ix2 R l : S8192x1024.Idx) := by
      funext a; apply Fin.ext
      match a with
      | ⟨0, _⟩ => show win0_8.index t (0 : Fin 2) * 512 + 1 * r.val = R.val; rw [e.2.2.2.2.2.2.2.2.2.2.2.2.2.2.2.2.1]; omega
      | ⟨1, _⟩ => show win0_8.index t (1 : Fin 2) * 1024 + 1 * l.val = l.val; rw [e.2.2.2.2.2.2.2.2.2.2.2.2.2.2.2.2.2.1]; omega
    exact hi ▸ ((cfg0.win 8).blk t).view.emb_mem_set (ix2 r l : S512x1024.Idx)

theorem dpw_eq (c : Dev nD) : (dats m 0 c).arrAt 9 cfg0.N = Cert.Reference4Ideal.Read.val_main_v25 (F := Ideal) (arr0 m c) (arr1 m c) (arr2 m c) (arr3 m c) (arr4 m c) (arr5 m c) := by
  have hN : cfg0.N = 16 := N_0
  refine Pipeline.Dat.arrAt_eq_of_cover (dats m 0 c) 9 _ (fun t hf => ?_) (fun i => ?_)
  · have ht : t.val + 1 = cfg0.N := by have := (flush0_9 t).mp hf; omega
    rw [flushed9]
    have e := win_facts t
    funext (y : S1x1024.Idx)
    idx_vars y
    show O9 m c t.val t.isLt (ix2 y0 y1) = Cert.Reference4Ideal.Read.val_main_v25 (F := Ideal) (arr0 m c) (arr1 m c) (arr2 m c) (arr3 m c) (arr4 m c) (arr5 m c) (((cfg0.win 9).blk t).view.emb (ix2 y0 y1 : S1x1024.Idx))
    have hi : ∀ (r : Fin 1) (l : Fin 1024), ((cfg0.win 9).blk t).view.emb (ix2 r l : S1x1024.Idx) = (ix2 r l : S1x1024.Idx) := by
      intro r l; funext a; apply Fin.ext
      match a with
      | ⟨0, _⟩ => show win0_9.index t (0 : Fin 2) * 1 + 1 * r.val = r.val; rw [e.2.2.2.2.2.2.2.2.2.2.2.2.2.2.2.2.2.2.1]; omega
      | ⟨1, _⟩ => show win0_9.index t (1 : Fin 2) * 1024 + 1 * l.val = l.val; rw [e.2.2.2.2.2.2.2.2.2.2.2.2.2.2.2.2.2.2.2]; omega
    rw [hi]
    rw [show y0 = 0 from Subsingleton.elim _ _]
    refine (Pipeline.eq_sum_fin_of_reset_step_apply_last (fun n h l => O9 m c n h (ix2 0 l)) 16 (fun _ => 0) (fun t l => dpwPart (B0 m c t) (B1 m c t) (B2 m c t) (B3 m c t) (B4 m c t) (B5 m c t) l)
      (fun t h l => dpw_A m c t h l) (fun t h l => dpw_B m c t h l) (by omega) t ht y1).trans (Eq.trans ?_ (ref_dpw (arr0 m c) (arr1 m c) (arr2 m c) (arr3 m c) (arr4 m c) (arr5 m c) y1).symm)
    refine sum_points hN _ _ (fun p => ?_)
    simp only [dpwPart, dh, blk0, blk1, blk2, blk3, blk4, blk5]
  · obtain ⟨R, l, rfl⟩ : ∃ (R : Fin 1) (l : Fin 1024), i = (ix2 R l : S1x1024.Idx) :=
      ⟨i 0, i 1, by funext a; match a with | ⟨0, _⟩ => rfl | ⟨1, _⟩ => rfl⟩
    obtain ⟨t, ht⟩ : ∃ t : Fin cfg0.N, t.val = 15 := ⟨⟨15, by omega⟩, rfl⟩
    refine ⟨t, (flush0_9 t).mpr (by omega), ?_⟩
    have e := win_facts t
    have hi : ∀ (r : Fin 1) (l : Fin 1024), ((cfg0.win 9).blk t).view.emb (ix2 r l : S1x1024.Idx) = (ix2 r l : S1x1024.Idx) := by
      intro r l; funext a; apply Fin.ext
      match a with
      | ⟨0, _⟩ => show win0_9.index t (0 : Fin 2) * 1 + 1 * r.val = r.val; rw [e.2.2.2.2.2.2.2.2.2.2.2.2.2.2.2.2.2.2.1]; omega
      | ⟨1, _⟩ => show win0_9.index t (1 : Fin 2) * 1024 + 1 * l.val = l.val; rw [e.2.2.2.2.2.2.2.2.2.2.2.2.2.2.2.2.2.2.2]; omega
    exact hi R l ▸ ((cfg0.win 9).blk t).view.emb_mem_set (ix2 R l : S1x1024.Idx)

/-- The run with the two result arrays named. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.Kernel4Ideal.Norm

namespace Cert.Norm4

open Idealize.ShloMosaic Idealize.ShloMosaic.TcCoe Idealize.SL.Sem

/-- The claim about the two programs. -/
theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Val.dats m 0 c).arrAt 8 Cert.Kernel4Ideal.cfg0.N, fun c => (Cert.Kernel4Ideal.Val.dats m 0 c).arrAt 9 Cert.Kernel4Ideal.cfg0.N,
    Cert.Kernel4Ideal.Norm.run_blocks m g, ?_⟩
  refine (θ_run Cert.Reference4Ideal.defs _ _).mono (fun r h c => ?_) (Cert.Reference4Ideal.Value.run (F := Ideal) m' g')
  refine ⟨(h c).1.trans ?_, (h c).2.1.trans ?_, (h c).2.2⟩
  · refine (Cert.Reference4Ideal.Read.val_main_v42_eq m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact (Cert.Kernel4Ideal.Norm.dx_eq m c).symm
  · rw [(hagree c).1, (hagree c).2.1, (hagree c).2.2.1, (hagree c).2.2.2.1, (hagree c).2.2.2.2.1, (hagree c).2.2.2.2.2.1]
    exact (Cert.Kernel4Ideal.Norm.dpw_eq m c).symm

/-- The reference's frame: it has no counters at all. -/
theorem frame_ref : Cert.quiescent_Reference4Ideal (hReference4Ideal := Cert.Reference4Ideal.Gen.facts) := by
  intro m g _
  exact (θ_run Cert.Reference4Ideal.defs _ _).mono (fun r h => ⟨fun c => (h c).2.2, sem_eq_zero_of_no_sems (by decide) r.2⟩)
    (Cert.Reference4Ideal.Value.run (F := Ideal) m g)

end Cert.Norm4

end
-- ==== Proof.Proj.P5.lean ====
/-
  The attention layer's input norm and projection: what its two result arrays hold, and that this is the reference's.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Proj.Norm
public import Idealize.ShloMosaic.Lib.Quiescent

@[expose] public section

noncomputable section

namespace Cert.Kernel5Ideal.Proj

open Cert.Kernel5Ideal Cert.Kernel5Ideal.Gen Cert.Kernel5Ideal.Value Idealize.ShloMosaic Idealize.ShloMosaic.TcCoe Idealize.SL.Sem
open Cert.Norm

/-! ## The body -/

theorem zeros2 : (![0, 0] : Fin 2 → Nat) = fun _ => 0 := by
  funext a; match a with | ⟨0, _⟩ => rfl | ⟨1, _⟩ => rfl

theorem ld0 (x : Vec Ideal S512x1024 .f32) : View.ld (Val := Elt Ideal) (e' := .f32) x r0_0 = x := by unfold r0_0; rw [View.ld_unit_zero zeros2]
theorem ld1 (x : Vec Ideal S1x1024 .f32) : View.ld (Val := Elt Ideal) (e' := .f32) x r0_1 = x := by unfold r0_1; rw [View.ld_unit_zero zeros2]

theorem norm_apply (x : Vec Ideal S512x1024 .f32) (w : Vec Ideal S1x1024 .f32) (r : Fin 512) (l : Fin 1024) :
    k0_pay2 x w (ix2 r l) = scaled (fun k => x (ix2 r k)) (fun k => w (ix2 0 k)) l := by
  pointwise [k0_pay2]
  rfl

/-- What the body leaves in its block of the projection. -/
def projBlk (x0 : Vec Ideal S512x1024 .f32) (x1 : Vec Ideal S1x1024 .f32) (x2 : Vec Ideal S1024x2304 .bf16) (x3 : Vec Ideal S1x2304 .f32) : S512x2304.Idx → Elt Ideal .f32 := fun y =>
  ∑ k : Fin 1024, scaled (fun k => x0 (ix2 (y 0) k)) (fun k => x1 (ix2 0 k)) k * x2 (ix2 k (y 1)) + x3 (ix2 0 (y 1))

theorem proj_apply (x0 : Vec Ideal S512x1024 .f32) (x1 : Vec Ideal S1x1024 .f32) (x2 : Vec Ideal S1024x2304 .bf16) (x3 : Vec Ideal S1x2304 .f32) (r : Fin 512) (l : Fin 2304) : out0_4 x0 x1 x2 x3 (ix2 r l) =
    ∑ k : Fin 1024, scaled (fun k => x0 (ix2 r k)) (fun k => x1 (ix2 0 k)) k * x2 (ix2 k l) + x3 (ix2 0 l) := by
  unfold out0_4
  refine View.canon_apply_of_pieces (projBlk x0 x1 x2 x3) _ ?_ _ (cover0_4 _ _ _ _)
  intro pc hpc
  rcases List.mem_cons.mp hpc with rfl | hpc
  · show ∀ z : S512x768.Idx, _
    intro z
    idx_vars z
    have he : (r0_10.emb (ix2 z0 z1) : S512x2304.Idx) = ix2 z0 ⟨1536 + z1.val, by omega⟩ := by
      funext a; apply Fin.ext
      match a with
      | ⟨0, _⟩ => show 0 + 1 * z0.val = z0.val; omega
      | ⟨1, _⟩ => show 1536 + 1 * z1.val = 1536 + z1.val; omega
    rw [he, ld0, ld1]
    pointwise [k0_pay1, k0_pay5]
    simp only [norm_apply]
    rfl
  rcases List.mem_cons.mp hpc with rfl | hpc
  · show ∀ z : S512x768.Idx, _
    intro z
    idx_vars z
    have he : (r0_7.emb (ix2 z0 z1) : S512x2304.Idx) = ix2 z0 ⟨768 + z1.val, by omega⟩ := by
      funext a; apply Fin.ext
      match a with
      | ⟨0, _⟩ => show 0 + 1 * z0.val = z0.val; omega
      | ⟨1, _⟩ => show 768 + 1 * z1.val = 768 + z1.val; omega
    rw [he, ld0, ld1]
    pointwise [k0_pay4]
    simp only [norm_apply]
    rfl
  rcases List.mem_cons.mp hpc with rfl | hpc
  · show ∀ z : S512x768.Idx, _
    intro z
    idx_vars z
    have he : (r0_4.emb (ix2 z0 z1) : S512x2304.Idx) = ix2 z0 ⟨z1.val, by omega⟩ := by
      funext a; apply Fin.ext
      match a with
      | ⟨0, _⟩ => show 0 + 1 * z0.val = z0.val; omega
      | ⟨1, _⟩ => show 0 + 1 * z1.val = z1.val; omega
    rw [he, ld0, ld1]
    pointwise [k0_pay3]
    simp only [norm_apply]
    rfl
  nomatch hpc

theorem h_apply (x0 : Vec Ideal S512x1024 .f32) (x1 : Vec Ideal S1x1024 .f32) (x2 : Vec Ideal S1024x2304 .bf16) (x3 : Vec Ideal S1x2304 .f32) (r : Fin 512) (l : Fin 1024) :
    out0_5 x0 x1 x2 x3 (ix2 r l) = scaled (fun k => x0 (ix2 r k)) (fun k => x1 (ix2 0 k)) l := by
  unfold out0_5 r0_0 r0_1
  rw [View.canon_unit_zero zeros2]
  rw [norm_apply, View.ld_unit_zero zeros2, View.ld_unit_zero zeros2]

/-! ## The blocks of the arguments -/

variable (m : (ℓ : Loc nD τ sig) → Buf (Elt Ideal) ℓ)

abbrev arr0 (c : Dev nD) : Vec Ideal S8192x1024 .f32 := m ((c : Thread nD τ).loc main_arg0)
abbrev arr1 (c : Dev nD) : Vec Ideal S1x1024 .f32 := m ((c : Thread nD τ).loc main_arg1)
abbrev arr2 (c : Dev nD) : Vec Ideal S1024x2304 .bf16 := m ((c : Thread nD τ).loc main_arg2)
abbrev arr3 (c : Dev nD) : Vec Ideal S1x2304 .f32 := m ((c : Thread nD τ).loc main_arg3)

theorem win_facts : ∀ t : Fin cfg0.N, win0_0.index t (0 : Fin 2) = t.val ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = t.val ∧ win0_4.index t (1 : Fin 2) = 0 ∧ win0_5.index t (0 : Fin 2) = t.val ∧ win0_5.index t (1 : Fin 2) = 0 :=
  (by decide +kernel : ∀ t : Fin grid0.N, _)

theorem N16 (t : Fin cfg0.N) : t.val < 16 := lt_of_lt_of_eq t.isLt (show cfg0.N = 16 from N_0)

/-- Row `r` of point `t`'s block. -/
abbrev row (t : Fin cfg0.N) (r : Fin 512) : Fin 8192 := ⟨t.val * 512 + r.val, by have := N16 t; omega⟩

theorem blk0 (c : Dev nD) (t : Fin cfg0.N) (r : Fin 512) (l : Fin 1024) : iblk m c 0 t (ix2 r l) = arr0 m c (ix2 (row t r) l) := by
  have e := win_facts t
  show arr0 m c (((cfg0.win 0).blk t).view.emb (ix2 r l)) = _
  refine congrArg _ (funext fun a => Fin.ext ?_)
  match a with
  | ⟨0, _⟩ => show win0_0.index t (0 : Fin 2) * 512 + 1 * r.val = _; rw [e.1]; show _ = t.val * 512 + r.val; omega
  | ⟨1, _⟩ => show win0_0.index t (1 : Fin 2) * 1024 + 1 * l.val = l.val; rw [e.2.1]; omega

theorem blk1 (c : Dev nD) (t : Fin cfg0.N) (r : Fin 1) (l : Fin 1024) : iblk m c 1 t (ix2 r l) = arr1 m c (ix2 r l) := by
  have e := win_facts t
  show arr1 m c (((cfg0.win 1).blk t).view.emb (ix2 r l)) = _
  refine congrArg _ (funext fun a => Fin.ext ?_)
  match a with
  | ⟨0, _⟩ => show win0_1.index t (0 : Fin 2) * 1 + 1 * r.val = r.val; rw [e.2.2.1]; omega
  | ⟨1, _⟩ => show win0_1.index t (1 : Fin 2) * 1024 + 1 * l.val = l.val; rw [e.2.2.2.1]; omega

theorem blk2 (c : Dev nD) (t : Fin cfg0.N) (r : Fin 1024) (l : Fin 2304) : iblk m c 2 t (ix2 r l) = arr2 m c (ix2 r l) := by
  have e := win_facts t
  show arr2 m c (((cfg0.win 2).blk t).view.emb (ix2 r l)) = _
  refine congrArg _ (funext fun a => Fin.ext ?_)
  match a with
  | ⟨0, _⟩ => show win0_2.index t (0 : Fin 2) * 1024 + 1 * r.val = r.val; rw [e.2.2.2.2.1]; omega
  | ⟨1, _⟩ => show win0_2.index t (1 : Fin 2) * 2304 + 1 * l.val = l.val; rw [e.2.2.2.2.2.1]; omega

theorem blk3 (c : Dev nD) (t : Fin cfg0.N) (r : Fin 1) (l : Fin 2304) : iblk m c 3 t (ix2 r l) = arr3 m c (ix2 r l) := by
  have e := win_facts t
  show arr3 m c (((cfg0.win 3).blk t).view.emb (ix2 r l)) = _
  refine congrArg _ (funext fun a => Fin.ext ?_)
  match a with
  | ⟨0, _⟩ => show win0_3.index t (0 : Fin 2) * 1 + 1 * r.val = r.val; rw [e.2.2.2.2.2.2.1]; omega
  | ⟨1, _⟩ => show win0_3.index t (1 : Fin 2) * 2304 + 1 * l.val = l.val; rw [e.2.2.2.2.2.2.2.1]; omega

/-! ## The reference, and the equation of the arrays -/

open Cert.Reference5Ideal.Read in
theorem ref_norm (x0 : Vec Ideal S8192x1024 .f32) (x1 : Vec Ideal S1x1024 .f32) (R : Fin 8192) (l : Fin 1024) :
    val_main_v11 (F := Ideal) x0 x1 (ix2 R l) = scaled (fun k => x0 (ix2 R k)) (fun k => x1 (ix2 0 k)) l := by
  pointwise [val_main_v11, val_main_v10, val_main_v9, val_main_v8, val_main_v7, val_main_v6, val_main_v5, val_main_v4, val_main_v3, val_main_v2, val_main_v1, val_main_v0, val_main_cst, val_main_cst_0, val_main_cst_1]
  rfl
open Cert.Reference5Ideal.Read in
theorem ref_h (x0 : Vec Ideal S8192x1024 .f32) (x1 : Vec Ideal S1x1024 .f32) (R : Fin 8192) (l : Fin 1024) :
    val_main_v16 (F := Ideal) x0 x1 (ix2 R l) = scaled (fun k => x0 (ix2 R k)) (fun k => x1 (ix2 0 k)) l := by
  pointwise [val_main_v16]
  exact ref_norm x0 x1 R l
open Cert.Reference5Ideal.Read in
theorem ref_proj (x0 : Vec Ideal S8192x1024 .f32) (x1 : Vec Ideal S1x1024 .f32) (x2 : Vec Ideal S1024x2304 .bf16) (x3 : Vec Ideal S1x2304 .f32) (R : Fin 8192) (l : Fin 2304) :
    val_main_v15 (F := Ideal) x0 x1 x2 x3 (ix2 R l)
      = ∑ k : Fin 1024, scaled (fun k => x0 (ix2 R k)) (fun k => x1 (ix2 0 k)) k * x2 (ix2 k l) + x3 (ix2 0 l) := by
  pointwise [val_main_v15, val_main_v14, val_main_v13, val_main_v12]
  simp only [ref_norm]

theorem proj_eq (c : Dev nD) : (dats m 0 c).arrAt 4 cfg0.N = Cert.Reference5Ideal.Read.val_main_v15 (F := Ideal) (arr0 m c) (arr1 m c) (arr2 m c) (arr3 m c) := by
  refine Pipeline.Dat.arrAt_eq_of_cover (dats m 0 c) 4 _ (fun t _ => ?_) (fun i => ?_)
  · rw [flushed4]
    have e := win_facts t
    funext (y : S512x2304.Idx)
    idx_vars y
    show out0_4 (iblk m c 0 t) (iblk m c 1 t) (iblk m c 2 t) (iblk m c 3 t) (ix2 y0 y1) = Cert.Reference5Ideal.Read.val_main_v15 (F := Ideal) (arr0 m c) (arr1 m c) (arr2 m c) (arr3 m c) (((cfg0.win 4).blk t).view.emb (ix2 y0 y1))
    have hi : ((cfg0.win 4).blk t).view.emb (ix2 y0 y1) = (ix2 (row t y0) y1 : S8192x2304.Idx) := by
      funext a; apply Fin.ext
      match a with
      | ⟨0, _⟩ => show win0_4.index t (0 : Fin 2) * 512 + 1 * y0.val = _; rw [e.2.2.2.2.2.2.2.2.1]; show _ = t.val * 512 + y0.val; omega
      | ⟨1, _⟩ => show win0_4.index t (1 : Fin 2) * 2304 + 1 * y1.val = y1.val; rw [e.2.2.2.2.2.2.2.2.2.1]; omega
    rw [hi]
    refine (proj_apply _ _ _ _ _ _).trans (Eq.trans ?_ (ref_proj (arr0 m c) (arr1 m c) (arr2 m c) (arr3 m c) (row t y0) y1).symm)

    simp only [blk0, blk1, blk2, blk3]
  · obtain ⟨R, l, rfl⟩ : ∃ (R : Fin 8192) (l : Fin 2304), i = (ix2 R l : S8192x2304.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_4 t, ?_⟩
    have e := win_facts t
    have hi : ((cfg0.win 4).blk t).view.emb (ix2 r l : S512x2304.Idx) = (ix2 R l : S8192x2304.Idx) := by
      funext a; apply Fin.ext
      match a with
      | ⟨0, _⟩ => show win0_4.index t (0 : Fin 2) * 512 + 1 * r.val = R.val; rw [e.2.2.2.2.2.2.2.2.1]; omega
      | ⟨1, _⟩ => show win0_4.index t (1 : Fin 2) * 2304 + 1 * l.val = l.val; rw [e.2.2.2.2.2.2.2.2.2.1]; omega
    exact hi ▸ ((cfg0.win 4).blk t).view.emb_mem_set (ix2 r l : S512x2304.Idx)

theorem h_eq (c : Dev nD) : (dats m 0 c).arrAt 5 cfg0.N = Cert.Reference5Ideal.Read.val_main_v16 (F := Ideal) (arr0 m c) (arr1 m c) := by
  refine Pipeline.Dat.arrAt_eq_of_cover (dats m 0 c) 5 _ (fun t _ => ?_) (fun i => ?_)
  · rw [flushed5]
    have e := win_facts t
    funext (y : S512x1024.Idx)
    idx_vars y
    show out0_5 (iblk m c 0 t) (iblk m c 1 t) (iblk m c 2 t) (iblk m c 3 t) (ix2 y0 y1) = Cert.Reference5Ideal.Read.val_main_v16 (F := Ideal) (arr0 m c) (arr1 m c) (((cfg0.win 5).blk t).view.emb (ix2 y0 y1))
    have hi : ((cfg0.win 5).blk t).view.emb (ix2 y0 y1) = (ix2 (row t y0) y1 : S8192x1024.Idx) := by
      funext a; apply Fin.ext
      match a with
      | ⟨0, _⟩ => show win0_5.index t (0 : Fin 2) * 512 + 1 * y0.val = _; rw [e.2.2.2.2.2.2.2.2.2.2.1]; show _ = t.val * 512 + y0.val; omega
      | ⟨1, _⟩ => show win0_5.index t (1 : Fin 2) * 1024 + 1 * y1.val = y1.val; rw [e.2.2.2.2.2.2.2.2.2.2.2]; omega
    rw [hi]
    refine (h_apply _ _ _ _ _ _).trans (Eq.trans ?_ (ref_h (arr0 m c) (arr1 m c) (row t y0) y1).symm)

    simp only [blk0, blk1]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_5 t, ?_⟩
    have e := win_facts t
    have hi : ((cfg0.win 5).blk t).view.emb (ix2 r l : S512x1024.Idx) = (ix2 R l : S8192x1024.Idx) := by
      funext a; apply Fin.ext
      match a with
      | ⟨0, _⟩ => show win0_5.index t (0 : Fin 2) * 512 + 1 * r.val = R.val; rw [e.2.2.2.2.2.2.2.2.2.2.1]; omega
      | ⟨1, _⟩ => show win0_5.index t (1 : Fin 2) * 1024 + 1 * l.val = l.val; rw [e.2.2.2.2.2.2.2.2.2.2.2]; omega
    exact hi ▸ ((cfg0.win 5).blk t).view.emb_mem_set (ix2 r l : S512x1024.Idx)

end Cert.Kernel5Ideal.Proj

namespace Cert.Proj5

open Idealize.ShloMosaic Idealize.ShloMosaic.TcCoe Idealize.SL.Sem

/-- The claim about the two programs. -/
theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N,
    Cert.Kernel5Ideal.Value.run_blocks m g, ?_⟩
  refine (θ_run Cert.Reference5Ideal.defs _ _).mono (fun r h c => ?_) (Cert.Reference5Ideal.Value.run (F := Ideal) m' g')
  refine ⟨(h c).1.trans ?_, (h c).2.1.trans ?_, (h c).2.2⟩
  · rw [(hagree c).1, (hagree c).2.1, (hagree c).2.2.1, (hagree c).2.2.2]
    exact (Cert.Kernel5Ideal.Proj.proj_eq m c).symm
  · rw [(hagree c).1, (hagree c).2.1]
    exact (Cert.Kernel5Ideal.Proj.h_eq m c).symm

/-- The reference's frame: it has no counters at all. -/
theorem frame_ref : Cert.quiescent_Reference5Ideal (hReference5Ideal := Cert.Reference5Ideal.Gen.facts) := by
  intro m g _
  exact (θ_run Cert.Reference5Ideal.defs _ _).mono (fun r h => ⟨fun c => (h c).2.2, sem_eq_zero_of_no_sems (by decide) r.2⟩)
    (Cert.Reference5Ideal.Value.run (F := Ideal) m g)

end Cert.Proj5

end
-- ==== Proof.Proj.P6.lean ====
/-
  The recurrent layer's input norm and projection: what its two result arrays hold, and that this is the reference's.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Proj.Norm
public import Idealize.ShloMosaic.Lib.Quiescent

@[expose] public section

noncomputable section

namespace Cert.Kernel6Ideal.Proj

open Cert.Kernel6Ideal Cert.Kernel6Ideal.Gen Cert.Kernel6Ideal.Value Idealize.ShloMosaic Idealize.ShloMosaic.TcCoe Idealize.SL.Sem
open Cert.Norm

/-! ## The body -/

theorem zeros2 : (![0, 0] : Fin 2 → Nat) = fun _ => 0 := by
  funext a; match a with | ⟨0, _⟩ => rfl | ⟨1, _⟩ => rfl

theorem ld0 (x : Vec Ideal S512x1024 .f32) : View.ld (Val := Elt Ideal) (e' := .f32) x r0_0 = x := by unfold r0_0; rw [View.ld_unit_zero zeros2]
theorem ld1 (x : Vec Ideal S1x1024 .f32) : View.ld (Val := Elt Ideal) (e' := .f32) x r0_1 = x := by unfold r0_1; rw [View.ld_unit_zero zeros2]

theorem norm_apply (x : Vec Ideal S512x1024 .f32) (w : Vec Ideal S1x1024 .f32) (r : Fin 512) (l : Fin 1024) :
    k0_pay1 x w (ix2 r l) = scaled (fun k => x (ix2 r k)) (fun k => w (ix2 0 k)) l := by
  pointwise [k0_pay1]
  rfl

/-- What the body leaves in its block of the projection. -/
def projBlk (x0 : Vec Ideal S512x1024 .f32) (x1 : Vec Ideal S1x1024 .f32) (x2 : Vec Ideal S1024x4096 .bf16) : S512x4096.Idx → Elt Ideal .f32 := fun y =>
  ∑ k : Fin 1024, scaled (fun k => x0 (ix2 (y 0) k)) (fun k => x1 (ix2 0 k)) k * x2 (ix2 k (y 1))

theorem proj_apply (x0 : Vec Ideal S512x1024 .f32) (x1 : Vec Ideal S1x1024 .f32) (x2 : Vec Ideal S1024x4096 .bf16) (r : Fin 512) (l : Fin 4096) : out0_3 x0 x1 x2 (ix2 r l) =
    ∑ k : Fin 1024, scaled (fun k => x0 (ix2 r k)) (fun k => x1 (ix2 0 k)) k * x2 (ix2 k l) := by
  unfold out0_3
  refine View.canon_apply_of_pieces (projBlk x0 x1 x2) _ ?_ _ (cover0_3 _ _ _ _ _)
  intro pc hpc
  rcases List.mem_cons.mp hpc with rfl | hpc
  · show ∀ z : S512x1024.Idx, _
    intro z
    idx_vars z
    have he : (r0_9.emb (ix2 z0 z1) : S512x4096.Idx) = ix2 z0 ⟨3072 + z1.val, by omega⟩ := by
      funext a; apply Fin.ext
      match a with
      | ⟨0, _⟩ => show 0 + 1 * z0.val = z0.val; omega
      | ⟨1, _⟩ => show 3072 + 1 * z1.val = 3072 + z1.val; omega
    rw [he, ld0, ld1]
    pointwise [k0_pay5]
    simp only [norm_apply]
    rfl
  rcases List.mem_cons.mp hpc with rfl | hpc
  · show ∀ z : S512x1024.Idx, _
    intro z
    idx_vars z
    have he : (r0_7.emb (ix2 z0 z1) : S512x4096.Idx) = ix2 z0 ⟨2048 + z1.val, by omega⟩ := by
      funext a; apply Fin.ext
      match a with
      | ⟨0, _⟩ => show 0 + 1 * z0.val = z0.val; omega
      | ⟨1, _⟩ => show 2048 + 1 * z1.val = 2048 + z1.val; omega
    rw [he, ld0, ld1]
    pointwise [k0_pay4]
    simp only [norm_apply]
    rfl
  rcases List.mem_cons.mp hpc with rfl | hpc
  · show ∀ z : S512x1024.Idx, _
    intro z
    idx_vars z
    have he : (r0_5.emb (ix2 z0 z1) : S512x4096.Idx) = ix2 z0 ⟨1024 + z1.val, by omega⟩ := by
      funext a; apply Fin.ext
      match a with
      | ⟨0, _⟩ => show 0 + 1 * z0.val = z0.val; omega
      | ⟨1, _⟩ => show 1024 + 1 * z1.val = 1024 + z1.val; omega
    rw [he, ld0, ld1]
    pointwise [k0_pay3]
    simp only [norm_apply]
    rfl
  rcases List.mem_cons.mp hpc with rfl | hpc
  · show ∀ z : S512x1024.Idx, _
    intro z
    idx_vars z
    have he : (r0_3.emb (ix2 z0 z1) : S512x4096.Idx) = ix2 z0 ⟨z1.val, by omega⟩ := by
      funext a; apply Fin.ext
      match a with
      | ⟨0, _⟩ => show 0 + 1 * z0.val = z0.val; omega
      | ⟨1, _⟩ => show 0 + 1 * z1.val = z1.val; omega
    rw [he, ld0, ld1]
    pointwise [k0_pay2]
    simp only [norm_apply]
    rfl
  nomatch hpc

theorem h_apply (x0 : Vec Ideal S512x1024 .f32) (x1 : Vec Ideal S1x1024 .f32) (x2 : Vec Ideal S1024x4096 .bf16) (r : Fin 512) (l : Fin 1024) :
    out0_4 x0 x1 x2 (ix2 r l) = scaled (fun k => x0 (ix2 r k)) (fun k => x1 (ix2 0 k)) l := by
  unfold out0_4 r0_0 r0_1
  rw [View.canon_unit_zero zeros2]
  rw [norm_apply, View.ld_unit_zero zeros2, View.ld_unit_zero zeros2]

/-! ## The blocks of the arguments -/

variable (m : (ℓ : Loc nD τ sig) → Buf (Elt Ideal) ℓ)

abbrev arr0 (c : Dev nD) : Vec Ideal S8192x1024 .f32 := m ((c : Thread nD τ).loc main_arg0)
abbrev arr1 (c : Dev nD) : Vec Ideal S1x1024 .f32 := m ((c : Thread nD τ).loc main_arg1)
abbrev arr2 (c : Dev nD) : Vec Ideal S1024x4096 .bf16 := m ((c : Thread nD τ).loc main_arg2)

theorem win_facts : ∀ t : Fin cfg0.N, win0_0.index t (0 : Fin 2) = t.val ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = t.val ∧ win0_3.index t (1 : Fin 2) = 0 ∧ win0_4.index t (0 : Fin 2) = t.val ∧ win0_4.index t (1 : Fin 2) = 0 :=
  (by decide +kernel : ∀ t : Fin grid0.N, _)

theorem N16 (t : Fin cfg0.N) : t.val < 16 := lt_of_lt_of_eq t.isLt (show cfg0.N = 16 from N_0)

/-- Row `r` of point `t`'s block. -/
abbrev row (t : Fin cfg0.N) (r : Fin 512) : Fin 8192 := ⟨t.val * 512 + r.val, by have := N16 t; omega⟩

theorem blk0 (c : Dev nD) (t : Fin cfg0.N) (r : Fin 512) (l : Fin 1024) : iblk m c 0 t (ix2 r l) = arr0 m c (ix2 (row t r) l) := by
  have e := win_facts t
  show arr0 m c (((cfg0.win 0).blk t).view.emb (ix2 r l)) = _
  refine congrArg _ (funext fun a => Fin.ext ?_)
  match a with
  | ⟨0, _⟩ => show win0_0.index t (0 : Fin 2) * 512 + 1 * r.val = _; rw [e.1]; show _ = t.val * 512 + r.val; omega
  | ⟨1, _⟩ => show win0_0.index t (1 : Fin 2) * 1024 + 1 * l.val = l.val; rw [e.2.1]; omega

theorem blk1 (c : Dev nD) (t : Fin cfg0.N) (r : Fin 1) (l : Fin 1024) : iblk m c 1 t (ix2 r l) = arr1 m c (ix2 r l) := by
  have e := win_facts t
  show arr1 m c (((cfg0.win 1).blk t).view.emb (ix2 r l)) = _
  refine congrArg _ (funext fun a => Fin.ext ?_)
  match a with
  | ⟨0, _⟩ => show win0_1.index t (0 : Fin 2) * 1 + 1 * r.val = r.val; rw [e.2.2.1]; omega
  | ⟨1, _⟩ => show win0_1.index t (1 : Fin 2) * 1024 + 1 * l.val = l.val; rw [e.2.2.2.1]; omega

theorem blk2 (c : Dev nD) (t : Fin cfg0.N) (r : Fin 1024) (l : Fin 4096) : iblk m c 2 t (ix2 r l) = arr2 m c (ix2 r l) := by
  have e := win_facts t
  show arr2 m c (((cfg0.win 2).blk t).view.emb (ix2 r l)) = _
  refine congrArg _ (funext fun a => Fin.ext ?_)
  match a with
  | ⟨0, _⟩ => show win0_2.index t (0 : Fin 2) * 1024 + 1 * r.val = r.val; rw [e.2.2.2.2.1]; omega
  | ⟨1, _⟩ => show win0_2.index t (1 : Fin 2) * 4096 + 1 * l.val = l.val; rw [e.2.2.2.2.2.1]; omega

/-! ## The reference, and the equation of the arrays -/

open Cert.Reference6Ideal.Read in
theorem ref_norm (x0 : Vec Ideal S8192x1024 .f32) (x1 : Vec Ideal S1x1024 .f32) (R : Fin 8192) (l : Fin 1024) :
    val_main_v11 (F := Ideal) x0 x1 (ix2 R l) = scaled (fun k => x0 (ix2 R k)) (fun k => x1 (ix2 0 k)) l := by
  pointwise [val_main_v11, val_main_v10, val_main_v9, val_main_v8, val_main_v7, val_main_v6, val_main_v5, val_main_v4, val_main_v3, val_main_v2, val_main_v1, val_main_v0, val_main_cst, val_main_cst_0, val_main_cst_1]
  rfl
open Cert.Reference6Ideal.Read in
theorem ref_h (x0 : Vec Ideal S8192x1024 .f32) (x1 : Vec Ideal S1x1024 .f32) (R : Fin 8192) (l : Fin 1024) :
    val_main_v14 (F := Ideal) x0 x1 (ix2 R l) = scaled (fun k => x0 (ix2 R k)) (fun k => x1 (ix2 0 k)) l := by
  pointwise [val_main_v14]
  exact ref_norm x0 x1 R l
open Cert.Reference6Ideal.Read in
theorem ref_proj (x0 : Vec Ideal S8192x1024 .f32) (x1 : Vec Ideal S1x1024 .f32) (x2 : Vec Ideal S1024x4096 .bf16) (R : Fin 8192) (l : Fin 4096) :
    val_main_v13 (F := Ideal) x0 x1 x2 (ix2 R l)
      = ∑ k : Fin 1024, scaled (fun k => x0 (ix2 R k)) (fun k => x1 (ix2 0 k)) k * x2 (ix2 k l) := by
  pointwise [val_main_v13, val_main_v12]
  simp only [ref_norm]

theorem proj_eq (c : Dev nD) : (dats m 0 c).arrAt 3 cfg0.N = Cert.Reference6Ideal.Read.val_main_v13 (F := Ideal) (arr0 m c) (arr1 m c) (arr2 m c) := by
  refine Pipeline.Dat.arrAt_eq_of_cover (dats m 0 c) 3 _ (fun t _ => ?_) (fun i => ?_)
  · rw [flushed3]
    have e := win_facts t
    funext (y : S512x4096.Idx)
    idx_vars y
    show out0_3 (iblk m c 0 t) (iblk m c 1 t) (iblk m c 2 t) (ix2 y0 y1) = Cert.Reference6Ideal.Read.val_main_v13 (F := Ideal) (arr0 m c) (arr1 m c) (arr2 m c) (((cfg0.win 3).blk t).view.emb (ix2 y0 y1))
    have hi : ((cfg0.win 3).blk t).view.emb (ix2 y0 y1) = (ix2 (row t y0) y1 : S8192x4096.Idx) := by
      funext a; apply Fin.ext
      match a with
      | ⟨0, _⟩ => show win0_3.index t (0 : Fin 2) * 512 + 1 * y0.val = _; rw [e.2.2.2.2.2.2.1]; show _ = t.val * 512 + y0.val; omega
      | ⟨1, _⟩ => show win0_3.index t (1 : Fin 2) * 4096 + 1 * y1.val = y1.val; rw [e.2.2.2.2.2.2.2.1]; omega
    rw [hi]
    refine (proj_apply _ _ _ _ _).trans (Eq.trans ?_ (ref_proj (arr0 m c) (arr1 m c) (arr2 m c) (row t y0) y1).symm)

    simp only [blk0, blk1, blk2]
  · obtain ⟨R, l, rfl⟩ : ∃ (R : Fin 8192) (l : Fin 4096), i = (ix2 R l : S8192x4096.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_3 t, ?_⟩
    have e := win_facts t
    have hi : ((cfg0.win 3).blk t).view.emb (ix2 r l : S512x4096.Idx) = (ix2 R l : S8192x4096.Idx) := by
      funext a; apply Fin.ext
      match a with
      | ⟨0, _⟩ => show win0_3.index t (0 : Fin 2) * 512 + 1 * r.val = R.val; rw [e.2.2.2.2.2.2.1]; omega
      | ⟨1, _⟩ => show win0_3.index t (1 : Fin 2) * 4096 + 1 * l.val = l.val; rw [e.2.2.2.2.2.2.2.1]; omega
    exact hi ▸ ((cfg0.win 3).blk t).view.emb_mem_set (ix2 r l : S512x4096.Idx)

theorem h_eq (c : Dev nD) : (dats m 0 c).arrAt 4 cfg0.N = Cert.Reference6Ideal.Read.val_main_v14 (F := Ideal) (arr0 m c) (arr1 m c) := by
  refine Pipeline.Dat.arrAt_eq_of_cover (dats m 0 c) 4 _ (fun t _ => ?_) (fun i => ?_)
  · rw [flushed4]
    have e := win_facts t
    funext (y : S512x1024.Idx)
    idx_vars y
    show out0_4 (iblk m c 0 t) (iblk m c 1 t) (iblk m c 2 t) (ix2 y0 y1) = Cert.Reference6Ideal.Read.val_main_v14 (F := Ideal) (arr0 m c) (arr1 m c) (((cfg0.win 4).blk t).view.emb (ix2 y0 y1))
    have hi : ((cfg0.win 4).blk t).view.emb (ix2 y0 y1) = (ix2 (row t y0) y1 : S8192x1024.Idx) := by
      funext a; apply Fin.ext
      match a with
      | ⟨0, _⟩ => show win0_4.index t (0 : Fin 2) * 512 + 1 * y0.val = _; rw [e.2.2.2.2.2.2.2.2.1]; show _ = t.val * 512 + y0.val; omega
      | ⟨1, _⟩ => show win0_4.index t (1 : Fin 2) * 1024 + 1 * y1.val = y1.val; rw [e.2.2.2.2.2.2.2.2.2]; omega
    rw [hi]
    refine (h_apply _ _ _ _ _).trans (Eq.trans ?_ (ref_h (arr0 m c) (arr1 m c) (row t y0) y1).symm)

    simp only [blk0, blk1]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_4 t, ?_⟩
    have e := win_facts t
    have hi : ((cfg0.win 4).blk t).view.emb (ix2 r l : S512x1024.Idx) = (ix2 R l : S8192x1024.Idx) := by
      funext a; apply Fin.ext
      match a with
      | ⟨0, _⟩ => show win0_4.index t (0 : Fin 2) * 512 + 1 * r.val = R.val; rw [e.2.2.2.2.2.2.2.2.1]; omega
      | ⟨1, _⟩ => show win0_4.index t (1 : Fin 2) * 1024 + 1 * l.val = l.val; rw [e.2.2.2.2.2.2.2.2.2]; omega
    exact hi ▸ ((cfg0.win 4).blk t).view.emb_mem_set (ix2 r l : S512x1024.Idx)

end Cert.Kernel6Ideal.Proj

namespace Cert.Proj6

open Idealize.ShloMosaic Idealize.ShloMosaic.TcCoe Idealize.SL.Sem

/-- The claim about the two programs. -/
theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 3 Cert.Kernel6Ideal.cfg0.N, fun c => (Cert.Kernel6Ideal.Gen.dats m 0 c).arrAt 4 Cert.Kernel6Ideal.cfg0.N,
    Cert.Kernel6Ideal.Value.run_blocks m g, ?_⟩
  refine (θ_run Cert.Reference6Ideal.defs _ _).mono (fun r h c => ?_) (Cert.Reference6Ideal.Value.run (F := Ideal) m' g')
  refine ⟨(h c).1.trans ?_, (h c).2.1.trans ?_, (h c).2.2⟩
  · rw [(hagree c).1, (hagree c).2.1, (hagree c).2.2]
    exact (Cert.Kernel6Ideal.Proj.proj_eq m c).symm
  · rw [(hagree c).1, (hagree c).2.1]
    exact (Cert.Kernel6Ideal.Proj.h_eq m c).symm

/-- The reference's frame: it has no counters at all. -/
theorem frame_ref : Cert.quiescent_Reference6Ideal (hReference6Ideal := Cert.Reference6Ideal.Gen.facts) := by
  intro m g _
  exact (θ_run Cert.Reference6Ideal.defs _ _).mono (fun r h => ⟨fun c => (h c).2.2, sem_eq_zero_of_no_sems (by decide) r.2⟩)
    (Cert.Reference6Ideal.Value.run (F := Ideal) m g)

end Cert.Proj6

end
-- ==== Proof.Product.P7.lean ====
/-
  The gradient of the attention layer's input weights, `hᵀ · dp`: what the kernel's result array holds, and that this is the gradient `jax.vjp` gives of
  `w ↦ h · w`.

  The grid walks the 8192 rows in eight blocks of 1024 for each of the result's 6 blocks; the result's buffer is set to zero
  at the first of the eight and each adds its own product. Read at an index of the result, that fold is one sum over all
  8192 rows.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Quiescent

@[expose] public section

noncomputable section

namespace Cert.Kernel7Ideal.Grad

open Cert.Kernel7Ideal Cert.Kernel7Ideal.Gen Cert.Kernel7Ideal.Value Idealize.ShloMosaic Idealize.ShloMosaic.TcCoe Idealize.SL.Sem

variable (m : (ℓ : Loc nD τ sig) → Buf (Elt Ideal) ℓ)

/-- One step at an index: what the buffer held plus the block's 1024 products. -/
theorem pay2_apply (acc : Vec Ideal S512x768 .f32) (x0 : Vec Ideal S1024x512 .bf16) (x1 : Vec Ideal S1024x768 .f32)
    (r : Fin 512) (l : Fin 768) :
    k0_pay2 acc x0 x1 (ix2 r l) = acc (ix2 r l) + ∑ k : Fin 1024, x0 (ix2 k r) * x1 (ix2 k l) := by
  pointwise [k0_pay2]

/-- The block the reset stores is zero. -/
theorem pay1_apply (j : S512x768.Idx) : k0_pay1 (F := Ideal) j = 0 := by
  pointwise [k0_pay1]

/-- The two factors as the call finds them. -/
abbrev hArr (c : Dev nD) : Vec Ideal S8192x1024 .bf16 := m ((c : Thread nD τ).loc main_arg0)
abbrev dpArr (c : Dev nD) : Vec Ideal S8192x2304 .f32 := m ((c : Thread nD τ).loc main_arg1)

theorem win0_facts : ∀ t : Fin cfg0.N, win0_0.index t (0 : Fin 2) = t.val % 8 ∧ win0_0.index t (1 : Fin 2) = t.val / 24
    ∧ win0_1.index t (0 : Fin 2) = t.val % 8 ∧ win0_1.index t (1 : Fin 2) = t.val / 8 % 3 :=
  (by decide +kernel : ∀ t : Fin grid0.N, _)

/-- A block of the first factor, in the array's own indices. -/
theorem iblk0_apply (c : Dev nD) (t : Fin cfg0.N) (k : Fin 1024) (r : Fin 512) (K : Fin 8192) (R : Fin 1024)
    (hK : K.val = t.val % 8 * 1024 + k.val) (hR : R.val = t.val / 24 * 512 + r.val) :
    iblk m c 0 t (ix2 k r) = hArr m c (ix2 K R) := by
  obtain ⟨e0, e1, -, -⟩ := win0_facts t
  show hArr m c (((cfg0.win 0).blk t).view.emb (ix2 k r)) = _
  refine congrArg _ (funext fun a => Fin.ext ?_)
  match a with
  | ⟨0, _⟩ => show win0_0.index t (0 : Fin 2) * 1024 + 1 * k.val = K.val; rw [e0, hK]; omega
  | ⟨1, _⟩ => show win0_0.index t (1 : Fin 2) * 512 + 1 * r.val = R.val; rw [e1, hR]; omega

/-- A block of the second factor, in the array's own indices. -/
theorem iblk1_apply (c : Dev nD) (t : Fin cfg0.N) (k : Fin 1024) (l : Fin 768) (K : Fin 8192) (L : Fin 2304)
    (hK : K.val = t.val % 8 * 1024 + k.val) (hL : L.val = t.val / 8 % 3 * 768 + l.val) :
    iblk m c 1 t (ix2 k l) = dpArr m c (ix2 K L) := by
  obtain ⟨-, -, e0, e1⟩ := win0_facts t
  show dpArr m c (((cfg0.win 1).blk t).view.emb (ix2 k l)) = _
  refine congrArg _ (funext fun a => Fin.ext ?_)
  match a with
  | ⟨0, _⟩ => show win0_1.index t (0 : Fin 2) * 1024 + 1 * k.val = K.val; rw [e0, hK]; omega
  | ⟨1, _⟩ => show win0_1.index t (1 : Fin 2) * 768 + 1 * l.val = L.val; rw [e1, hL]; omega

/-- The two blocks of a point, as blocks of numbers. -/
abbrev hBlk (c : Dev nD) (t : Fin cfg0.N) : Vec Ideal S1024x512 .bf16 := iblk m c 0 t
abbrev dpBlk (c : Dev nD) (t : Fin cfg0.N) : Vec Ideal S1024x768 .f32 := iblk m c 1 t

/-- What block `q` of the rows adds to the result at `(R, L)`. -/
def part (c : Dev nD) (R : Fin 1024) (L : Fin 2304) (q : ℕ) : EReal :=
  if h : q < 8 then ∑ k : Fin 1024, hArr m c (ix2 ⟨q * 1024 + k.val, by omega⟩ R) * dpArr m c (ix2 ⟨q * 1024 + k.val, by omega⟩ L)
  else 0

/-- A block's product is its part. -/
theorem part_eq (c : Dev nD) (q : ℕ) (R : Fin 1024) (L : Fin 2304) (r : Fin 512) (l : Fin 768)
    (hR : R.val = q / 3 * 512 + r.val) (hL : L.val = q % 3 * 768 + l.val) (j : ℕ) (hj : j < 8) (h : 8 * q + j < cfg0.N) :
    ∑ k : Fin 1024, hBlk m c ⟨8 * q + j, h⟩ (ix2 k r) * dpBlk m c ⟨8 * q + j, h⟩ (ix2 k l) = part m c R L j := by
  have e8 : (8 * q + j) % 8 = j := by omega
  have eq : (8 * q + j) / 8 = q := by omega
  have en : (8 * q + j) / 24 = q / 3 := by omega
  rw [part, dif_pos hj]
  refine Finset.sum_congr rfl fun k _ => ?_
  exact congrArg₂ (· * ·) (iblk0_apply m c ⟨8 * q + j, h⟩ k r ⟨j * 1024 + k.val, by omega⟩ R (by dsimp only; rw [e8]) (by dsimp only; rw [en]; exact hR))
    (iblk1_apply m c ⟨8 * q + j, h⟩ k l ⟨j * 1024 + k.val, by omega⟩ L (by dsimp only; rw [e8]) (by dsimp only; rw [eq]; exact hL))

/-- The fold over the first `j + 1` blocks of one block of the result is the sum of their parts. -/
theorem fold_apply (c : Dev nD) (q : ℕ) (R : Fin 1024) (L : Fin 2304) (r : Fin 512) (l : Fin 768)
    (hR : R.val = q / 3 * 512 + r.val) (hL : L.val = q % 3 * 768 + l.val) :
    ∀ (j : ℕ) (hj : j < 8) (h : 8 * q + j < cfg0.N),
      Pipeline.accAt (reset2 m c) (step2 m c) (8 * q) j h (ix2 r l) = ∑ s ∈ Finset.range (j + 1), part m c R L s
  | 0, hj, h => by
    rw [Pipeline.accAt_zero, Finset.sum_range_one, ← part_eq m c q R L r l hR hL 0 hj h]
    show k0_pay2 _ _ _ _ = _
    rw [pay2_apply, pay1_apply, zero_add]
    rfl
  | j + 1, hj, h => by
    rw [Pipeline.accAt_succ, Finset.sum_range_succ, ← fold_apply c q R L r l hR hL j (by omega) (by omega),
      ← part_eq m c q R L r l hR hL (j + 1) hj h]
    show k0_pay2 _ _ _ _ = _
    rw [pay2_apply]

/-- The result array, as a block of numbers. -/
abbrev resArr (c : Dev nD) : Vec Ideal S1024x2304 .f32 := G2 m c

/-- The result array at an index: one sum over the 8192 rows. -/
theorem result_apply (c : Dev nD) (R : Fin 1024) (L : Fin 2304) :
    resArr m c (ix2 R L) = ∑ k : Fin 8192, hArr m c (ix2 k R) * dpArr m c (ix2 k L) := by
  have hN : cfg0.N = 48 := N_0
  have hr : run2Of (ix2 R L) = 3 * (R.val / 512) + L.val / 768 := by
    show 3 * (R.val / 512 - 0) + 1 * (L.val / 768 - 0) = _; omega
  have hl : loc2Of (ix2 R L) = ix2 ⟨R.val % 512, Nat.mod_lt _ (by decide)⟩ ⟨L.val % 768, Nat.mod_lt _ (by decide)⟩ := by
    funext a; apply Fin.ext
    match a with
    | ⟨0, _⟩ => rfl
    | ⟨1, _⟩ => rfl
  unfold resArr G2
  rw [dif_pos (by rw [hr]; omega), hl]
  rw [fold_apply m c (run2Of (ix2 R L)) R L _ _ (by rw [hr]; dsimp only; omega) (by rw [hr]; dsimp only; omega) 7 (by decide),
    Fin.sum_univ_tiles 8 1024 rfl, Finset.sum_range]
  refine Finset.sum_congr rfl fun q _ => ?_
  rw [part, dif_pos q.isLt]

open Cert.Reference7Ideal.Read in
/-- The reference's gradient at an index. -/
theorem ref_apply (x0 : Vec Ideal S8192x1024 .bf16) (x1 : Vec Ideal S8192x2304 .f32) (R : Fin 1024) (L : Fin 2304) :
    val_main_v4 (F := Ideal) x0 x1 (ix2 R L) = ∑ k : Fin 8192, x0 (ix2 k R) * x1 (ix2 k L) := by
  pointwise [val_main_v4, val_main_v3, val_main_v1]
  exact Finset.sum_congr rfl fun k _ => mul_comm _ _

/-- The equation of the two arrays. -/
theorem arrays_eq (c : Dev nD) : G2 m c = Cert.Reference7Ideal.Read.val_main_v4 (F := Ideal) (hArr m c) (dpArr m c) := by
  funext j
  obtain ⟨R, L, rfl⟩ : ∃ (R : Fin 1024) (L : Fin 2304), j = ix2 R L := ⟨j 0, j 1, by funext a; match a with | ⟨0, _⟩ => rfl | ⟨1, _⟩ => rfl⟩
  exact (result_apply m c R L).trans (ref_apply _ _ R L).symm

end Cert.Kernel7Ideal.Grad

namespace Cert.Product7

open Idealize.ShloMosaic Idealize.ShloMosaic.TcCoe Idealize.SL.Sem

/-- The claim about the two programs. -/
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Kernel7Ideal.Value.G2 m c, Cert.Kernel7Ideal.Value.run m g, ?_⟩
  refine (θ_run Cert.Reference7Ideal.defs _ _).mono (fun r h c => ?_) (Cert.Reference7Ideal.Value.run (F := Ideal) m' g')
  refine ⟨(h c).1.trans ?_, (h c).2⟩
  rw [(hagree c).1, (hagree c).2]
  exact (Cert.Kernel7Ideal.Grad.arrays_eq m c).symm

/-- The reference's frame: it has no counters at all. -/
theorem frame_ref : Cert.quiescent_Reference7Ideal (hReference7Ideal := Cert.Reference7Ideal.Gen.facts) := by
  intro m g _
  exact (θ_run Cert.Reference7Ideal.defs _ _).mono (fun r h => ⟨fun c => (h c).2, sem_eq_zero_of_no_sems (by decide) r.2⟩)
    (Cert.Reference7Ideal.Value.run (F := Ideal) m g)

end Cert.Product7

end
-- ==== Proof.Product.P8.lean ====
/-
  The gradient of an output projection's weights, `gᵀ · dy`: what the kernel's result array holds, and that this is the gradient `jax.vjp` gives of
  `w ↦ h · w`.

  The grid walks the 8192 rows in eight blocks of 1024 for each of the result's 2 blocks; the result's buffer is set to zero
  at the first of the eight and each adds its own product. Read at an index of the result, that fold is one sum over all
  8192 rows.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Quiescent

@[expose] public section

noncomputable section

namespace Cert.Kernel8Ideal.Grad

open Cert.Kernel8Ideal Cert.Kernel8Ideal.Gen Cert.Kernel8Ideal.Value Idealize.ShloMosaic Idealize.ShloMosaic.TcCoe Idealize.SL.Sem

variable (m : (ℓ : Loc nD τ sig) → Buf (Elt Ideal) ℓ)

/-- One step at an index: what the buffer held plus the block's 1024 products. -/
theorem pay2_apply (acc : Vec Ideal S512x1024 .f32) (x0 : Vec Ideal S1024x512 .bf16) (x1 : Vec Ideal S1024x1024 .bf16)
    (r : Fin 512) (l : Fin 1024) :
    k0_pay2 acc x0 x1 (ix2 r l) = acc (ix2 r l) + ∑ k : Fin 1024, x0 (ix2 k r) * x1 (ix2 k l) := by
  pointwise [k0_pay2]

/-- The block the reset stores is zero. -/
theorem pay1_apply (j : S512x1024.Idx) : k0_pay1 (F := Ideal) j = 0 := by
  pointwise [k0_pay1]

/-- The two factors as the call finds them. -/
abbrev hArr (c : Dev nD) : Vec Ideal S8192x1024 .bf16 := m ((c : Thread nD τ).loc main_arg0)
abbrev dpArr (c : Dev nD) : Vec Ideal S8192x1024 .bf16 := m ((c : Thread nD τ).loc main_arg1)

theorem win0_facts : ∀ t : Fin cfg0.N, win0_0.index t (0 : Fin 2) = t.val % 8 ∧ win0_0.index t (1 : Fin 2) = t.val / 8
    ∧ win0_1.index t (0 : Fin 2) = t.val % 8 ∧ win0_1.index t (1 : Fin 2) = t.val / 8 % 1 :=
  (by decide +kernel : ∀ t : Fin grid0.N, _)

/-- A block of the first factor, in the array's own indices. -/
theorem iblk0_apply (c : Dev nD) (t : Fin cfg0.N) (k : Fin 1024) (r : Fin 512) (K : Fin 8192) (R : Fin 1024)
    (hK : K.val = t.val % 8 * 1024 + k.val) (hR : R.val = t.val / 8 * 512 + r.val) :
    iblk m c 0 t (ix2 k r) = hArr m c (ix2 K R) := by
  obtain ⟨e0, e1, -, -⟩ := win0_facts t
  show hArr m c (((cfg0.win 0).blk t).view.emb (ix2 k r)) = _
  refine congrArg _ (funext fun a => Fin.ext ?_)
  match a with
  | ⟨0, _⟩ => show win0_0.index t (0 : Fin 2) * 1024 + 1 * k.val = K.val; rw [e0, hK]; omega
  | ⟨1, _⟩ => show win0_0.index t (1 : Fin 2) * 512 + 1 * r.val = R.val; rw [e1, hR]; omega

/-- A block of the second factor, in the array's own indices. -/
theorem iblk1_apply (c : Dev nD) (t : Fin cfg0.N) (k : Fin 1024) (l : Fin 1024) (K : Fin 8192) (L : Fin 1024)
    (hK : K.val = t.val % 8 * 1024 + k.val) (hL : L.val = t.val / 8 % 1 * 1024 + l.val) :
    iblk m c 1 t (ix2 k l) = dpArr m c (ix2 K L) := by
  obtain ⟨-, -, e0, e1⟩ := win0_facts t
  show dpArr m c (((cfg0.win 1).blk t).view.emb (ix2 k l)) = _
  refine congrArg _ (funext fun a => Fin.ext ?_)
  match a with
  | ⟨0, _⟩ => show win0_1.index t (0 : Fin 2) * 1024 + 1 * k.val = K.val; rw [e0, hK]; omega
  | ⟨1, _⟩ => show win0_1.index t (1 : Fin 2) * 1024 + 1 * l.val = L.val; rw [e1, hL]; omega

/-- The two blocks of a point, as blocks of numbers. -/
abbrev hBlk (c : Dev nD) (t : Fin cfg0.N) : Vec Ideal S1024x512 .bf16 := iblk m c 0 t
abbrev dpBlk (c : Dev nD) (t : Fin cfg0.N) : Vec Ideal S1024x1024 .bf16 := iblk m c 1 t

/-- What block `q` of the rows adds to the result at `(R, L)`. -/
def part (c : Dev nD) (R : Fin 1024) (L : Fin 1024) (q : ℕ) : EReal :=
  if h : q < 8 then ∑ k : Fin 1024, hArr m c (ix2 ⟨q * 1024 + k.val, by omega⟩ R) * dpArr m c (ix2 ⟨q * 1024 + k.val, by omega⟩ L)
  else 0

/-- A block's product is its part. -/
theorem part_eq (c : Dev nD) (q : ℕ) (R : Fin 1024) (L : Fin 1024) (r : Fin 512) (l : Fin 1024)
    (hR : R.val = q / 1 * 512 + r.val) (hL : L.val = q % 1 * 1024 + l.val) (j : ℕ) (hj : j < 8) (h : 8 * q + j < cfg0.N) :
    ∑ k : Fin 1024, hBlk m c ⟨8 * q + j, h⟩ (ix2 k r) * dpBlk m c ⟨8 * q + j, h⟩ (ix2 k l) = part m c R L j := by
  have e8 : (8 * q + j) % 8 = j := by omega
  have eq : (8 * q + j) / 8 = q := by omega
  have en : (8 * q + j) / 8 = q / 1 := by omega
  rw [part, dif_pos hj]
  refine Finset.sum_congr rfl fun k _ => ?_
  exact congrArg₂ (· * ·) (iblk0_apply m c ⟨8 * q + j, h⟩ k r ⟨j * 1024 + k.val, by omega⟩ R (by dsimp only; rw [e8]) (by dsimp only; rw [en]; exact hR))
    (iblk1_apply m c ⟨8 * q + j, h⟩ k l ⟨j * 1024 + k.val, by omega⟩ L (by dsimp only; rw [e8]) (by dsimp only; rw [eq]; exact hL))

/-- The fold over the first `j + 1` blocks of one block of the result is the sum of their parts. -/
theorem fold_apply (c : Dev nD) (q : ℕ) (R : Fin 1024) (L : Fin 1024) (r : Fin 512) (l : Fin 1024)
    (hR : R.val = q / 1 * 512 + r.val) (hL : L.val = q % 1 * 1024 + l.val) :
    ∀ (j : ℕ) (hj : j < 8) (h : 8 * q + j < cfg0.N),
      Pipeline.accAt (reset2 m c) (step2 m c) (8 * q) j h (ix2 r l) = ∑ s ∈ Finset.range (j + 1), part m c R L s
  | 0, hj, h => by
    rw [Pipeline.accAt_zero, Finset.sum_range_one, ← part_eq m c q R L r l hR hL 0 hj h]
    show k0_pay2 _ _ _ _ = _
    rw [pay2_apply, pay1_apply, zero_add]
    rfl
  | j + 1, hj, h => by
    rw [Pipeline.accAt_succ, Finset.sum_range_succ, ← fold_apply c q R L r l hR hL j (by omega) (by omega),
      ← part_eq m c q R L r l hR hL (j + 1) hj h]
    show k0_pay2 _ _ _ _ = _
    rw [pay2_apply]

/-- The result array, as a block of numbers. -/
abbrev resArr (c : Dev nD) : Vec Ideal S1024x1024 .f32 := G2 m c

/-- The result array at an index: one sum over the 8192 rows. -/
theorem result_apply (c : Dev nD) (R : Fin 1024) (L : Fin 1024) :
    resArr m c (ix2 R L) = ∑ k : Fin 8192, hArr m c (ix2 k R) * dpArr m c (ix2 k L) := by
  have hN : cfg0.N = 16 := N_0
  have hr : run2Of (ix2 R L) = 1 * (R.val / 512) + L.val / 1024 := by
    show 1 * (R.val / 512 - 0) + 1 * (L.val / 1024 - 0) = _; omega
  have hl : loc2Of (ix2 R L) = ix2 ⟨R.val % 512, Nat.mod_lt _ (by decide)⟩ ⟨L.val % 1024, Nat.mod_lt _ (by decide)⟩ := by
    funext a; apply Fin.ext
    match a with
    | ⟨0, _⟩ => rfl
    | ⟨1, _⟩ => rfl
  unfold resArr G2
  rw [dif_pos (by rw [hr]; omega), hl]
  rw [fold_apply m c (run2Of (ix2 R L)) R L _ _ (by rw [hr]; dsimp only; omega) (by rw [hr]; dsimp only; omega) 7 (by decide),
    Fin.sum_univ_tiles 8 1024 rfl, Finset.sum_range]
  refine Finset.sum_congr rfl fun q _ => ?_
  rw [part, dif_pos q.isLt]

open Cert.Reference8Ideal.Read in
/-- The reference's gradient at an index. -/
theorem ref_apply (x0 : Vec Ideal S8192x1024 .bf16) (x1 : Vec Ideal S8192x1024 .bf16) (R : Fin 1024) (L : Fin 1024) :
    val_main_v5 (F := Ideal) x0 x1 (ix2 R L) = ∑ k : Fin 8192, x0 (ix2 k R) * x1 (ix2 k L) := by
  pointwise [val_main_v5, val_main_v4, val_main_v3, val_main_v1]
  exact Finset.sum_congr rfl fun k _ => mul_comm _ _

/-- The equation of the two arrays. -/
theorem arrays_eq (c : Dev nD) : G2 m c = Cert.Reference8Ideal.Read.val_main_v5 (F := Ideal) (hArr m c) (dpArr m c) := by
  funext j
  obtain ⟨R, L, rfl⟩ : ∃ (R : Fin 1024) (L : Fin 1024), j = ix2 R L := ⟨j 0, j 1, by funext a; match a with | ⟨0, _⟩ => rfl | ⟨1, _⟩ => rfl⟩
  exact (result_apply m c R L).trans (ref_apply _ _ R L).symm

end Cert.Kernel8Ideal.Grad

namespace Cert.Product8

open Idealize.ShloMosaic Idealize.ShloMosaic.TcCoe Idealize.SL.Sem

/-- The claim about the two programs. -/
theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => Cert.Kernel8Ideal.Value.G2 m c, Cert.Kernel8Ideal.Value.run m g, ?_⟩
  refine (θ_run Cert.Reference8Ideal.defs _ _).mono (fun r h c => ?_) (Cert.Reference8Ideal.Value.run (F := Ideal) m' g')
  refine ⟨(h c).1.trans ?_, (h c).2⟩
  rw [(hagree c).1, (hagree c).2]
  exact (Cert.Kernel8Ideal.Grad.arrays_eq m c).symm

/-- The reference's frame: it has no counters at all. -/
theorem frame_ref : Cert.quiescent_Reference8Ideal (hReference8Ideal := Cert.Reference8Ideal.Gen.facts) := by
  intro m g _
  exact (θ_run Cert.Reference8Ideal.defs _ _).mono (fun r h => ⟨fun c => (h c).2, sem_eq_zero_of_no_sems (by decide) r.2⟩)
    (Cert.Reference8Ideal.Value.run (F := Ideal) m g)

end Cert.Product8

end
-- ==== Proof.Norm.P9.lean ====
/-
  The gradient of the recurrent layer's output norm and projection: what the four result arrays hold, and that this is the reference's.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Norm.Back
public import proofs.«01_k».proof.Proof.Norm.Store
public import Idealize.ShloMosaic.Lib.Pipeline.ValueKit.Acc
public import Idealize.ShloMosaic.Lib.Quiescent

@[expose] public section

noncomputable section

namespace Cert.Kernel9Ideal.Norm

open Cert.Kernel9Ideal Cert.Kernel9Ideal.Gen Cert.Kernel9Ideal.Value Idealize.ShloMosaic Idealize.ShloMosaic.TcCoe Idealize.SL.Sem
open Cert.Norm

theorem zeros2 : (![0, 0] : Fin 2 → Nat) = fun _ => 0 := by
  funext a; match a with | ⟨0, _⟩ => rfl | ⟨1, _⟩ => rfl

/-! ## The body -/

theorem dy_apply (y d : Vec Ideal S512x1024 .f32) (q : Vec Ideal S1x1024 .f32) (r : Fin 512) (l : Fin 1024) :
    k0_pay8 (F := Ideal) y d q (ix2 r l) = back (fun k => y (ix2 r k)) (fun k => d (ix2 r k) * q (ix2 0 k)) l := by
  pointwise [k0_pay8, k0_pay7, k0_pay6]
  rfl

theorem dy16_apply (y d : Vec Ideal S512x1024 .f32) (q : Vec Ideal S1x1024 .f32) (r : Fin 512) (l : Fin 1024) :
    k0_pay2 (F := Ideal) (k0_pay8 y d q) (ix2 r l) = back (fun k => y (ix2 r k)) (fun k => d (ix2 r k) * q (ix2 0 k)) l := by
  pointwise [k0_pay2]
  exact dy_apply ..

theorem dg_apply (y d : Vec Ideal S512x1024 .f32) (q : Vec Ideal S1x1024 .f32) (w : Vec Ideal S1024x1024 .bf16) (r : Fin 512) (l : Fin 1024) :
    k0_pay3 (F := Ideal) (k0_pay8 y d q) w (ix2 r l) = ∑ j : Fin 1024, back (fun k => y (ix2 r k)) (fun k => d (ix2 r k) * q (ix2 0 k)) j * w (ix2 l j) := by
  pointwise [k0_pay3, k0_pay2]
  simp only [dy_apply]

theorem dqw_apply (y d : Vec Ideal S512x1024 .f32) (a : Vec Ideal S1x1024 .f32) (l : Fin 1024) :
    k0_pay9 (F := Ideal) y d a (ix2 0 l) = a (ix2 0 l) + ∑ r : Fin 512, d (ix2 r l) * (y (ix2 r l) * inv (fun k => y (ix2 r k))) := by
  pointwise [k0_pay9, k0_pay7, k0_pay6]
  rfl

theorem db_apply (y d : Vec Ideal S512x1024 .f32) (q : Vec Ideal S1x1024 .f32) (a : Vec Ideal S1x1024 .f32) (l : Fin 1024) :
    k0_pay1 (F := Ideal) (k0_pay8 y d q) (k0_pay10 a) (ix2 0 l) = a (ix2 0 l) + ∑ r : Fin 512, back (fun k => y (ix2 r k)) (fun k => d (ix2 r k) * q (ix2 0 k)) l := by
  pointwise [k0_pay1, k0_pay10]
  simp only [dy_apply]

/-! ## The blocks of the arguments -/

variable (m : (ℓ : Loc nD τ sig) → Buf (Elt Ideal) ℓ)

abbrev arr0 (c : Dev nD) : Vec Ideal S8192x1024 .f32 := m ((c : Thread nD τ).loc main_arg0)
abbrev arr1 (c : Dev nD) : Vec Ideal S8192x1024 .f32 := m ((c : Thread nD τ).loc main_arg1)
abbrev arr2 (c : Dev nD) : Vec Ideal S1x1024 .f32 := m ((c : Thread nD τ).loc main_arg2)
abbrev arr3 (c : Dev nD) : Vec Ideal S1024x1024 .bf16 := m ((c : Thread nD τ).loc main_arg3)

theorem win_facts : ∀ t : Fin cfg0.N, win0_0.index t (0 : Fin 2) = t.val ∧ win0_0.index t (1 : Fin 2) = 0 ∧ win0_1.index t (0 : Fin 2) = t.val ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = t.val ∧ win0_4.index t (1 : Fin 2) = 0 ∧ win0_5.index t (0 : Fin 2) = t.val ∧ win0_5.index t (1 : Fin 2) = 0 ∧ win0_6.index t (0 : Fin 2) = 0 ∧ win0_6.index t (1 : Fin 2) = 0 ∧ win0_7.index t (0 : Fin 2) = 0 ∧ win0_7.index t (1 : Fin 2) = 0 :=
  (by decide +kernel : ∀ t : Fin grid0.N, _)

theorem N16 (t : Fin cfg0.N) : t.val < 16 := lt_of_lt_of_eq t.isLt (show cfg0.N = 16 from N_0)

/-- Row `r` of point `t`'s block. -/
abbrev row (t : Fin cfg0.N) (r : Fin 512) : Fin 8192 := ⟨t.val * 512 + r.val, by have := N16 t; omega⟩

theorem blk0 (c : Dev nD) (t : Fin cfg0.N) (r : Fin 512) (l : Fin 1024) : iblk m c 0 t (ix2 r l) = arr0 m c (ix2 (row t r) l) := by
  have e := win_facts t
  show arr0 m c (((cfg0.win 0).blk t).view.emb (ix2 r l)) = _
  refine congrArg _ (funext fun a => Fin.ext ?_)
  match a with
  | ⟨0, _⟩ => show win0_0.index t (0 : Fin 2) * 512 + 1 * r.val = _; rw [e.1]; show _ = t.val * 512 + r.val; omega
  | ⟨1, _⟩ => show win0_0.index t (1 : Fin 2) * 1024 + 1 * l.val = l.val; rw [e.2.1]; omega

theorem blk1 (c : Dev nD) (t : Fin cfg0.N) (r : Fin 512) (l : Fin 1024) : iblk m c 1 t (ix2 r l) = arr1 m c (ix2 (row t r) l) := by
  have e := win_facts t
  show arr1 m c (((cfg0.win 1).blk t).view.emb (ix2 r l)) = _
  refine congrArg _ (funext fun a => Fin.ext ?_)
  match a with
  | ⟨0, _⟩ => show win0_1.index t (0 : Fin 2) * 512 + 1 * r.val = _; rw [e.2.2.1]; show _ = t.val * 512 + r.val; omega
  | ⟨1, _⟩ => show win0_1.index t (1 : Fin 2) * 1024 + 1 * l.val = l.val; rw [e.2.2.2.1]; omega

theorem blk2 (c : Dev nD) (t : Fin cfg0.N) (r : Fin 1) (l : Fin 1024) : iblk m c 2 t (ix2 r l) = arr2 m c (ix2 (r) l) := by
  have e := win_facts t
  show arr2 m c (((cfg0.win 2).blk t).view.emb (ix2 r l)) = _
  refine congrArg _ (funext fun a => Fin.ext ?_)
  match a with
  | ⟨0, _⟩ => show win0_2.index t (0 : Fin 2) * 1 + 1 * r.val = r.val; rw [e.2.2.2.2.1]; omega
  | ⟨1, _⟩ => show win0_2.index t (1 : Fin 2) * 1024 + 1 * l.val = l.val; rw [e.2.2.2.2.2.1]; omega

theorem blk3 (c : Dev nD) (t : Fin cfg0.N) (r : Fin 1024) (l : Fin 1024) : iblk m c 3 t (ix2 r l) = arr3 m c (ix2 (r) l) := by
  have e := win_facts t
  show arr3 m c (((cfg0.win 3).blk t).view.emb (ix2 r l)) = _
  refine congrArg _ (funext fun a => Fin.ext ?_)
  match a with
  | ⟨0, _⟩ => show win0_3.index t (0 : Fin 2) * 1024 + 1 * r.val = r.val; rw [e.2.2.2.2.2.2.1]; omega
  | ⟨1, _⟩ => show win0_3.index t (1 : Fin 2) * 1024 + 1 * l.val = l.val; rw [e.2.2.2.2.2.2.2.1]; omega

/-! ## What the outputs' blocks hold, point by point -/

/-- The blocks a point reads. -/
abbrev B0 (c : Dev nD) (t : Fin cfg0.N) : Vec Ideal S512x1024 .f32 := iblk m c 0 t
abbrev B1 (c : Dev nD) (t : Fin cfg0.N) : Vec Ideal S512x1024 .f32 := iblk m c 1 t
abbrev B2 (c : Dev nD) (t : Fin cfg0.N) : Vec Ideal S1x1024 .f32 := iblk m c 2 t
abbrev B3 (c : Dev nD) (t : Fin cfg0.N) : Vec Ideal S1024x1024 .bf16 := iblk m c 3 t
/-- The blocks the sums over the rows lie in after point `n`. -/
abbrev O6 (c : Dev nD) (n : Nat) (h : n < cfg0.N) : Vec Ideal S1x1024 .f32 := (outsAt0 m c n h).2.2.1
abbrev O7 (c : Dev nD) (n : Nat) (h : n < cfg0.N) : Vec Ideal S1x1024 .f32 := (outsAt0 m c n h).2.2.2

theorem dg_pt (c : Dev nD) (t : Fin cfg0.N) (r : Fin 512) (l : Fin 1024) : (outsAt0 m c t.val t.isLt).1 (ix2 r l)
    = ∑ j : Fin 1024, back (fun k => B1 m c t (ix2 r k)) (fun k => B0 m c t (ix2 r k) * B2 m c t (ix2 0 k)) j * B3 m c t (ix2 l j) := by
  by_cases h0 : t.val % 16 = 0
  · rw [outsAt0_A m c t h0]; frame_out; exact dg_apply ..
  · rw [outsAt0_B m c t h0]; frame_out; exact dg_apply ..

theorem dy_pt (c : Dev nD) (t : Fin cfg0.N) (r : Fin 512) (l : Fin 1024) : (outsAt0 m c t.val t.isLt).2.1 (ix2 r l)
    = back (fun k => B1 m c t (ix2 r k)) (fun k => B0 m c t (ix2 r k) * B2 m c t (ix2 0 k)) l := by
  by_cases h0 : t.val % 16 = 0
  · rw [outsAt0_A m c t h0]; frame_out; exact dy16_apply ..
  · rw [outsAt0_B m c t h0]; frame_out; exact dy16_apply ..

theorem dqw_A (c : Dev nD) (t : Fin cfg0.N) (h0 : t.val % 16 = 0) (l : Fin 1024) : O6 m c t.val t.isLt (ix2 0 l) = 0 + ∑ r : Fin 512, B0 m c t (ix2 r l) * (B1 m c t (ix2 r l) * inv (fun k => B1 m c t (ix2 r k))) := by
  show (outsAt0 m c t.val t.isLt).2.2.1 (ix2 0 l) = _; rw [outsAt0_A m c t h0]; frame_out
  refine (dqw_apply ..).trans (congrArg (· + _) ?_)
  pointwise [k0_pay4]
theorem dqw_B (c : Dev nD) (t : Fin cfg0.N) (h0 : ¬t.val % 16 = 0) (l : Fin 1024) : O6 m c t.val t.isLt (ix2 0 l) = O6 m c (t.val - 1) (Nat.lt_of_le_of_lt (Nat.sub_le _ _) t.isLt) (ix2 0 l) + ∑ r : Fin 512, B0 m c t (ix2 r l) * (B1 m c t (ix2 r l) * inv (fun k => B1 m c t (ix2 r k))) := by
  show (outsAt0 m c t.val t.isLt).2.2.1 (ix2 0 l) = _; rw [outsAt0_B m c t h0]; frame_out
  exact dqw_apply ..

theorem db_A (c : Dev nD) (t : Fin cfg0.N) (h0 : t.val % 16 = 0) (l : Fin 1024) : O7 m c t.val t.isLt (ix2 0 l) = 0 + ∑ r : Fin 512, back (fun k => B1 m c t (ix2 r k)) (fun k => B0 m c t (ix2 r k) * B2 m c t (ix2 0 k)) l := by
  show (outsAt0 m c t.val t.isLt).2.2.2 (ix2 0 l) = _; rw [outsAt0_A m c t h0]; frame_out
  refine (db_apply ..).trans (congrArg (· + _) ?_)
  pointwise [k0_pay5]
theorem db_B (c : Dev nD) (t : Fin cfg0.N) (h0 : ¬t.val % 16 = 0) (l : Fin 1024) : O7 m c t.val t.isLt (ix2 0 l) = O7 m c (t.val - 1) (Nat.lt_of_le_of_lt (Nat.sub_le _ _) t.isLt) (ix2 0 l) + ∑ r : Fin 512, back (fun k => B1 m c t (ix2 r k)) (fun k => B0 m c t (ix2 r k) * B2 m c t (ix2 0 k)) l := by
  show (outsAt0 m c t.val t.isLt).2.2.2 (ix2 0 l) = _; rw [outsAt0_B m c t h0]; frame_out
  exact db_apply ..

/-! ## The reference, and the equations of the arrays -/

open Cert.Reference9Ideal.Read in
theorem ref_dy (x0 x1 : Vec Ideal S8192x1024 .f32) (x2 : Vec Ideal S1x1024 .f32) (R : Fin 8192) (l : Fin 1024) : val_main_v35 (F := Ideal) x0 x1 x2 (ix2 R l) = back (fun k => x1 (ix2 R k)) (fun k => x0 (ix2 R k) * x2 (ix2 0 k)) l := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_3, val_main_cst_4, val_main_cst_5, val_main_cst_6, val_main_cst_7, val_main_cst_8, val_main_cst_9]
  simp only [zero_add, Finset.univ_unique, Finset.sum_singleton]
  rw [back_eq, add_assoc]
  rfl
open Cert.Reference9Ideal.Read in
theorem ref_dy16 (x0 x1 : Vec Ideal S8192x1024 .f32) (x2 : Vec Ideal S1x1024 .f32) (R : Fin 8192) (l : Fin 1024) : val_main_v43 (F := Ideal) x0 x1 x2 (ix2 R l) = back (fun k => x1 (ix2 R k)) (fun k => x0 (ix2 R k) * x2 (ix2 0 k)) l := by
  pointwise [val_main_v43]
  exact ref_dy ..
open Cert.Reference9Ideal.Read in
theorem ref_dg (x0 x1 : Vec Ideal S8192x1024 .f32) (x2 : Vec Ideal S1x1024 .f32) (x3 : Vec Ideal S1024x1024 .bf16) (R : Fin 8192) (l : Fin 1024) :
    val_main_v42 (F := Ideal) x0 x1 x2 x3 (ix2 R l) = ∑ j : Fin 1024, back (fun k => x1 (ix2 R k)) (fun k => x0 (ix2 R k) * x2 (ix2 0 k)) j * x3 (ix2 l j) := by
  pointwise [val_main_v42, val_main_v36]
  simp only [ref_dy]
open Cert.Reference9Ideal.Read in
theorem ref_dqw (x0 x1 : Vec Ideal S8192x1024 .f32) (l : Fin 1024) :
    val_main_v19 (F := Ideal) x0 x1 (ix2 0 l) = ∑ R : Fin 8192, x0 (ix2 R l) * (x1 (ix2 R l) * inv (fun k => x1 (ix2 R k))) := by
  pointwise [val_main_v19, val_main_v18, val_main_v17, val_main_v14, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_3, val_main_cst_4, val_main_cst_5, val_main_cst_6, val_main_cst_7, val_main_cst_8, val_main_cst_9]
  exact Finset.sum_congr rfl fun _ _ => mul_comm _ _
open Cert.Reference9Ideal.Read in
theorem ref_db (x0 x1 : Vec Ideal S8192x1024 .f32) (x2 : Vec Ideal S1x1024 .f32) (l : Fin 1024) : val_main_v41 (F := Ideal) x0 x1 x2 (ix2 0 l) = ∑ R : Fin 8192, back (fun k => x1 (ix2 R k)) (fun k => x0 (ix2 R k) * x2 (ix2 0 k)) l := by
  pointwise [val_main_v41, val_main_v40, val_main_cst_9]
  simp only [ref_dy]

theorem dg_eq (c : Dev nD) : (dats m 0 c).arrAt 4 cfg0.N = Cert.Reference9Ideal.Read.val_main_v42 (F := Ideal) (arr0 m c) (arr1 m c) (arr2 m c) (arr3 m c) := by
  refine Pipeline.Dat.arrAt_eq_of_cover (dats m 0 c) 4 _ (fun t _ => ?_) (fun i => ?_)
  · rw [flushed4]
    have e := win_facts t
    funext (y : S512x1024.Idx)
    idx_vars y
    show (outsAt0 m c t.val t.isLt).1 (ix2 y0 y1) = Cert.Reference9Ideal.Read.val_main_v42 (F := Ideal) (arr0 m c) (arr1 m c) (arr2 m c) (arr3 m c) (((cfg0.win 4).blk t).view.emb (ix2 y0 y1 : S512x1024.Idx))
    have hi : ((cfg0.win 4).blk t).view.emb (ix2 y0 y1 : S512x1024.Idx) = (ix2 (row t y0) y1 : S8192x1024.Idx) := by
      funext a; apply Fin.ext
      match a with
      | ⟨0, _⟩ => show win0_4.index t (0 : Fin 2) * 512 + 1 * y0.val = _; rw [e.2.2.2.2.2.2.2.2.1]; show _ = t.val * 512 + y0.val; omega
      | ⟨1, _⟩ => show win0_4.index t (1 : Fin 2) * 1024 + 1 * y1.val = y1.val; rw [e.2.2.2.2.2.2.2.2.2.1]; omega
    rw [hi]
    refine (dg_pt m c t y0 y1).trans (Eq.trans ?_ (ref_dg (arr0 m c) (arr1 m c) (arr2 m c) (arr3 m c) (row t y0) y1).symm)
    simp only [blk0, blk1, blk2, blk3]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_4 t, ?_⟩
    have e := win_facts t
    have hi : ((cfg0.win 4).blk t).view.emb (ix2 r l : S512x1024.Idx) = (ix2 R l : S8192x1024.Idx) := by
      funext a; apply Fin.ext
      match a with
      | ⟨0, _⟩ => show win0_4.index t (0 : Fin 2) * 512 + 1 * r.val = R.val; rw [e.2.2.2.2.2.2.2.2.1]; omega
      | ⟨1, _⟩ => show win0_4.index t (1 : Fin 2) * 1024 + 1 * l.val = l.val; rw [e.2.2.2.2.2.2.2.2.2.1]; omega
    exact hi ▸ ((cfg0.win 4).blk t).view.emb_mem_set (ix2 r l : S512x1024.Idx)

theorem dy_eq (c : Dev nD) : (dats m 0 c).arrAt 5 cfg0.N = Cert.Reference9Ideal.Read.val_main_v43 (F := Ideal) (arr0 m c) (arr1 m c) (arr2 m c) := by
  refine Pipeline.Dat.arrAt_eq_of_cover (dats m 0 c) 5 _ (fun t _ => ?_) (fun i => ?_)
  · rw [flushed5]
    have e := win_facts t
    funext (y : S512x1024.Idx)
    idx_vars y
    show (outsAt0 m c t.val t.isLt).2.1 (ix2 y0 y1) = Cert.Reference9Ideal.Read.val_main_v43 (F := Ideal) (arr0 m c) (arr1 m c) (arr2 m c) (((cfg0.win 5).blk t).view.emb (ix2 y0 y1 : S512x1024.Idx))
    have hi : ((cfg0.win 5).blk t).view.emb (ix2 y0 y1 : S512x1024.Idx) = (ix2 (row t y0) y1 : S8192x1024.Idx) := by
      funext a; apply Fin.ext
      match a with
      | ⟨0, _⟩ => show win0_5.index t (0 : Fin 2) * 512 + 1 * y0.val = _; rw [e.2.2.2.2.2.2.2.2.2.2.1]; show _ = t.val * 512 + y0.val; omega
      | ⟨1, _⟩ => show win0_5.index t (1 : Fin 2) * 1024 + 1 * y1.val = y1.val; rw [e.2.2.2.2.2.2.2.2.2.2.2.1]; omega
    rw [hi]
    refine (dy_pt m c t y0 y1).trans (Eq.trans ?_ (ref_dy16 (arr0 m c) (arr1 m c) (arr2 m c) (row t y0) y1).symm)
    simp only [blk0, blk1, blk2]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_5 t, ?_⟩
    have e := win_facts t
    have hi : ((cfg0.win 5).blk t).view.emb (ix2 r l : S512x1024.Idx) = (ix2 R l : S8192x1024.Idx) := by
      funext a; apply Fin.ext
      match a with
      | ⟨0, _⟩ => show win0_5.index t (0 : Fin 2) * 512 + 1 * r.val = R.val; rw [e.2.2.2.2.2.2.2.2.2.2.1]; omega
      | ⟨1, _⟩ => show win0_5.index t (1 : Fin 2) * 1024 + 1 * l.val = l.val; rw [e.2.2.2.2.2.2.2.2.2.2.2.1]; omega
    exact hi ▸ ((cfg0.win 5).blk t).view.emb_mem_set (ix2 r l : S512x1024.Idx)

theorem dqw_eq (c : Dev nD) : (dats m 0 c).arrAt 6 cfg0.N = Cert.Reference9Ideal.Read.val_main_v19 (F := Ideal) (arr0 m c) (arr1 m c) := by
  have hN : cfg0.N = 16 := N_0
  refine Pipeline.Dat.arrAt_eq_of_cover (dats m 0 c) 6 _ (fun t hf => ?_) (fun i => ?_)
  · have ht : t.val + 1 = cfg0.N := by have := (flush0_6 t).mp hf; omega
    rw [flushed6]
    have e := win_facts t
    funext (y : S1x1024.Idx)
    idx_vars y
    show O6 m c t.val t.isLt (ix2 y0 y1) = Cert.Reference9Ideal.Read.val_main_v19 (F := Ideal) (arr0 m c) (arr1 m c) (((cfg0.win 6).blk t).view.emb (ix2 y0 y1 : S1x1024.Idx))
    have hi : ∀ (r : Fin 1) (l : Fin 1024), ((cfg0.win 6).blk t).view.emb (ix2 r l : S1x1024.Idx) = (ix2 r l : S1x1024.Idx) := by
      intro r l; funext a; apply Fin.ext
      match a with
      | ⟨0, _⟩ => show win0_6.index t (0 : Fin 2) * 1 + 1 * r.val = r.val; rw [e.2.2.2.2.2.2.2.2.2.2.2.2.1]; omega
      | ⟨1, _⟩ => show win0_6.index t (1 : Fin 2) * 1024 + 1 * l.val = l.val; rw [e.2.2.2.2.2.2.2.2.2.2.2.2.2.1]; omega
    rw [hi]
    rw [show y0 = 0 from Subsingleton.elim _ _]
    refine (Pipeline.eq_sum_fin_of_reset_step_apply_last (fun n h l => O6 m c n h (ix2 0 l)) 16 (fun _ => 0) (fun t l => ∑ r : Fin 512, B0 m c t (ix2 r l) * (B1 m c t (ix2 r l) * inv (fun k => B1 m c t (ix2 r k))))
      (fun t h l => dqw_A m c t h l) (fun t h l => dqw_B m c t h l) (by omega) t ht y1).trans (Eq.trans ?_ (ref_dqw (arr0 m c) (arr1 m c) y1).symm)
    refine sum_points hN _ _ (fun p => ?_)
    simp only [blk0, blk1]
  · obtain ⟨R, l, rfl⟩ : ∃ (R : Fin 1) (l : Fin 1024), i = (ix2 R l : S1x1024.Idx) :=
      ⟨i 0, i 1, by funext a; match a with | ⟨0, _⟩ => rfl | ⟨1, _⟩ => rfl⟩
    obtain ⟨t, ht⟩ : ∃ t : Fin cfg0.N, t.val = 15 := ⟨⟨15, by omega⟩, rfl⟩
    refine ⟨t, (flush0_6 t).mpr (by omega), ?_⟩
    have e := win_facts t
    have hi : ∀ (r : Fin 1) (l : Fin 1024), ((cfg0.win 6).blk t).view.emb (ix2 r l : S1x1024.Idx) = (ix2 r l : S1x1024.Idx) := by
      intro r l; funext a; apply Fin.ext
      match a with
      | ⟨0, _⟩ => show win0_6.index t (0 : Fin 2) * 1 + 1 * r.val = r.val; rw [e.2.2.2.2.2.2.2.2.2.2.2.2.1]; omega
      | ⟨1, _⟩ => show win0_6.index t (1 : Fin 2) * 1024 + 1 * l.val = l.val; rw [e.2.2.2.2.2.2.2.2.2.2.2.2.2.1]; omega
    exact hi R l ▸ ((cfg0.win 6).blk t).view.emb_mem_set (ix2 R l : S1x1024.Idx)

theorem db_eq (c : Dev nD) : (dats m 0 c).arrAt 7 cfg0.N = Cert.Reference9Ideal.Read.val_main_v41 (F := Ideal) (arr0 m c) (arr1 m c) (arr2 m c) := by
  have hN : cfg0.N = 16 := N_0
  refine Pipeline.Dat.arrAt_eq_of_cover (dats m 0 c) 7 _ (fun t hf => ?_) (fun i => ?_)
  · have ht : t.val + 1 = cfg0.N := by have := (flush0_7 t).mp hf; omega
    rw [flushed7]
    have e := win_facts t
    funext (y : S1x1024.Idx)
    idx_vars y
    show O7 m c t.val t.isLt (ix2 y0 y1) = Cert.Reference9Ideal.Read.val_main_v41 (F := Ideal) (arr0 m c) (arr1 m c) (arr2 m c) (((cfg0.win 7).blk t).view.emb (ix2 y0 y1 : S1x1024.Idx))
    have hi : ∀ (r : Fin 1) (l : Fin 1024), ((cfg0.win 7).blk t).view.emb (ix2 r l : S1x1024.Idx) = (ix2 r l : S1x1024.Idx) := by
      intro r l; funext a; apply Fin.ext
      match a with
      | ⟨0, _⟩ => show win0_7.index t (0 : Fin 2) * 1 + 1 * r.val = r.val; rw [e.2.2.2.2.2.2.2.2.2.2.2.2.2.2.1]; omega
      | ⟨1, _⟩ => show win0_7.index t (1 : Fin 2) * 1024 + 1 * l.val = l.val; rw [e.2.2.2.2.2.2.2.2.2.2.2.2.2.2.2]; omega
    rw [hi]
    rw [show y0 = 0 from Subsingleton.elim _ _]
    refine (Pipeline.eq_sum_fin_of_reset_step_apply_last (fun n h l => O7 m c n h (ix2 0 l)) 16 (fun _ => 0) (fun t l => ∑ r : Fin 512, back (fun k => B1 m c t (ix2 r k)) (fun k => B0 m c t (ix2 r k) * B2 m c t (ix2 0 k)) l)
      (fun t h l => db_A m c t h l) (fun t h l => db_B m c t h l) (by omega) t ht y1).trans (Eq.trans ?_ (ref_db (arr0 m c) (arr1 m c) (arr2 m c) y1).symm)
    refine sum_points hN _ _ (fun p => ?_)
    simp only [blk0, blk1, blk2]
  · obtain ⟨R, l, rfl⟩ : ∃ (R : Fin 1) (l : Fin 1024), i = (ix2 R l : S1x1024.Idx) :=
      ⟨i 0, i 1, by funext a; match a with | ⟨0, _⟩ => rfl | ⟨1, _⟩ => rfl⟩
    obtain ⟨t, ht⟩ : ∃ t : Fin cfg0.N, t.val = 15 := ⟨⟨15, by omega⟩, rfl⟩
    refine ⟨t, (flush0_7 t).mpr (by omega), ?_⟩
    have e := win_facts t
    have hi : ∀ (r : Fin 1) (l : Fin 1024), ((cfg0.win 7).blk t).view.emb (ix2 r l : S1x1024.Idx) = (ix2 r l : S1x1024.Idx) := by
      intro r l; funext a; apply Fin.ext
      match a with
      | ⟨0, _⟩ => show win0_7.index t (0 : Fin 2) * 1 + 1 * r.val = r.val; rw [e.2.2.2.2.2.2.2.2.2.2.2.2.2.2.1]; omega
      | ⟨1, _⟩ => show win0_7.index t (1 : Fin 2) * 1024 + 1 * l.val = l.val; rw [e.2.2.2.2.2.2.2.2.2.2.2.2.2.2.2]; omega
    exact hi R l ▸ ((cfg0.win 7).blk t).view.emb_mem_set (ix2 R l : S1x1024.Idx)

end Cert.Kernel9Ideal.Norm

namespace Cert.Norm9

open Idealize.ShloMosaic Idealize.ShloMosaic.TcCoe Idealize.SL.Sem

/-- The claim about the two programs. -/
theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N, fun c => (Cert.Kernel9Ideal.Gen.dats m 0 c).arrAt 6 Cert.Kernel9Ideal.cfg0.N, fun c => (Cert.Kernel9Ideal.Gen.dats m 0 c).arrAt 7 Cert.Kernel9Ideal.cfg0.N,
    Cert.Kernel9Ideal.Value.run_blocks m g, ?_⟩
  refine (θ_run Cert.Reference9Ideal.defs _ _).mono (fun r h c => ?_) (Cert.Reference9Ideal.Value.run (F := Ideal) m' g')
  refine ⟨(h c).1.trans ?_, (h c).2.1.trans ?_, (h c).2.2.1.trans ?_, (h c).2.2.2.1.trans ?_, (h c).2.2.2.2⟩
  · rw [(hagree c).1, (hagree c).2.1, (hagree c).2.2.1, (hagree c).2.2.2]
    exact (Cert.Kernel9Ideal.Norm.dg_eq m c).symm
  · rw [(hagree c).1, (hagree c).2.1, (hagree c).2.2.1]
    exact (Cert.Kernel9Ideal.Norm.dy_eq m c).symm
  · rw [(hagree c).1, (hagree c).2.1]
    exact (Cert.Kernel9Ideal.Norm.dqw_eq m c).symm
  · rw [(hagree c).1, (hagree c).2.1, (hagree c).2.2.1]
    exact (Cert.Kernel9Ideal.Norm.db_eq m c).symm

/-- The reference's frame: it has no counters at all. -/
theorem frame_ref : Cert.quiescent_Reference9Ideal (hReference9Ideal := Cert.Reference9Ideal.Gen.facts) := by
  intro m g _
  exact (θ_run Cert.Reference9Ideal.defs _ _).mono (fun r h => ⟨fun c => (h c).2.2.2.2, sem_eq_zero_of_no_sems (by decide) r.2⟩)
    (Cert.Reference9Ideal.Value.run (F := Ideal) m g)

end Cert.Norm9

end
-- ==== Proof.Norm.P10.lean ====
/-
  The attention layer's output projection, bias, norm and residual: what the two result arrays hold, and that this is the reference's.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Norm.Back
public import proofs.«01_k».proof.Proof.Norm.Store
public import Idealize.ShloMosaic.Lib.Pipeline.ValueKit.Acc
public import Idealize.ShloMosaic.Lib.Quiescent

@[expose] public section

noncomputable section

namespace Cert.Kernel10Ideal.Out

open Cert.Kernel10Ideal Cert.Kernel10Ideal.Gen Cert.Kernel10Ideal.Value Idealize.ShloMosaic Idealize.ShloMosaic.TcCoe Idealize.SL.Sem
open Cert.Norm

theorem zeros2 : (![0, 0] : Fin 2 → Nat) = fun _ => 0 := by
  funext a; match a with | ⟨0, _⟩ => rfl | ⟨1, _⟩ => rfl

/-! ## The body -/

theorem y_val (x0 : Vec Ideal S512x1024 .bf16) (x1 : Vec Ideal S1024x1024 .bf16) (x2 : Vec Ideal S1x1024 .f32) (r : Fin 512) (l : Fin 1024) : k0_pay1 (F := Ideal) x0 x1 x2 (ix2 r l) = (∑ j : Fin 1024, x0 (ix2 r j) * x1 (ix2 j l) + x2 (ix2 0 l)) := by
  pointwise [k0_pay1]

theorem out_val (x0 : Vec Ideal S512x1024 .bf16) (x1 : Vec Ideal S1024x1024 .bf16) (x2 : Vec Ideal S1x1024 .f32) (x3 : Vec Ideal S512x1024 .f32) (x4 : Vec Ideal S1x1024 .f32) (r : Fin 512) (l : Fin 1024) :
    k0_pay2 (F := Ideal) x0 x1 x2 x3 x4 (ix2 r l) = x3 (ix2 r l) + scaled (fun k => (∑ j : Fin 1024, x0 (ix2 r j) * x1 (ix2 j k) + x2 (ix2 0 k))) (fun k => x4 (ix2 0 k)) l := by
  pointwise [k0_pay2]
  simp only [y_val]
  rfl

theorem y_apply (x0 : Vec Ideal S512x1024 .bf16) (x1 : Vec Ideal S1024x1024 .bf16) (x2 : Vec Ideal S1x1024 .f32) (x3 : Vec Ideal S512x1024 .f32) (x4 : Vec Ideal S1x1024 .f32) (r : Fin 512) (l : Fin 1024) : out0_5 x0 x1 x2 x3 x4 (ix2 r l) = (∑ j : Fin 1024, x0 (ix2 r j) * x1 (ix2 j l) + x2 (ix2 0 l)) := by
  unfold out0_5 r0_0 r0_1 r0_2
  rw [View.canon_unit_zero zeros2, View.ld_unit_zero zeros2, View.ld_unit_zero zeros2, View.ld_unit_zero zeros2]
  exact y_val ..

theorem out_apply (x0 : Vec Ideal S512x1024 .bf16) (x1 : Vec Ideal S1024x1024 .bf16) (x2 : Vec Ideal S1x1024 .f32) (x3 : Vec Ideal S512x1024 .f32) (x4 : Vec Ideal S1x1024 .f32) (r : Fin 512) (l : Fin 1024) :
    out0_6 x0 x1 x2 x3 x4 (ix2 r l) = x3 (ix2 r l) + scaled (fun k => (∑ j : Fin 1024, x0 (ix2 r j) * x1 (ix2 j k) + x2 (ix2 0 k))) (fun k => x4 (ix2 0 k)) l := by
  unfold out0_6 r0_0 r0_1 r0_2
  rw [View.canon_unit_zero zeros2, View.ld_unit_zero zeros2, View.ld_unit_zero zeros2, View.ld_unit_zero zeros2, View.ld_unit_zero zeros2,
    View.ld_unit_zero zeros2]
  exact out_val ..

/-! ## The blocks of the arguments -/

variable (m : (ℓ : Loc nD τ sig) → Buf (Elt Ideal) ℓ)

abbrev arr0 (c : Dev nD) : Vec Ideal S8192x1024 .bf16 := m ((c : Thread nD τ).loc main_arg0)
abbrev arr1 (c : Dev nD) : Vec Ideal S1024x1024 .bf16 := m ((c : Thread nD τ).loc main_arg1)
abbrev arr2 (c : Dev nD) : Vec Ideal S1x1024 .f32 := m ((c : Thread nD τ).loc main_arg2)
abbrev arr3 (c : Dev nD) : Vec Ideal S8192x1024 .f32 := m ((c : Thread nD τ).loc main_arg3)
abbrev arr4 (c : Dev nD) : Vec Ideal S1x1024 .f32 := m ((c : Thread nD τ).loc main_arg4)

theorem win_facts : ∀ t : Fin cfg0.N, win0_0.index t (0 : Fin 2) = t.val ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = t.val ∧ win0_3.index t (1 : Fin 2) = 0 ∧ win0_4.index t (0 : Fin 2) = 0 ∧ win0_4.index t (1 : Fin 2) = 0 ∧ win0_5.index t (0 : Fin 2) = t.val ∧ win0_5.index t (1 : Fin 2) = 0 ∧ win0_6.index t (0 : Fin 2) = t.val ∧ win0_6.index t (1 : Fin 2) = 0 :=
  (by decide +kernel : ∀ t : Fin grid0.N, _)

theorem N16 (t : Fin cfg0.N) : t.val < 16 := lt_of_lt_of_eq t.isLt (show cfg0.N = 16 from N_0)

/-- Row `r` of point `t`'s block. -/
abbrev row (t : Fin cfg0.N) (r : Fin 512) : Fin 8192 := ⟨t.val * 512 + r.val, by have := N16 t; omega⟩

theorem blk0 (c : Dev nD) (t : Fin cfg0.N) (r : Fin 512) (l : Fin 1024) : iblk m c 0 t (ix2 r l) = arr0 m c (ix2 (row t r) l) := by
  have e := win_facts t
  show arr0 m c (((cfg0.win 0).blk t).view.emb (ix2 r l)) = _
  refine congrArg _ (funext fun a => Fin.ext ?_)
  match a with
  | ⟨0, _⟩ => show win0_0.index t (0 : Fin 2) * 512 + 1 * r.val = _; rw [e.1]; show _ = t.val * 512 + r.val; omega
  | ⟨1, _⟩ => show win0_0.index t (1 : Fin 2) * 1024 + 1 * l.val = l.val; rw [e.2.1]; omega

theorem blk1 (c : Dev nD) (t : Fin cfg0.N) (r : Fin 1024) (l : Fin 1024) : iblk m c 1 t (ix2 r l) = arr1 m c (ix2 (r) l) := by
  have e := win_facts t
  show arr1 m c (((cfg0.win 1).blk t).view.emb (ix2 r l)) = _
  refine congrArg _ (funext fun a => Fin.ext ?_)
  match a with
  | ⟨0, _⟩ => show win0_1.index t (0 : Fin 2) * 1024 + 1 * r.val = r.val; rw [e.2.2.1]; omega
  | ⟨1, _⟩ => show win0_1.index t (1 : Fin 2) * 1024 + 1 * l.val = l.val; rw [e.2.2.2.1]; omega

theorem blk2 (c : Dev nD) (t : Fin cfg0.N) (r : Fin 1) (l : Fin 1024) : iblk m c 2 t (ix2 r l) = arr2 m c (ix2 (r) l) := by
  have e := win_facts t
  show arr2 m c (((cfg0.win 2).blk t).view.emb (ix2 r l)) = _
  refine congrArg _ (funext fun a => Fin.ext ?_)
  match a with
  | ⟨0, _⟩ => show win0_2.index t (0 : Fin 2) * 1 + 1 * r.val = r.val; rw [e.2.2.2.2.1]; omega
  | ⟨1, _⟩ => show win0_2.index t (1 : Fin 2) * 1024 + 1 * l.val = l.val; rw [e.2.2.2.2.2.1]; omega

theorem blk3 (c : Dev nD) (t : Fin cfg0.N) (r : Fin 512) (l : Fin 1024) : iblk m c 3 t (ix2 r l) = arr3 m c (ix2 (row t r) l) := by
  have e := win_facts t
  show arr3 m c (((cfg0.win 3).blk t).view.emb (ix2 r l)) = _
  refine congrArg _ (funext fun a => Fin.ext ?_)
  match a with
  | ⟨0, _⟩ => show win0_3.index t (0 : Fin 2) * 512 + 1 * r.val = _; rw [e.2.2.2.2.2.2.1]; show _ = t.val * 512 + r.val; omega
  | ⟨1, _⟩ => show win0_3.index t (1 : Fin 2) * 1024 + 1 * l.val = l.val; rw [e.2.2.2.2.2.2.2.1]; omega

theorem blk4 (c : Dev nD) (t : Fin cfg0.N) (r : Fin 1) (l : Fin 1024) : iblk m c 4 t (ix2 r l) = arr4 m c (ix2 (r) l) := by
  have e := win_facts t
  show arr4 m c (((cfg0.win 4).blk t).view.emb (ix2 r l)) = _
  refine congrArg _ (funext fun a => Fin.ext ?_)
  match a with
  | ⟨0, _⟩ => show win0_4.index t (0 : Fin 2) * 1 + 1 * r.val = r.val; rw [e.2.2.2.2.2.2.2.2.1]; omega
  | ⟨1, _⟩ => show win0_4.index t (1 : Fin 2) * 1024 + 1 * l.val = l.val; rw [e.2.2.2.2.2.2.2.2.2.1]; omega

/-! ## The reference, and the equations of the arrays -/

open Cert.Reference10Ideal.Read in
theorem ref_y (x0 : Vec Ideal S8192x1024 .bf16) (x1 : Vec Ideal S1024x1024 .bf16) (x2 : Vec Ideal S1x1024 .f32) (R : Fin 8192) (l : Fin 1024) : val_main_v4 (F := Ideal) x0 x1 x2 (ix2 R l) = (∑ j : Fin 1024, x0 (ix2 R j) * x1 (ix2 j l) + x2 (ix2 0 l)) := by
  pointwise [val_main_v4, val_main_v3, val_main_v2, val_main_v1, val_main_v0]
open Cert.Reference10Ideal.Read in
theorem ref_out (x0 : Vec Ideal S8192x1024 .bf16) (x1 : Vec Ideal S1024x1024 .bf16) (x2 : Vec Ideal S1x1024 .f32) (x3 : Vec Ideal S8192x1024 .f32) (x4 : Vec Ideal S1x1024 .f32) (R : Fin 8192) (l : Fin 1024) :
    val_main_v17 (F := Ideal) x0 x1 x2 x3 x4 (ix2 R l) = x3 (ix2 R l) + scaled (fun k => (∑ j : Fin 1024, x0 (ix2 R j) * x1 (ix2 j k) + x2 (ix2 0 k))) (fun k => x4 (ix2 0 k)) l := by
  pointwise [val_main_v17, val_main_v16, val_main_v15, val_main_v14, val_main_v13, val_main_v12, val_main_v11, val_main_v10, val_main_v9, val_main_v8, val_main_v7, val_main_v6, val_main_v5, val_main_cst, val_main_cst_0, val_main_cst_1]
  simp only [ref_y]
  rfl

theorem y_eq (c : Dev nD) : (dats m 0 c).arrAt 5 cfg0.N = Cert.Reference10Ideal.Read.val_main_v4 (F := Ideal) (arr0 m c) (arr1 m c) (arr2 m c) := by
  refine Pipeline.Dat.arrAt_eq_of_cover (dats m 0 c) 5 _ (fun t _ => ?_) (fun i => ?_)
  · rw [flushed5]
    have e := win_facts t
    funext (y : S512x1024.Idx)
    idx_vars y
    show out0_5 (iblk m c 0 t) (iblk m c 1 t) (iblk m c 2 t) (iblk m c 3 t) (iblk m c 4 t) (ix2 y0 y1) = Cert.Reference10Ideal.Read.val_main_v4 (F := Ideal) (arr0 m c) (arr1 m c) (arr2 m c) (((cfg0.win 5).blk t).view.emb (ix2 y0 y1 : S512x1024.Idx))
    have hi : ((cfg0.win 5).blk t).view.emb (ix2 y0 y1 : S512x1024.Idx) = (ix2 (row t y0) y1 : S8192x1024.Idx) := by
      funext a; apply Fin.ext
      match a with
      | ⟨0, _⟩ => show win0_5.index t (0 : Fin 2) * 512 + 1 * y0.val = _; rw [e.2.2.2.2.2.2.2.2.2.2.1]; show _ = t.val * 512 + y0.val; omega
      | ⟨1, _⟩ => show win0_5.index t (1 : Fin 2) * 1024 + 1 * y1.val = y1.val; rw [e.2.2.2.2.2.2.2.2.2.2.2.1]; omega
    rw [hi]
    refine (y_apply ..).trans (Eq.trans ?_ (ref_y (arr0 m c) (arr1 m c) (arr2 m c) (row t y0) y1).symm)
    simp only [blk0, blk1, blk2]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_5 t, ?_⟩
    have e := win_facts t
    have hi : ((cfg0.win 5).blk t).view.emb (ix2 r l : S512x1024.Idx) = (ix2 R l : S8192x1024.Idx) := by
      funext a; apply Fin.ext
      match a with
      | ⟨0, _⟩ => show win0_5.index t (0 : Fin 2) * 512 + 1 * r.val = R.val; rw [e.2.2.2.2.2.2.2.2.2.2.1]; omega
      | ⟨1, _⟩ => show win0_5.index t (1 : Fin 2) * 1024 + 1 * l.val = l.val; rw [e.2.2.2.2.2.2.2.2.2.2.2.1]; omega
    exact hi ▸ ((cfg0.win 5).blk t).view.emb_mem_set (ix2 r l : S512x1024.Idx)

theorem out_eq (c : Dev nD) : (dats m 0 c).arrAt 6 cfg0.N = Cert.Reference10Ideal.Read.val_main_v17 (F := Ideal) (arr0 m c) (arr1 m c) (arr2 m c) (arr3 m c) (arr4 m c) := by
  refine Pipeline.Dat.arrAt_eq_of_cover (dats m 0 c) 6 _ (fun t _ => ?_) (fun i => ?_)
  · rw [flushed6]
    have e := win_facts t
    funext (y : S512x1024.Idx)
    idx_vars y
    show out0_6 (iblk m c 0 t) (iblk m c 1 t) (iblk m c 2 t) (iblk m c 3 t) (iblk m c 4 t) (ix2 y0 y1) = Cert.Reference10Ideal.Read.val_main_v17 (F := Ideal) (arr0 m c) (arr1 m c) (arr2 m c) (arr3 m c) (arr4 m c) (((cfg0.win 6).blk t).view.emb (ix2 y0 y1 : S512x1024.Idx))
    have hi : ((cfg0.win 6).blk t).view.emb (ix2 y0 y1 : S512x1024.Idx) = (ix2 (row t y0) y1 : S8192x1024.Idx) := by
      funext a; apply Fin.ext
      match a with
      | ⟨0, _⟩ => show win0_6.index t (0 : Fin 2) * 512 + 1 * y0.val = _; rw [e.2.2.2.2.2.2.2.2.2.2.2.2.1]; show _ = t.val * 512 + y0.val; omega
      | ⟨1, _⟩ => show win0_6.index t (1 : Fin 2) * 1024 + 1 * y1.val = y1.val; rw [e.2.2.2.2.2.2.2.2.2.2.2.2.2]; omega
    rw [hi]
    refine (out_apply ..).trans (Eq.trans ?_ (ref_out (arr0 m c) (arr1 m c) (arr2 m c) (arr3 m c) (arr4 m c) (row t y0) y1).symm)
    simp only [blk0, blk1, blk2, blk3, blk4]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_6 t, ?_⟩
    have e := win_facts t
    have hi : ((cfg0.win 6).blk t).view.emb (ix2 r l : S512x1024.Idx) = (ix2 R l : S8192x1024.Idx) := by
      funext a; apply Fin.ext
      match a with
      | ⟨0, _⟩ => show win0_6.index t (0 : Fin 2) * 512 + 1 * r.val = R.val; rw [e.2.2.2.2.2.2.2.2.2.2.2.2.1]; omega
      | ⟨1, _⟩ => show win0_6.index t (1 : Fin 2) * 1024 + 1 * l.val = l.val; rw [e.2.2.2.2.2.2.2.2.2.2.2.2.2]; omega
    exact hi ▸ ((cfg0.win 6).blk t).view.emb_mem_set (ix2 r l : S512x1024.Idx)

end Cert.Kernel10Ideal.Out

namespace Cert.Out10

open Idealize.ShloMosaic Idealize.ShloMosaic.TcCoe Idealize.SL.Sem

/-- The claim about the two programs. -/
theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => (Cert.Kernel10Ideal.Gen.dats m 0 c).arrAt 5 Cert.Kernel10Ideal.cfg0.N, fun c => (Cert.Kernel10Ideal.Gen.dats m 0 c).arrAt 6 Cert.Kernel10Ideal.cfg0.N,
    Cert.Kernel10Ideal.Value.run_blocks m g, ?_⟩
  refine (θ_run Cert.Reference10Ideal.defs _ _).mono (fun r h c => ?_) (Cert.Reference10Ideal.Value.run (F := Ideal) m' g')
  refine ⟨(h c).1.trans ?_, (h c).2.1.trans ?_, (h c).2.2⟩
  · rw [(hagree c).1, (hagree c).2.1, (hagree c).2.2.1]
    exact (Cert.Kernel10Ideal.Out.y_eq m c).symm
  · rw [(hagree c).1, (hagree c).2.1, (hagree c).2.2.1, (hagree c).2.2.2.1, (hagree c).2.2.2.2]
    exact (Cert.Kernel10Ideal.Out.out_eq m c).symm

/-- The reference's frame: it has no counters at all. -/
theorem frame_ref : Cert.quiescent_Reference10Ideal (hReference10Ideal := Cert.Reference10Ideal.Gen.facts) := by
  intro m g _
  exact (θ_run Cert.Reference10Ideal.defs _ _).mono (fun r h => ⟨fun c => (h c).2.2, sem_eq_zero_of_no_sems (by decide) r.2⟩)
    (Cert.Reference10Ideal.Value.run (F := Ideal) m g)

end Cert.Out10

end
-- ==== Proof.Norm.P11.lean ====
/-
  The recurrent layer's output projection, norm and residual with the loss and its gradient: what the three result arrays hold, and that this is the reference's.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Norm.Back
public import proofs.«01_k».proof.Proof.Norm.Store
public import Idealize.ShloMosaic.Lib.Pipeline.ValueKit.Acc
public import Idealize.ShloMosaic.Lib.Quiescent

@[expose] public section

noncomputable section

namespace Cert.Kernel11Ideal.Out

open Cert.Kernel11Ideal Cert.Kernel11Ideal.Gen Cert.Kernel11Ideal.Value Idealize.ShloMosaic Idealize.ShloMosaic.TcCoe Idealize.SL.Sem
open Cert.Norm

theorem zeros2 : (![0, 0] : Fin 2 → Nat) = fun _ => 0 := by
  funext a; match a with | ⟨0, _⟩ => rfl | ⟨1, _⟩ => rfl

/-! ## The constants -/

theorem inv_width : Ideal.ofBits FTy.f32 0x3A800000#32 = ((1 / 1024 : ℝ) : EReal) := by
  simp [Ideal.ofBits, Ideal.ieee, -EReal.coe_mul]; norm_num
theorem half_width : Ideal.ofBits FTy.f32 0x3A000000#32 = ((1 / 2048 : ℝ) : EReal) := by
  simp [Ideal.ofBits, Ideal.ieee, -EReal.coe_mul]; norm_num
theorem half : Ideal.ofBits FTy.f32 0x3F000000#32 = ((1 / 2 : ℝ) : EReal) := by
  simp [Ideal.ofBits, Ideal.ieee, -EReal.coe_mul]; norm_num
theorem two : Ideal.ofBits FTy.f32 0x40000000#32 = ((2 : ℝ) : EReal) := by
  simp [Ideal.ofBits, Ideal.ieee, -EReal.coe_mul]; try norm_num

/-- The slope of half the mean square, as differentiation writes it, is the difference over the width. -/
theorem slope_eq (e : EReal) : Ideal.div (Ideal.ofBits FTy.f32 0x3F000000#32) width * (Ideal.ofBits FTy.f32 0x40000000#32 * e)
    = e * Ideal.ofBits FTy.f32 0x3A800000#32 := by
  rw [div_width, half, two, inv_width, ← EReal.coe_mul, ← mul_assoc, ← EReal.coe_mul, mul_comm e]
  congr 2; norm_num

/-- Half the sum of the rows' mean squares is the sum of all squares over twice the width, at any numbers. -/
theorem loss_eq (f : Fin 8192 → Fin 1024 → EReal) :
    Ideal.ofBits FTy.f32 0x3F000000#32 * ∑ R, Ideal.div (∑ l, f R l) width = (∑ l, ∑ R, f R l) * Ideal.ofBits FTy.f32 0x3A000000#32 := by
  simp only [div_width]
  rw [sum_mul_real _ _ _ (by norm_num), Finset.sum_comm, half, half_width, mul_comm, mul_assoc, ← EReal.coe_mul]
  congr 2; norm_num

/-! ## The body -/

theorem y_val (x0 : Vec Ideal S512x1024 .bf16) (x1 : Vec Ideal S1024x1024 .bf16) (r : Fin 512) (l : Fin 1024) : k0_pay3 (F := Ideal) x0 x1 (ix2 r l) = ∑ j : Fin 1024, x0 (ix2 r j) * x1 (ix2 j l) := by
  pointwise [k0_pay3]

theorem e_val (x0 : Vec Ideal S512x1024 .bf16) (x1 : Vec Ideal S1024x1024 .bf16) (x2 : Vec Ideal S512x1024 .f32) (x3 : Vec Ideal S1x1024 .f32) (x4 : Vec Ideal S512x1024 .f32) (r : Fin 512) (l : Fin 1024) :
    k0_pay4 (F := Ideal) x0 x1 x2 x3 x4 (ix2 r l) = (x2 (ix2 r l) + scaled (fun k => ∑ j : Fin 1024, x0 (ix2 r j) * x1 (ix2 j k)) (fun k => x3 (ix2 0 k)) l - x4 (ix2 r l)) := by
  pointwise [k0_pay4]
  simp only [y_val]
  rfl

theorem dout_val (x0 : Vec Ideal S512x1024 .bf16) (x1 : Vec Ideal S1024x1024 .bf16) (x2 : Vec Ideal S512x1024 .f32) (x3 : Vec Ideal S1x1024 .f32) (x4 : Vec Ideal S512x1024 .f32) (r : Fin 512) (l : Fin 1024) :
    k0_pay5 (F := Ideal) x0 x1 x2 x3 x4 (ix2 r l) = (x2 (ix2 r l) + scaled (fun k => ∑ j : Fin 1024, x0 (ix2 r j) * x1 (ix2 j k)) (fun k => x3 (ix2 0 k)) l - x4 (ix2 r l)) * Ideal.ofBits FTy.f32 0x3A800000#32 := by
  pointwise [k0_pay5]
  simp only [e_val]
  try rfl

theorem acc_val (x0 : Vec Ideal S512x1024 .bf16) (x1 : Vec Ideal S1024x1024 .bf16) (x2 : Vec Ideal S512x1024 .f32) (x3 : Vec Ideal S1x1024 .f32) (x4 : Vec Ideal S512x1024 .f32) (a : Vec Ideal S1x1024 .f32) (l : Fin 1024) :
    k0_pay1 (F := Ideal) (k0_pay7 x0 x1 x2 x3 x4 a) (ix2 0 l) = a (ix2 0 l) + ∑ r : Fin 512, (x2 (ix2 r l) + scaled (fun k => ∑ j : Fin 1024, x0 (ix2 r j) * x1 (ix2 j k)) (fun k => x3 (ix2 0 k)) l - x4 (ix2 r l)) * (x2 (ix2 r l) + scaled (fun k => ∑ j : Fin 1024, x0 (ix2 r j) * x1 (ix2 j k)) (fun k => x3 (ix2 0 k)) l - x4 (ix2 r l)) := by
  pointwise [k0_pay1, k0_pay7]
  simp only [e_val]

theorem loss_val (a : Vec Ideal S1x1024 .f32) (p : Fin 8) (q : Fin 128) :
    k0_pay2 (F := Ideal) a (ix2 p q) = (∑ l : Fin 1024, a (ix2 0 l)) * Ideal.ofBits FTy.f32 0x3A000000#32 := by
  pointwise [k0_pay2]
  simp only [Finset.univ_unique, Finset.sum_singleton]

/-! ## The blocks of the arguments -/

variable (m : (ℓ : Loc nD τ sig) → Buf (Elt Ideal) ℓ)

abbrev arr0 (c : Dev nD) : Vec Ideal S8192x1024 .bf16 := m ((c : Thread nD τ).loc main_arg0)
abbrev arr1 (c : Dev nD) : Vec Ideal S1024x1024 .bf16 := m ((c : Thread nD τ).loc main_arg1)
abbrev arr2 (c : Dev nD) : Vec Ideal S8192x1024 .f32 := m ((c : Thread nD τ).loc main_arg2)
abbrev arr3 (c : Dev nD) : Vec Ideal S1x1024 .f32 := m ((c : Thread nD τ).loc main_arg3)
abbrev arr4 (c : Dev nD) : Vec Ideal S8192x1024 .f32 := m ((c : Thread nD τ).loc main_arg4)

theorem win_facts : ∀ t : Fin cfg0.N, win0_0.index t (0 : Fin 2) = t.val ∧ win0_0.index t (1 : Fin 2) = 0 ∧ win0_1.index t (0 : Fin 2) = 0 ∧ win0_1.index t (1 : Fin 2) = 0 ∧ win0_2.index t (0 : Fin 2) = t.val ∧ win0_2.index t (1 : Fin 2) = 0 ∧ win0_3.index t (0 : Fin 2) = 0 ∧ win0_3.index t (1 : Fin 2) = 0 ∧ win0_4.index t (0 : Fin 2) = t.val ∧ win0_4.index t (1 : Fin 2) = 0 ∧ win0_5.index t (0 : Fin 2) = t.val ∧ win0_5.index t (1 : Fin 2) = 0 ∧ win0_6.index t (0 : Fin 2) = t.val ∧ win0_6.index t (1 : Fin 2) = 0 ∧ win0_7.index t (0 : Fin 2) = 0 ∧ win0_7.index t (1 : Fin 2) = 0 :=
  (by decide +kernel : ∀ t : Fin grid0.N, _)

theorem N16 (t : Fin cfg0.N) : t.val < 16 := lt_of_lt_of_eq t.isLt (show cfg0.N = 16 from N_0)

/-- Row `r` of point `t`'s block. -/
abbrev row (t : Fin cfg0.N) (r : Fin 512) : Fin 8192 := ⟨t.val * 512 + r.val, by have := N16 t; omega⟩

theorem blk0 (c : Dev nD) (t : Fin cfg0.N) (r : Fin 512) (l : Fin 1024) : iblk m c 0 t (ix2 r l) = arr0 m c (ix2 (row t r) l) := by
  have e := win_facts t
  show arr0 m c (((cfg0.win 0).blk t).view.emb (ix2 r l)) = _
  refine congrArg _ (funext fun a => Fin.ext ?_)
  match a with
  | ⟨0, _⟩ => show win0_0.index t (0 : Fin 2) * 512 + 1 * r.val = _; rw [e.1]; show _ = t.val * 512 + r.val; omega
  | ⟨1, _⟩ => show win0_0.index t (1 : Fin 2) * 1024 + 1 * l.val = l.val; rw [e.2.1]; omega

theorem blk1 (c : Dev nD) (t : Fin cfg0.N) (r : Fin 1024) (l : Fin 1024) : iblk m c 1 t (ix2 r l) = arr1 m c (ix2 (r) l) := by
  have e := win_facts t
  show arr1 m c (((cfg0.win 1).blk t).view.emb (ix2 r l)) = _
  refine congrArg _ (funext fun a => Fin.ext ?_)
  match a with
  | ⟨0, _⟩ => show win0_1.index t (0 : Fin 2) * 1024 + 1 * r.val = r.val; rw [e.2.2.1]; omega
  | ⟨1, _⟩ => show win0_1.index t (1 : Fin 2) * 1024 + 1 * l.val = l.val; rw [e.2.2.2.1]; omega

theorem blk2 (c : Dev nD) (t : Fin cfg0.N) (r : Fin 512) (l : Fin 1024) : iblk m c 2 t (ix2 r l) = arr2 m c (ix2 (row t r) l) := by
  have e := win_facts t
  show arr2 m c (((cfg0.win 2).blk t).view.emb (ix2 r l)) = _
  refine congrArg _ (funext fun a => Fin.ext ?_)
  match a with
  | ⟨0, _⟩ => show win0_2.index t (0 : Fin 2) * 512 + 1 * r.val = _; rw [e.2.2.2.2.1]; show _ = t.val * 512 + r.val; omega
  | ⟨1, _⟩ => show win0_2.index t (1 : Fin 2) * 1024 + 1 * l.val = l.val; rw [e.2.2.2.2.2.1]; omega

theorem blk3 (c : Dev nD) (t : Fin cfg0.N) (r : Fin 1) (l : Fin 1024) : iblk m c 3 t (ix2 r l) = arr3 m c (ix2 (r) l) := by
  have e := win_facts t
  show arr3 m c (((cfg0.win 3).blk t).view.emb (ix2 r l)) = _
  refine congrArg _ (funext fun a => Fin.ext ?_)
  match a with
  | ⟨0, _⟩ => show win0_3.index t (0 : Fin 2) * 1 + 1 * r.val = r.val; rw [e.2.2.2.2.2.2.1]; omega
  | ⟨1, _⟩ => show win0_3.index t (1 : Fin 2) * 1024 + 1 * l.val = l.val; rw [e.2.2.2.2.2.2.2.1]; omega

theorem blk4 (c : Dev nD) (t : Fin cfg0.N) (r : Fin 512) (l : Fin 1024) : iblk m c 4 t (ix2 r l) = arr4 m c (ix2 (row t r) l) := by
  have e := win_facts t
  show arr4 m c (((cfg0.win 4).blk t).view.emb (ix2 r l)) = _
  refine congrArg _ (funext fun a => Fin.ext ?_)
  match a with
  | ⟨0, _⟩ => show win0_4.index t (0 : Fin 2) * 512 + 1 * r.val = _; rw [e.2.2.2.2.2.2.2.2.1]; show _ = t.val * 512 + r.val; omega
  | ⟨1, _⟩ => show win0_4.index t (1 : Fin 2) * 1024 + 1 * l.val = l.val; rw [e.2.2.2.2.2.2.2.2.2.1]; omega

/-! ## What the outputs' blocks hold, point by point -/

/-- The blocks a point reads. -/
abbrev B0 (c : Dev nD) (t : Fin cfg0.N) : Vec Ideal S512x1024 .bf16 := iblk m c 0 t
abbrev B1 (c : Dev nD) (t : Fin cfg0.N) : Vec Ideal S1024x1024 .bf16 := iblk m c 1 t
abbrev B2 (c : Dev nD) (t : Fin cfg0.N) : Vec Ideal S512x1024 .f32 := iblk m c 2 t
abbrev B3 (c : Dev nD) (t : Fin cfg0.N) : Vec Ideal S1x1024 .f32 := iblk m c 3 t
abbrev B4 (c : Dev nD) (t : Fin cfg0.N) : Vec Ideal S512x1024 .f32 := iblk m c 4 t
/-- The row of sums of squares after point `n`. -/
abbrev S0 (c : Dev nD) (n : Nat) (h : n < cfg0.N) : Vec Ideal S1x1024 .f32 := (outsAt0 m c n h).2.2.2

theorem scM_whole : (scM0_0).IsWhole := Memref.isWhole_whole _

theorem y_pt (c : Dev nD) (t : Fin cfg0.N) (r : Fin 512) (l : Fin 1024) : (outsAt0 m c t.val t.isLt).1 (ix2 r l)
    = ∑ j : Fin 1024, B0 m c t (ix2 r j) * B1 m c t (ix2 j l) := by
  by_cases h0 : t.val % 16 = 0
  · have h1 : ¬t.val % 16 = 15 := by omega
    rw [outsAt0_A m c t h0 h1]; frame_out; exact y_val ..
  · by_cases h1 : t.val % 16 = 15
    · rw [outsAt0_C m c t h0 h1]; frame_out; exact y_val ..
    · rw [outsAt0_B m c t h0 h1]; frame_out; exact y_val ..

theorem dout_pt (c : Dev nD) (t : Fin cfg0.N) (r : Fin 512) (l : Fin 1024) : (outsAt0 m c t.val t.isLt).2.1 (ix2 r l)
    = (B2 m c t (ix2 r l) + scaled (fun k => ∑ j : Fin 1024, B0 m c t (ix2 r j) * B1 m c t (ix2 j k)) (fun k => B3 m c t (ix2 0 k)) l - B4 m c t (ix2 r l)) * Ideal.ofBits FTy.f32 0x3A800000#32 := by
  by_cases h0 : t.val % 16 = 0
  · have h1 : ¬t.val % 16 = 15 := by omega
    rw [outsAt0_A m c t h0 h1]; frame_out; exact dout_val ..
  · by_cases h1 : t.val % 16 = 15
    · rw [outsAt0_C m c t h0 h1]; frame_out; exact dout_val ..
    · rw [outsAt0_B m c t h0 h1]; frame_out; exact dout_val ..

theorem acc_A (c : Dev nD) (t : Fin cfg0.N) (h0 : t.val % 16 = 0) (l : Fin 1024) : S0 m c t.val t.isLt (ix2 0 l)
    = 0 + ∑ r : Fin 512, (B2 m c t (ix2 r l) + scaled (fun k => ∑ j : Fin 1024, B0 m c t (ix2 r j) * B1 m c t (ix2 j k)) (fun k => B3 m c t (ix2 0 k)) l - B4 m c t (ix2 r l)) * (B2 m c t (ix2 r l) + scaled (fun k => ∑ j : Fin 1024, B0 m c t (ix2 r j) * B1 m c t (ix2 j k)) (fun k => B3 m c t (ix2 0 k)) l - B4 m c t (ix2 r l)) := by
  have h1 : ¬t.val % 16 = 15 := by omega
  show (outsAt0 m c t.val t.isLt).2.2.2 (ix2 0 l) = _; rw [outsAt0_A m c t h0 h1]; frame_out
  refine (acc_val ..).trans (congrArg (· + _) ?_)
  pointwise [k0_pay6]
theorem acc_B (c : Dev nD) (t : Fin cfg0.N) (h0 : ¬t.val % 16 = 0) (l : Fin 1024) : S0 m c t.val t.isLt (ix2 0 l)
    = S0 m c (t.val - 1) (Nat.lt_of_le_of_lt (Nat.sub_le _ _) t.isLt) (ix2 0 l) + ∑ r : Fin 512, (B2 m c t (ix2 r l) + scaled (fun k => ∑ j : Fin 1024, B0 m c t (ix2 r j) * B1 m c t (ix2 j k)) (fun k => B3 m c t (ix2 0 k)) l - B4 m c t (ix2 r l)) * (B2 m c t (ix2 r l) + scaled (fun k => ∑ j : Fin 1024, B0 m c t (ix2 r j) * B1 m c t (ix2 j k)) (fun k => B3 m c t (ix2 0 k)) l - B4 m c t (ix2 r l)) := by
  show (outsAt0 m c t.val t.isLt).2.2.2 (ix2 0 l) = _
  by_cases h1 : t.val % 16 = 15
  · rw [outsAt0_C m c t h0 h1]; frame_out; exact (acc_val ..).trans (congrArg (· + _) (congrFun (scM_whole.read_unread _) _))
  · rw [outsAt0_B m c t h0 h1]; frame_out; exact (acc_val ..).trans (congrArg (· + _) (congrFun (scM_whole.read_unread _) _))
theorem loss_pt (c : Dev nD) (t : Fin cfg0.N) (h0 : ¬t.val % 16 = 0) (h1 : t.val % 16 = 15) (p : Fin 8) (q : Fin 128) :
    (outsAt0 m c t.val t.isLt).2.2.1 (ix2 p q) = (∑ l : Fin 1024, S0 m c t.val t.isLt (ix2 0 l)) * Ideal.ofBits FTy.f32 0x3A000000#32 := by
  have h2 : ∀ l : Fin 1024, S0 m c t.val t.isLt (ix2 0 l) = S0 m c (t.val - 1) (Nat.lt_of_le_of_lt (Nat.sub_le _ _) t.isLt) (ix2 0 l) + ∑ r : Fin 512, (B2 m c t (ix2 r l) + scaled (fun k => ∑ j : Fin 1024, B0 m c t (ix2 r j) * B1 m c t (ix2 j k)) (fun k => B3 m c t (ix2 0 k)) l - B4 m c t (ix2 r l)) * (B2 m c t (ix2 r l) + scaled (fun k => ∑ j : Fin 1024, B0 m c t (ix2 r j) * B1 m c t (ix2 j k)) (fun k => B3 m c t (ix2 0 k)) l - B4 m c t (ix2 r l)) :=
    fun l => acc_B m c t h0 l
  simp only [h2]
  rw [outsAt0_C m c t h0 h1]; frame_out
  refine (loss_val ..).trans (congrArg (· * _) (Finset.sum_congr rfl fun l _ => ?_))
  exact (acc_val ..).trans (congrArg (· + _) (congrFun (scM_whole.read_unread _) _))

/-! ## The reference, and the equations of the arrays -/

open Cert.Reference11Ideal.Read in
theorem ref_y (x0 : Vec Ideal S8192x1024 .bf16) (x1 : Vec Ideal S1024x1024 .bf16) (R : Fin 8192) (l : Fin 1024) : val_main_v2 (F := Ideal) x0 x1 (ix2 R l) = ∑ j : Fin 1024, x0 (ix2 R j) * x1 (ix2 j l) := by
  pointwise [val_main_v2, val_main_v1, val_main_v0]
open Cert.Reference11Ideal.Read in
theorem ref_e (x0 : Vec Ideal S8192x1024 .bf16) (x1 : Vec Ideal S1024x1024 .bf16) (x2 : Vec Ideal S8192x1024 .f32) (x3 : Vec Ideal S1x1024 .f32) (x4 : Vec Ideal S8192x1024 .f32) (R : Fin 8192) (l : Fin 1024) :
    val_main_v16 (F := Ideal) x0 x1 x2 x3 x4 (ix2 R l) = (x2 (ix2 R l) + scaled (fun k => ∑ j : Fin 1024, x0 (ix2 R j) * x1 (ix2 j k)) (fun k => x3 (ix2 0 k)) l - x4 (ix2 R l)) := by
  pointwise [val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  simp only [ref_y]
  rfl
open Cert.Reference11Ideal.Read in
theorem ref_dout (x0 : Vec Ideal S8192x1024 .bf16) (x1 : Vec Ideal S1024x1024 .bf16) (x2 : Vec Ideal S8192x1024 .f32) (x3 : Vec Ideal S1x1024 .f32) (x4 : Vec Ideal S8192x1024 .f32) (R : Fin 8192) (l : Fin 1024) :
    val_main_v30 (F := Ideal) x0 x1 x2 x3 x4 (ix2 R l) = (x2 (ix2 R l) + scaled (fun k => ∑ j : Fin 1024, x0 (ix2 R j) * x1 (ix2 j k)) (fun k => x3 (ix2 0 k)) l - x4 (ix2 R l)) * Ideal.ofBits FTy.f32 0x3A800000#32 := by
  pointwise [val_main_v30, val_main_v29, val_main_v28, val_main_v27, val_main_v26, val_main_v25, val_main_v19, val_main_v18, val_main_cst, val_main_cst_0, val_main_cst_1, val_main_cst_2, val_main_cst_3, val_main_cst_4, val_main_cst_5, val_main_cst_6, val_main_cst_7, val_main_cst_8, val_main_cst_9]
  simp only [ref_e]
  exact slope_eq _
open Cert.Reference11Ideal.Read in
theorem ref_loss (x0 : Vec Ideal S8192x1024 .bf16) (x1 : Vec Ideal S1024x1024 .bf16) (x2 : Vec Ideal S8192x1024 .f32) (x3 : Vec Ideal S1x1024 .f32) (x4 : Vec Ideal S8192x1024 .f32) (p : Fin 8) (q : Fin 128) :
    val_main_v31 (F := Ideal) x0 x1 x2 x3 x4 (ix2 p q) = (∑ l : Fin 1024, ∑ R : Fin 8192, (x2 (ix2 R l) + scaled (fun k => ∑ j : Fin 1024, x0 (ix2 R j) * x1 (ix2 j k)) (fun k => x3 (ix2 0 k)) l - x4 (ix2 R l)) * (x2 (ix2 R l) + scaled (fun k => ∑ j : Fin 1024, x0 (ix2 R j) * x1 (ix2 j k)) (fun k => x3 (ix2 0 k)) l - x4 (ix2 R l))) * Ideal.ofBits FTy.f32 0x3A000000#32 := by
  pointwise [val_main_v31, val_main_v24, val_main_v23, val_main_v22, val_main_v21, val_main_v20, val_main_v17, val_main_cst, val_main_cst_0, val_main_cst_1, val_main_cst_2, val_main_cst_3, val_main_cst_4, val_main_cst_5, val_main_cst_6, val_main_cst_7, val_main_cst_8, val_main_cst_9]
  simp only [ref_e]
  exact loss_eq _

theorem y_eq (c : Dev nD) : (dats m 0 c).arrAt 5 cfg0.N = Cert.Reference11Ideal.Read.val_main_v2 (F := Ideal) (arr0 m c) (arr1 m c) := by
  refine Pipeline.Dat.arrAt_eq_of_cover (dats m 0 c) 5 _ (fun t _ => ?_) (fun i => ?_)
  · rw [flushed5]
    have e := win_facts t
    funext (y : S512x1024.Idx)
    idx_vars y
    show (outsAt0 m c t.val t.isLt).1 (ix2 y0 y1) = Cert.Reference11Ideal.Read.val_main_v2 (F := Ideal) (arr0 m c) (arr1 m c) (((cfg0.win 5).blk t).view.emb (ix2 y0 y1 : S512x1024.Idx))
    have hi : ((cfg0.win 5).blk t).view.emb (ix2 y0 y1 : S512x1024.Idx) = (ix2 (row t y0) y1 : S8192x1024.Idx) := by
      funext a; apply Fin.ext
      match a with
      | ⟨0, _⟩ => show win0_5.index t (0 : Fin 2) * 512 + 1 * y0.val = _; rw [e.2.2.2.2.2.2.2.2.2.2.1]; show _ = t.val * 512 + y0.val; omega
      | ⟨1, _⟩ => show win0_5.index t (1 : Fin 2) * 1024 + 1 * y1.val = y1.val; rw [e.2.2.2.2.2.2.2.2.2.2.2.1]; omega
    rw [hi]
    refine (y_pt m c t y0 y1).trans (Eq.trans ?_ (ref_y (arr0 m c) (arr1 m c) (row t y0) y1).symm)
    simp only [blk0, blk1]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_5 t, ?_⟩
    have e := win_facts t
    have hi : ((cfg0.win 5).blk t).view.emb (ix2 r l : S512x1024.Idx) = (ix2 R l : S8192x1024.Idx) := by
      funext a; apply Fin.ext
      match a with
      | ⟨0, _⟩ => show win0_5.index t (0 : Fin 2) * 512 + 1 * r.val = R.val; rw [e.2.2.2.2.2.2.2.2.2.2.1]; omega
      | ⟨1, _⟩ => show win0_5.index t (1 : Fin 2) * 1024 + 1 * l.val = l.val; rw [e.2.2.2.2.2.2.2.2.2.2.2.1]; omega
    exact hi ▸ ((cfg0.win 5).blk t).view.emb_mem_set (ix2 r l : S512x1024.Idx)

theorem dout_eq (c : Dev nD) : (dats m 0 c).arrAt 6 cfg0.N = Cert.Reference11Ideal.Read.val_main_v30 (F := Ideal) (arr0 m c) (arr1 m c) (arr2 m c) (arr3 m c) (arr4 m c) := by
  refine Pipeline.Dat.arrAt_eq_of_cover (dats m 0 c) 6 _ (fun t _ => ?_) (fun i => ?_)
  · rw [flushed6]
    have e := win_facts t
    funext (y : S512x1024.Idx)
    idx_vars y
    show (outsAt0 m c t.val t.isLt).2.1 (ix2 y0 y1) = Cert.Reference11Ideal.Read.val_main_v30 (F := Ideal) (arr0 m c) (arr1 m c) (arr2 m c) (arr3 m c) (arr4 m c) (((cfg0.win 6).blk t).view.emb (ix2 y0 y1 : S512x1024.Idx))
    have hi : ((cfg0.win 6).blk t).view.emb (ix2 y0 y1 : S512x1024.Idx) = (ix2 (row t y0) y1 : S8192x1024.Idx) := by
      funext a; apply Fin.ext
      match a with
      | ⟨0, _⟩ => show win0_6.index t (0 : Fin 2) * 512 + 1 * y0.val = _; rw [e.2.2.2.2.2.2.2.2.2.2.2.2.1]; show _ = t.val * 512 + y0.val; omega
      | ⟨1, _⟩ => show win0_6.index t (1 : Fin 2) * 1024 + 1 * y1.val = y1.val; rw [e.2.2.2.2.2.2.2.2.2.2.2.2.2.1]; omega
    rw [hi]
    refine (dout_pt m c t y0 y1).trans (Eq.trans ?_ (ref_dout (arr0 m c) (arr1 m c) (arr2 m c) (arr3 m c) (arr4 m c) (row t y0) y1).symm)
    simp only [blk0, blk1, blk2, blk3, blk4]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_6 t, ?_⟩
    have e := win_facts t
    have hi : ((cfg0.win 6).blk t).view.emb (ix2 r l : S512x1024.Idx) = (ix2 R l : S8192x1024.Idx) := by
      funext a; apply Fin.ext
      match a with
      | ⟨0, _⟩ => show win0_6.index t (0 : Fin 2) * 512 + 1 * r.val = R.val; rw [e.2.2.2.2.2.2.2.2.2.2.2.2.1]; omega
      | ⟨1, _⟩ => show win0_6.index t (1 : Fin 2) * 1024 + 1 * l.val = l.val; rw [e.2.2.2.2.2.2.2.2.2.2.2.2.2.1]; omega
    exact hi ▸ ((cfg0.win 6).blk t).view.emb_mem_set (ix2 r l : S512x1024.Idx)

theorem loss_arr_eq (c : Dev nD) : (dats m 0 c).arrAt 7 cfg0.N = Cert.Reference11Ideal.Read.val_main_v31 (F := Ideal) (arr0 m c) (arr1 m c) (arr2 m c) (arr3 m c) (arr4 m c) := by
  have hN : cfg0.N = 16 := N_0
  refine Pipeline.Dat.arrAt_eq_of_cover (dats m 0 c) 7 _ (fun t hf => ?_) (fun i => ?_)
  · have ht : t.val + 1 = cfg0.N := by have := (flush0_7 t).mp hf; omega
    rw [flushed7]
    have e := win_facts t
    funext (y : S8x128.Idx)
    idx_vars y
    show (outsAt0 m c t.val t.isLt).2.2.1 (ix2 y0 y1) = Cert.Reference11Ideal.Read.val_main_v31 (F := Ideal) (arr0 m c) (arr1 m c) (arr2 m c) (arr3 m c) (arr4 m c) (((cfg0.win 7).blk t).view.emb (ix2 y0 y1 : S8x128.Idx))
    have hi : ∀ (r : Fin 8) (l : Fin 128), ((cfg0.win 7).blk t).view.emb (ix2 r l : S8x128.Idx) = (ix2 r l : S8x128.Idx) := by
      intro r l; funext a; apply Fin.ext
      match a with
      | ⟨0, _⟩ => show win0_7.index t (0 : Fin 2) * 8 + 1 * r.val = r.val; rw [e.2.2.2.2.2.2.2.2.2.2.2.2.2.2.1]; omega
      | ⟨1, _⟩ => show win0_7.index t (1 : Fin 2) * 128 + 1 * l.val = l.val; rw [e.2.2.2.2.2.2.2.2.2.2.2.2.2.2.2]; omega
    rw [hi]
    refine (loss_pt m c t (by omega) (by omega) y0 y1).trans (Eq.trans ?_ (ref_loss (arr0 m c) (arr1 m c) (arr2 m c) (arr3 m c) (arr4 m c) y0 y1).symm)
    refine congrArg (· * _) (Finset.sum_congr rfl fun l _ => ?_)
    refine (Pipeline.eq_sum_fin_of_reset_step_apply_last (fun n h l => S0 m c n h (ix2 0 l)) 16 (fun _ => 0) (fun t l => ∑ r : Fin 512, (B2 m c t (ix2 r l) + scaled (fun k => ∑ j : Fin 1024, B0 m c t (ix2 r j) * B1 m c t (ix2 j k)) (fun k => B3 m c t (ix2 0 k)) l - B4 m c t (ix2 r l)) * (B2 m c t (ix2 r l) + scaled (fun k => ∑ j : Fin 1024, B0 m c t (ix2 r j) * B1 m c t (ix2 j k)) (fun k => B3 m c t (ix2 0 k)) l - B4 m c t (ix2 r l)))
      (fun t h l => acc_A m c t h l) (fun t h l => acc_B m c t h l) (by omega) t ht l).trans ?_
    refine sum_points hN _ _ (fun p => ?_)
    simp only [blk0, blk1, blk2, blk3, blk4]
  · obtain ⟨R, l, rfl⟩ : ∃ (R : Fin 8) (l : Fin 128), i = (ix2 R l : S8x128.Idx) :=
      ⟨i 0, i 1, by funext a; match a with | ⟨0, _⟩ => rfl | ⟨1, _⟩ => rfl⟩
    obtain ⟨t, ht⟩ : ∃ t : Fin cfg0.N, t.val = 15 := ⟨⟨15, by omega⟩, rfl⟩
    refine ⟨t, (flush0_7 t).mpr (by omega), ?_⟩
    have e := win_facts t
    have hi : ∀ (r : Fin 8) (l : Fin 128), ((cfg0.win 7).blk t).view.emb (ix2 r l : S8x128.Idx) = (ix2 r l : S8x128.Idx) := by
      intro r l; funext a; apply Fin.ext
      match a with
      | ⟨0, _⟩ => show win0_7.index t (0 : Fin 2) * 8 + 1 * r.val = r.val; rw [e.2.2.2.2.2.2.2.2.2.2.2.2.2.2.1]; omega
      | ⟨1, _⟩ => show win0_7.index t (1 : Fin 2) * 128 + 1 * l.val = l.val; rw [e.2.2.2.2.2.2.2.2.2.2.2.2.2.2.2]; omega
    exact hi R l ▸ ((cfg0.win 7).blk t).view.emb_mem_set (ix2 R l : S8x128.Idx)

end Cert.Kernel11Ideal.Out

namespace Cert.Out11

open Idealize.ShloMosaic Idealize.ShloMosaic.TcCoe Idealize.SL.Sem

/-- The claim about the two programs. -/
theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => (Cert.Kernel11Ideal.Gen.dats m 0 c).arrAt 5 Cert.Kernel11Ideal.cfg0.N, fun c => (Cert.Kernel11Ideal.Gen.dats m 0 c).arrAt 6 Cert.Kernel11Ideal.cfg0.N, fun c => (Cert.Kernel11Ideal.Gen.dats m 0 c).arrAt 7 Cert.Kernel11Ideal.cfg0.N,
    Cert.Kernel11Ideal.Value.run_blocks m g, ?_⟩
  refine (θ_run Cert.Reference11Ideal.defs _ _).mono (fun r h c => ?_) (Cert.Reference11Ideal.Value.run (F := Ideal) m' g')
  refine ⟨(h c).1.trans ?_, (h c).2.1.trans ?_, (h c).2.2.1.trans ?_, (h c).2.2.2⟩
  · rw [(hagree c).1, (hagree c).2.1]
    exact (Cert.Kernel11Ideal.Out.y_eq m c).symm
  · rw [(hagree c).1, (hagree c).2.1, (hagree c).2.2.1, (hagree c).2.2.2.1, (hagree c).2.2.2.2]
    exact (Cert.Kernel11Ideal.Out.dout_eq m c).symm
  · rw [(hagree c).1, (hagree c).2.1, (hagree c).2.2.1, (hagree c).2.2.2.1, (hagree c).2.2.2.2]
    exact (Cert.Kernel11Ideal.Out.loss_arr_eq m c).symm

/-- The reference's frame: it has no counters at all. -/
theorem frame_ref : Cert.quiescent_Reference11Ideal (hReference11Ideal := Cert.Reference11Ideal.Gen.facts) := by
  intro m g _
  exact (θ_run Cert.Reference11Ideal.defs _ _).mono (fun r h => ⟨fun c => (h c).2.2.2, sem_eq_zero_of_no_sems (by decide) r.2⟩)
    (Cert.Reference11Ideal.Value.run (F := Ideal) m g)

end Cert.Out11

end
-- ==== Proof.Out.Points.lean ====
module

public import proofs.«01_k».proof.Proof.Gen.Kernel12Ideal.Frame
public import proofs.«01_k».proof.Proof.Gen.Kernel12Ideal.Launch
public import proofs.«01_k».proof.Proof.Gen.Kernel12Ideal.Points
public import proofs.«01_k».proof.Proof.Gen.Kernel12Ideal.Skeleton
public import Idealize.ShloMosaic.Lib.Pipeline.FrameBody

@[expose] public section

/-! The one branch of the kernel for the gradient of the recurrent layer's output, and the buffers a point of its grid is given. -/

set_option maxRecDepth 16384

noncomputable section

namespace Cert.Kernel12Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal.Gen

variable {F : FTy → Type} [FloatOps F]

local notation "𝕄" => MT nD τ sig Unit (Elt F) ℕ (UR sig nD τ) ℕ

/-- The two rows of sums are cleared here. -/
abbrev clears (i : grid0.Coords) : Prop := k0_cond1 i = 1#1

theorem clears_iff : ∀ t : Fin cfg0.N, clears (grid0.coords t) ↔ t.val = 0 :=
  (by decide +kernel : ∀ t : Fin grid0.N, clears (grid0.coords t) ↔ t.val = 0)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)

end Cert.Kernel12Ideal.Val

end
-- ==== Proof.Out.RunFirst.lean ====
module

public import proofs.«01_k».proof.Proof.Out.Points

@[expose] public section

/-! The first point of the grid: the two rows of sums are cleared, then the point's rows go through. -/

set_option maxRecDepth 16384

noncomputable section

namespace Cert.Kernel12Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal.Gen

variable {F : FTy → Type} [FloatOps F]

local notation "𝕄" => MT nD τ sig Unit (Elt F) ℕ (UR sig nD τ) ℕ

set_option maxHeartbeats 1600000 in
/-- The body at such a point, on any staging buffers: what its stores leave in the outputs' buffers, as lists of pieces the run finds. -/
def runFirst (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S512x1024 .f32) (harg5 : arg5.IsWhole)
    (arg6 : Memref sig .tc .vmem S512x1024 .bf16) (harg6 : arg6.IsWhole)
    (arg7 : Memref sig .tc .vmem S1x1024 .f32) (harg7 : arg7.IsWhole)
    (arg8 : Memref sig .tc .vmem S1x1024 .f32) (harg8 : arg8.IsWhole)
    (hc : clears i)
    (x0 : Vec F S512x1024 .f32) (x1 : Vec F S512x1024 .f32) (x2 : Vec F S1x1024 .f32) (x3 : Vec F S1024x1024 .bf16) :
    Σ' (L4 : List (View.Piece (Elt F) S512x1024 .f32)),
    Σ' (L5 : List (View.Piece (Elt F) S512x1024 .bf16)),
    Σ' (L6 : List (View.Piece (Elt F) S1x1024 .f32)),
    { L7 : List (View.Piece (Elt F) S1x1024 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E
              (cc0_rec_out_bwd i arg1 harg1 arg2 harg2 arg3 harg3 arg4 harg4 arg5 harg5 arg6 harg6 arg7 harg7 arg8 harg8) K } := by
  refine ⟨?_, ?_, ?_, ?_, fun E K => ?run⟩
  case run =>
    simp only [cc0_rec_out_bwd_eq_skeleton]; unfold cc0_rec_out_bwd_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

end Cert.Kernel12Ideal.Val

end
-- ==== Proof.Out.RunRest.lean ====
module

public import proofs.«01_k».proof.Proof.Out.Points

@[expose] public section

/-! A later point: its rows go through, the scale's gradient goes on from what the point before left, and the last row is not touched. -/

set_option maxRecDepth 16384

noncomputable section

namespace Cert.Kernel12Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal.Gen

variable {F : FTy → Type} [FloatOps F]

local notation "𝕄" => MT nD τ sig Unit (Elt F) ℕ (UR sig nD τ) ℕ

set_option maxHeartbeats 1600000 in
/-- The body at such a point, on any staging buffers: what its stores leave in the outputs' buffers, as lists of pieces the run finds. -/
def runRest (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S512x1024 .f32) (harg5 : arg5.IsWhole)
    (arg6 : Memref sig .tc .vmem S512x1024 .bf16) (harg6 : arg6.IsWhole)
    (arg7 : Memref sig .tc .vmem S1x1024 .f32) (harg7 : arg7.IsWhole)
    (arg8 : Memref sig .tc .vmem S1x1024 .f32) (harg8 : arg8.IsWhole)
    (hc : ¬clears i)
    (x0 : Vec F S512x1024 .f32) (x1 : Vec F S512x1024 .f32) (x2 : Vec F S1x1024 .f32) (x3 : Vec F S1024x1024 .bf16)
    (xo6 : Vec F S1x1024 .f32) :
    Σ' (L4 : List (View.Piece (Elt F) S512x1024 .f32)),
    Σ' (L5 : List (View.Piece (Elt F) S512x1024 .bf16)),
    { L6 : List (View.Piece (Elt F) S1x1024 .f32) //
      ∀ (xi7 : Vec F S1x1024 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ owns (c : Thread nD τ) arg7 fullShare xo6
            ∗ owns (c : Thread nD τ) arg8 fullShare xi7
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ owns (c : Thread nD τ) arg8 fullShare xi7) -∗ K ⟨⟩))
          ⊢ wp frame (wpE (defs₀ (F := F)) Variants.none c none) E
              (cc0_rec_out_bwd i arg1 harg1 arg2 harg2 arg3 harg3 arg4 harg4 arg5 harg5 arg6 harg6 arg7 harg7 arg8 harg8) K } := by
  refine ⟨?_, ?_, ?_, fun xi7 E K => ?run⟩
  case run =>
    simp only [cc0_rec_out_bwd_eq_skeleton]; unfold cc0_rec_out_bwd_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; isplitr; · ipureintro; exact harg8.read_unread _
    iexact H7

end Cert.Kernel12Ideal.Val

end
-- ==== Proof.Out.Steps.lean ====
module

public import proofs.«01_k».proof.Proof.Out.RunFirst
public import proofs.«01_k».proof.Proof.Out.RunRest
public import Idealize.ShloMosaic.Lib.Pipeline.TableIdle

@[expose] public section

/-! What the four output buffers of the kernel for the gradient of the recurrent layer's output hold after each of its 16 points,
as one state that each point maps to the next. -/

set_option maxRecDepth 16384

noncomputable section

namespace Cert.Kernel12Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal.Gen

variable {F : FTy → Type} [FloatOps F]

local notation "𝕄" => MT nD τ sig Unit (Elt F) ℕ (UR sig nD τ) ℕ

variable (m : (ℓ : Loc nD τ sig) → Buf (Elt F) ℓ)

theorem lt_16 (t : Fin cfg0.N) : t.val < 16 := lt_of_lt_of_eq t.isLt (show cfg0.N = 16 from N_0)

/-! ## Where the last output, which only the first point stores into, is touched and written back -/

theorem db_live : ∀ t : Fin cfg0.N, t.val = 0 → cfg0.idle 7 (grid0.coords t) = false := by decide +kernel
theorem db_idle : ∀ t : Fin cfg0.N, t.val ≠ 0 → cfg0.idle 7 (grid0.coords t) = true := by decide +kernel
theorem db_flush : ∀ t : Fin cfg0.N, (cfg0.win 7).flush t = decide (t.val = 15) := by decide +kernel

/-- Nothing has been stored into a row of sums only before the first point, and after the last has been written back. -/
def rowFresh : ℕ → Bool := fun n => n == 0 || n == 16
theorem rowFresh_step6 : ∀ t : Fin cfg0.N,
    rowFresh (t.val + 1) = ((cfg0.win 6).flush t || (cfg0.idle 6 (cfg0.grid.coords t) && rowFresh t.val)) := by decide +kernel
theorem rowFresh_step7 : ∀ t : Fin cfg0.N,
    rowFresh (t.val + 1) = ((cfg0.win 7).flush t || (cfg0.idle 7 (cfg0.grid.coords t) && rowFresh t.val)) := by decide +kernel
theorem rowFresh_false (t : Fin cfg0.N) (h : t.val ≠ 0) : rowFresh t.val = false := by
  have := lt_16 t
  unfold rowFresh
  simp only [Bool.or_eq_false_iff, beq_eq_false_iff_ne]
  omega
theorem dqw_notFresh (t : Fin cfg0.N) (h : t.val ≠ 0) : cfg0.fresh 6 t.val = false := by
  rw [Pipeline.Cfg.fresh_tab cfg0 6 rowFresh rfl rowFresh_step6 t.val (Nat.le_of_lt t.isLt)]; exact rowFresh_false t h
theorem db_notFresh (t : Fin cfg0.N) (h : t.val ≠ 0) : cfg0.fresh 7 t.val = false := by
  rw [Pipeline.Cfg.fresh_tab cfg0 7 rowFresh rfl rowFresh_step7 t.val (Nat.le_of_lt t.isLt)]; exact rowFresh_false t h

/-! ## The state -/

/-- What the output buffers hold between two points: the blocks of the two gradients of the rows, the scale's gradient and the last row. -/
structure St (F : FTy → Type) where
  dg : Vec F S512x1024 .f32
  dy : Vec F S512x1024 .bf16
  dqw : Vec F S1x1024 .f32
  db : Vec F S1x1024 .f32

/-- A buffer's contents after a list of stores that cover it, read through any whole view: over junk. -/
def rd {κ : Kind} {sp : Space} {S : Shape} {e : EltTy} (V : View sig κ sp S e) (L : List (View.Piece (Elt F) S e)) : Vec F S e :=
  V.read (Elt F) (V.writes (Elt F) V.junk L)

theorem read_rd {κ κ' : Kind} {sp sp' : Space} {S : Shape} {e : EltTy} (V : View sig κ sp S e) (V' : View sig κ' sp' S e) (f) (L : List (View.Piece (Elt F) S e))
    (h : ∀ y : S.Idx, ∃ pc ∈ L, y ∈ pc.1.set) : V'.read (Elt F) (V'.writes (Elt F) f L) = rd V L :=
  View.read_writes_of_cover _ _ _ _ _ h

abbrev Vdg : View sig .tc .vmem S512x1024 .f32 := (Memref.whole cc0_stg4_0 : Memref sig .tc .vmem S512x1024 .f32).view
abbrev Vdy : View sig .tc .vmem S512x1024 .bf16 := (Memref.whole cc0_stg5_0 : Memref sig .tc .vmem S512x1024 .bf16).view
abbrev Vdqw : View sig .tc .vmem S1x1024 .f32 := (Memref.whole cc0_stg6_0 : Memref sig .tc .vmem S1x1024 .f32).view
abbrev Vdb : View sig .tc .vmem S1x1024 .f32 := (Memref.whole cc0_stg7_0 : Memref sig .tc .vmem S1x1024 .f32).view

/-- The run at point `t`, at the point's buffers and blocks. -/
def atFirst (c : Dev nD) (t : Fin cfg0.N) (h : t.val = 0) :=
  runFirst (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t)
    ((clears_iff t).mpr h)
    (iblk m c 0 t) (iblk m c 1 t) (iblk m c 2 t) (iblk m c 3 t)

/-- The run at point `t`, at the point's buffers and blocks and the state `s` before it. -/
def atRest (c : Dev nD) (t : Fin cfg0.N) (h : t.val ≠ 0) (s : St F) :=
  runRest (F := F) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t)
    (fun hc => h ((clears_iff t).mp hc))
    (iblk m c 0 t) (iblk m c 1 t) (iblk m c 2 t) (iblk m c 3 t) s.dqw

/-! ## Every buffer is covered by the stores of the points that store into it -/

theorem coverFirst_dg (c : Dev nD) (t : Fin cfg0.N) (h : t.val = 0) (y : S512x1024.Idx) :
    ∃ pc ∈ (atFirst m c t h).1, y ∈ pc.1.set :=
  View.cover_of_tiledL (atFirst m c t h).1 S512x1024.size (by sl_kernel_rfl) y
theorem coverFirst_dy (c : Dev nD) (t : Fin cfg0.N) (h : t.val = 0) (y : S512x1024.Idx) :
    ∃ pc ∈ (atFirst m c t h).2.1, y ∈ pc.1.set :=
  View.cover_of_tiledL (atFirst m c t h).2.1 S512x1024.size (by sl_kernel_rfl) y
theorem coverFirst_dqw (c : Dev nD) (t : Fin cfg0.N) (h : t.val = 0) (y : S1x1024.Idx) :
    ∃ pc ∈ (atFirst m c t h).2.2.1, y ∈ pc.1.set :=
  View.cover_of_tiledL (atFirst m c t h).2.2.1 S1x1024.size (by sl_kernel_rfl) y
theorem coverFirst_db (c : Dev nD) (t : Fin cfg0.N) (h : t.val = 0) (y : S1x1024.Idx) :
    ∃ pc ∈ (atFirst m c t h).2.2.2.1, y ∈ pc.1.set :=
  View.cover_of_tiledL (atFirst m c t h).2.2.2.1 S1x1024.size (by sl_kernel_rfl) y
theorem coverRest_dg (c : Dev nD) (t : Fin cfg0.N) (h : t.val ≠ 0) (s : St F) (y : S512x1024.Idx) :
    ∃ pc ∈ (atRest m c t h s).1, y ∈ pc.1.set :=
  View.cover_of_tiledL (atRest m c t h s).1 S512x1024.size (by sl_kernel_rfl) y
theorem coverRest_dy (c : Dev nD) (t : Fin cfg0.N) (h : t.val ≠ 0) (s : St F) (y : S512x1024.Idx) :
    ∃ pc ∈ (atRest m c t h s).2.1, y ∈ pc.1.set :=
  View.cover_of_tiledL (atRest m c t h s).2.1 S512x1024.size (by sl_kernel_rfl) y
theorem coverRest_dqw (c : Dev nD) (t : Fin cfg0.N) (h : t.val ≠ 0) (s : St F) (y : S1x1024.Idx) :
    ∃ pc ∈ (atRest m c t h s).2.2.1, y ∈ pc.1.set :=
  View.cover_of_tiledL (atRest m c t h s).2.2.1 S1x1024.size (by sl_kernel_rfl) y

/-! ## The state after a point -/

def nextFirst (c : Dev nD) (t : Fin cfg0.N) (h : t.val = 0) : St F where
  dg := rd Vdg (atFirst m c t h).1
  dy := rd Vdy (atFirst m c t h).2.1
  dqw := rd Vdqw (atFirst m c t h).2.2.1
  db := rd Vdb (atFirst m c t h).2.2.2.1
theorem nextFirst_dg (c : Dev nD) (t : Fin cfg0.N) (h : t.val = 0) : (nextFirst m c t h).dg = rd Vdg (atFirst m c t h).1 := by
  with_reducible exact (nextFirst.eq_1 m c t h ▸ rfl)
theorem nextFirst_dy (c : Dev nD) (t : Fin cfg0.N) (h : t.val = 0) : (nextFirst m c t h).dy = rd Vdy (atFirst m c t h).2.1 := by
  with_reducible exact (nextFirst.eq_1 m c t h ▸ rfl)
theorem nextFirst_dqw (c : Dev nD) (t : Fin cfg0.N) (h : t.val = 0) : (nextFirst m c t h).dqw = rd Vdqw (atFirst m c t h).2.2.1 := by
  with_reducible exact (nextFirst.eq_1 m c t h ▸ rfl)
theorem nextFirst_db (c : Dev nD) (t : Fin cfg0.N) (h : t.val = 0) : (nextFirst m c t h).db = rd Vdb (atFirst m c t h).2.2.2.1 := by
  with_reducible exact (nextFirst.eq_1 m c t h ▸ rfl)

def nextRest (c : Dev nD) (t : Fin cfg0.N) (h : t.val ≠ 0) (s : St F) : St F where
  dg := rd Vdg (atRest m c t h s).1
  dy := rd Vdy (atRest m c t h s).2.1
  dqw := rd Vdqw (atRest m c t h s).2.2.1
  db := s.db
theorem nextRest_dg (c : Dev nD) (t : Fin cfg0.N) (h : t.val ≠ 0) (s : St F) : (nextRest m c t h s).dg = rd Vdg (atRest m c t h s).1 := by
  with_reducible exact (nextRest.eq_1 m c t h s ▸ rfl)
theorem nextRest_dy (c : Dev nD) (t : Fin cfg0.N) (h : t.val ≠ 0) (s : St F) : (nextRest m c t h s).dy = rd Vdy (atRest m c t h s).2.1 := by
  with_reducible exact (nextRest.eq_1 m c t h s ▸ rfl)
theorem nextRest_dqw (c : Dev nD) (t : Fin cfg0.N) (h : t.val ≠ 0) (s : St F) : (nextRest m c t h s).dqw = rd Vdqw (atRest m c t h s).2.2.1 := by
  with_reducible exact (nextRest.eq_1 m c t h s ▸ rfl)
theorem nextRest_db (c : Dev nD) (t : Fin cfg0.N) (h : t.val ≠ 0) (s : St F) : (nextRest m c t h s).db = s.db := by
  with_reducible exact (nextRest.eq_1 m c t h s ▸ rfl)

/-- THE STATE after point `n`. -/
def stAt (c : Dev nD) : (n : ℕ) → n < cfg0.N → St F
  | 0, hn => nextFirst m c ⟨0, hn⟩ rfl
  | n + 1, hn => nextRest m c ⟨n + 1, hn⟩ (Nat.succ_ne_zero n) (stAt c n (Nat.lt_of_succ_lt hn))

/-- The state before point `t`, for a point that is not the first. -/
def stPre (c : Dev nD) (t : Fin cfg0.N) : St F := stAt m c (t.val - 1) (Nat.lt_of_le_of_lt (Nat.sub_le _ _) t.isLt)

theorem stAt_first (c : Dev nD) (t : Fin cfg0.N) (h : t.val = 0) : stAt m c t.val t.isLt = nextFirst m c t h := by
  obtain ⟨n, hn⟩ := t
  obtain rfl : n = 0 := h
  rfl
theorem stAt_rest (c : Dev nD) (t : Fin cfg0.N) (h : t.val ≠ 0) : stAt m c t.val t.isLt = nextRest m c t h (stPre m c t) := by
  obtain ⟨n, hn⟩ := t
  cases n with
  | zero => exact absurd rfl h
  | succ n => rfl

/-! ## The body at a point, from state to state -/

/-- The input windows' buffers at point `t`, each at its block. -/
def ins (c : Dev nD) (t : Fin cfg0.N) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t))

set_option maxHeartbeats 1600000 in
theorem stepFirst (c : Dev nD) (t : Fin cfg0.N) (h : t.val = 0) (K : PUnit → sProp 𝕄) :
    iprop(ins m c t ∗ (∃ d, owns (c : Thread nD τ) (ms0_4 t) fullShare d)
        ∗ (∃ d, owns (c : Thread nD τ) (ms0_5 t) fullShare d)
        ∗ (∃ d, owns (c : Thread nD τ) (ms0_6 t) fullShare d)
        ∗ (∃ d, owns (c : Thread nD τ) (ms0_7 t) fullShare d)
        ∗ (iprop(ins m c t ∗ owns (c : Thread nD τ) (ms0_4 t) fullShare (nextFirst m c t h).dg
            ∗ owns (c : Thread nD τ) (ms0_5 t) fullShare (nextFirst m c t h).dy
            ∗ owns (c : Thread nD τ) (ms0_6 t) fullShare (nextFirst m c t h).dqw
            ∗ owns (c : Thread nD τ) (ms0_7 t) fullShare (nextFirst m c t h).db) -∗ K ⟨⟩))
      ⊢ wp frame (wpE (defs₀ (F := F)) Variants.none c none) Set.univ (bodyAt0 t) K := by
  unfold ins bodyAt0
  iintro ⟨⟨H0, H1, H2, H3⟩, H4, H5, H6, H7, Hk⟩
  iapply ((atFirst m c t h).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, ⟨%e4, H4⟩, ⟨%e5, H5⟩, ⟨%e6, H6⟩, ⟨%e7, H7⟩⟩
  iapply Hk
  isplitl [H0 H1 H2 H3]
  · isplitl [H0]; · iexact H0
    isplitl [H1]; · iexact H1
    isplitl [H2]; · iexact H2
    iexact H3
  isplitl [H4]
  · unfold owns; iexists _; isplitr
    swap; · iexact H4
    ipureintro; rw [nextFirst_dg]; with_reducible exact read_rd Vdg _ _ _ (coverFirst_dg m c t h)
  isplitl [H5]
  · unfold owns; iexists _; isplitr
    swap; · iexact H5
    ipureintro; rw [nextFirst_dy]; with_reducible exact read_rd Vdy _ _ _ (coverFirst_dy m c t h)
  isplitl [H6]
  · unfold owns; iexists _; isplitr
    swap; · iexact H6
    ipureintro; rw [nextFirst_dqw]; with_reducible exact read_rd Vdqw _ _ _ (coverFirst_dqw m c t h)
  unfold owns; iexists _; isplitr
  swap; · iexact H7
  ipureintro; rw [nextFirst_db]; with_reducible exact read_rd Vdb _ _ _ (coverFirst_db m c t h)

set_option maxHeartbeats 1600000 in
theorem stepRest (c : Dev nD) (t : Fin cfg0.N) (h : t.val ≠ 0) (s : St F) (K : PUnit → sProp 𝕄) :
    iprop(ins m c t ∗ (∃ d, owns (c : Thread nD τ) (ms0_4 t) fullShare d)
        ∗ (∃ d, owns (c : Thread nD τ) (ms0_5 t) fullShare d)
        ∗ owns (c : Thread nD τ) (ms0_6 t) fullShare s.dqw
        ∗ owns (c : Thread nD τ) (ms0_7 t) fullShare s.db
        ∗ (iprop(ins m c t ∗ owns (c : Thread nD τ) (ms0_4 t) fullShare (nextRest m c t h s).dg
            ∗ owns (c : Thread nD τ) (ms0_5 t) fullShare (nextRest m c t h s).dy
            ∗ owns (c : Thread nD τ) (ms0_6 t) fullShare (nextRest m c t h s).dqw
            ∗ owns (c : Thread nD τ) (ms0_7 t) fullShare s.db) -∗ K ⟨⟩))
      ⊢ wp frame (wpE (defs₀ (F := F)) Variants.none c none) Set.univ (bodyAt0 t) K := by
  unfold ins bodyAt0
  iintro ⟨⟨H0, H1, H2, H3⟩, H4, H5, H6, H7, Hk⟩
  iapply ((atRest m c t h s).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, ⟨%e4, H4⟩, ⟨%e5, H5⟩, ⟨%e6, H6⟩, H7⟩
  iapply Hk
  isplitl [H0 H1 H2 H3]
  · isplitl [H0]; · iexact H0
    isplitl [H1]; · iexact H1
    isplitl [H2]; · iexact H2
    iexact H3
  isplitl [H4]
  · unfold owns; iexists _; isplitr
    swap; · iexact H4
    ipureintro; rw [nextRest_dg]; with_reducible exact read_rd Vdg _ _ _ (coverRest_dg m c t h s)
  isplitl [H5]
  · unfold owns; iexists _; isplitr
    swap; · iexact H5
    ipureintro; rw [nextRest_dy]; with_reducible exact read_rd Vdy _ _ _ (coverRest_dy m c t h s)
  isplitl [H6]
  · unfold owns; iexists _; isplitr
    swap; · iexact H6
    ipureintro; rw [nextRest_dqw]; with_reducible exact read_rd Vdqw _ _ _ (coverRest_dqw m c t h s)
  iexact H7

end Cert.Kernel12Ideal.Val

end
-- ==== Proof.Out.Launch.lean ====
module

public import proofs.«01_k».proof.Proof.Out.Steps
public import Idealize.ShloMosaic.Lib.Claim

@[expose] public section

/-! The launch of the kernel for the gradient of the recurrent layer's output with its results named: the pipeline runs, and its
output arrays end holding what the states of the points wrote back. -/

set_option maxRecDepth 16384

noncomputable section

namespace Cert.Kernel12Ideal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data on core `c`: inputs at their blocks, the outputs at the state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).dg
    | ⟨5, _⟩ => (stAt m c t.val t.isLt).dy
    | ⟨6, _⟩ => (stAt m c t.val t.isLt).dqw
    | ⟨7, _⟩ => (stAt m c t.val t.isLt).db
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (stAt m c t.val t.isLt).dg := by dsimp only [dats]
theorem after_5 (c : Dev nD) (t : Fin cfg0.N) : (dats m 0 c).after 5 t = (stAt m c t.val t.isLt).dy := by dsimp only [dats]
theorem after_6 (c : Dev nD) (t : Fin cfg0.N) : (dats m 0 c).after 6 t = (stAt m c t.val t.isLt).dqw := by dsimp only [dats]
theorem after_7 (c : Dev nD) (t : Fin cfg0.N) : (dats m 0 c).after 7 t = (stAt m c t.val t.isLt).db := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem leaves_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [live_0 t], after_0]
theorem leaves_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [live_1 t], after_1]
theorem leaves_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [live_2 t], after_2]
theorem leaves_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [live_3 t], after_3]
theorem leaves_4 (c : Dev nD) (t : Fin cfg0.N) :
    (dats m 0 c).leavesExact 4 t = owns (c : Thread nD τ) (ms0_4 t) fullShare (stAt m c t.val t.isLt).dg := by
  rw [show (dats m 0 c).leavesExact 4 t = owns (c : Thread nD τ) (ms0_4 t) fullShare ((dats m 0 c).after 4 t) from by
    unfold Dat.leavesExact; rw [live_4 t], after_4]
theorem leaves_5 (c : Dev nD) (t : Fin cfg0.N) :
    (dats m 0 c).leavesExact 5 t = owns (c : Thread nD τ) (ms0_5 t) fullShare (stAt m c t.val t.isLt).dy := by
  rw [show (dats m 0 c).leavesExact 5 t = owns (c : Thread nD τ) (ms0_5 t) fullShare ((dats m 0 c).after 5 t) from by
    unfold Dat.leavesExact; rw [live_5 t], after_5]
theorem leaves_6 (c : Dev nD) (t : Fin cfg0.N) :
    (dats m 0 c).leavesExact 6 t = owns (c : Thread nD τ) (ms0_6 t) fullShare (stAt m c t.val t.isLt).dqw := by
  rw [show (dats m 0 c).leavesExact 6 t = owns (c : Thread nD τ) (ms0_6 t) fullShare ((dats m 0 c).after 6 t) from by
    unfold Dat.leavesExact; rw [live_6 t], after_6]

/-- The scale's gradient before a later point is the state's. -/
theorem dqw_before (c : Dev nD) (t : Fin cfg0.N) (hz : t.val ≠ 0) (d) : (dats m 0 c).before 6 t d = (stPre m c t).dqw := by
  rw [Dat.before_out_traj _ 6 rfl (fun _ _ => rfl)
    (fun t _ hi _ => absurd (hi.symm.trans (live_6 t)) (by decide)) t.val t rfl d,
    if_neg (by rw [dqw_notFresh t hz]; exact Bool.false_ne_true)]
  dsimp only [dats]; rfl

/-- The last row is carried through the later points. -/
theorem db_carry (c : Dev nD) (t : Fin cfg0.N) (hz : t.val ≠ 0) :
    (dats m 0 c).after 7 t = (dats m 0 c).after 7 ⟨t.val - 1, by omega⟩ := by
  rw [after_7, after_7, stAt_rest m c t hz, nextRest_db]; unfold stPre; with_reducible rfl

theorem db_before (c : Dev nD) (t : Fin cfg0.N) (hz : t.val ≠ 0) (d) : (dats m 0 c).before 7 t d = (stPre m c t).db := by
  rw [Dat.before_out_traj _ 7 rfl (fun _ _ => rfl) (fun t hz _ _ => db_carry m c t hz) t.val t rfl d,
    if_neg (by rw [db_notFresh t hz]; exact Bool.false_ne_true)]
  dsimp only [dats]; rfl

theorem db_leaves_first (c : Dev nD) (t : Fin cfg0.N) (h : t.val = 0) :
    (dats m 0 c).leavesExact 7 t = owns (c : Thread nD τ) (ms0_7 t) fullShare (stAt m c t.val t.isLt).db := by
  rw [show (dats m 0 c).leavesExact 7 t = owns (c : Thread nD τ) (ms0_7 t) fullShare ((dats m 0 c).after 7 t) from by
    unfold Dat.leavesExact; rw [db_live t h], after_7]

/-- A later point may hand the last row back as it found it: untouched, or about to be written back. -/
theorem db_leaves_rest (c : Dev nD) (t : Fin cfg0.N) (h : t.val ≠ 0) :
    owns (c : Thread nD τ) (ms0_7 t) fullShare (stPre m c t).db ⊢ (dats m 0 c).leavesExact 7 t := by
  by_cases hl : t.val = 15
  · rw [show (dats m 0 c).leavesExact 7 t = owns (c : Thread nD τ) (ms0_7 t) fullShare ((dats m 0 c).after 7 t) from by
      unfold Dat.leavesExact; rw [db_idle t h, db_flush t, decide_eq_true hl], after_7, stAt_rest m c t h, nextRest_db]
  · rw [Dat.leavesExact_idle (dats m 0 c) 7 t (db_idle t h) (by rw [db_flush t, decide_eq_false hl])]
    iintro H
    iexists default
    rw [db_before m c t h]
    iexact H

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The same with the inputs' buffers at their blocks, and the rest as one. -/
theorem bodyPre_ins (c : Dev nD) (t : Fin cfg0.N) :
    bodyPre m c t ⊢ iprop(Pipeline.ΦA spec0 c ∗ (dats m 0 c).owesAt () t.castSucc ∗ ins m c t
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))) := by
  unfold bodyPre ins
  rw [show (dats m 0 c).Φ t.castSucc = Pipeline.ΦA spec0 c from rfl]
  simp only [before_0, before_1, before_2, before_3]
  iintro ⟨HP, Ho, ⟨%d0, H0⟩, ⟨%d1, H1⟩, ⟨%d2, H2⟩, ⟨%d3, H3⟩, H4, H5, H6, H7⟩
  isplitl [HP]; · iexact HP
  isplitl [Ho]; · iexact Ho
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  iexact H7

theorem bodyPost_ins (c : Dev nD) (t : Fin cfg0.N) :
    iprop(Pipeline.ΦA spec0 c ∗ (dats m 0 c).owesAt () t.castSucc ∗ ins m c t
      ∗ owns (c : Thread nD τ) (ms0_4 t) fullShare (stAt m c t.val t.isLt).dg
      ∗ owns (c : Thread nD τ) (ms0_5 t) fullShare (stAt m c t.val t.isLt).dy
      ∗ owns (c : Thread nD τ) (ms0_6 t) fullShare (stAt m c t.val t.isLt).dqw
      ∗ (dats m 0 c).leavesExact 7 t) ⊢ bodyPost m c t := by
  unfold bodyPost ins
  rw [show (dats m 0 c).owesAt () t.succ = (dats m 0 c).owesAt () t.castSucc from rfl]
  rw [show (dats m 0 c).Φ t.succ = Pipeline.ΦA spec0 c from rfl]
  rw [leaves_0, leaves_1, leaves_2, leaves_3, leaves_4, leaves_5, leaves_6]
  iintro ⟨HP, Ho, ⟨H0, H1, H2, H3⟩, H4, H5, H6, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body (c : Dev nD) (t : Fin cfg0.N) :
    bodyPre m c t ⊢ wp frame (wpE (defs₀ (F := F)) Variants.none c none) Set.univ (bodyAt0 t) (fun _ => bodyPost m c t) := by
  refine (bodyPre_ins m c t).trans ?_
  by_cases h : t.val = 0
  · iintro ⟨HP, Ho, HI, ⟨%d4, H4⟩, ⟨%d5, H5⟩, ⟨%d6, H6⟩, ⟨%d7, H7⟩⟩
    iapply (stepFirst m c t h _)
    isplitl [HI]; · iexact HI
    isplitl [H4]; · iexists _; iexact H4
    isplitl [H5]; · iexists _; iexact H5
    isplitl [H6]; · iexists _; iexact H6
    isplitl [H7]; · iexists _; iexact H7
    iintro ⟨HI, H4, H5, H6, H7⟩
    iapply (bodyPost_ins m c t)
    rw [db_leaves_first m c t h, stAt_first m c t h]
    isplitl [HP]; · iexact HP
    isplitl [Ho]; · iexact Ho
    isplitl [HI]; · iexact HI
    isplitl [H4]; · iexact H4
    isplitl [H5]; · iexact H5
    isplitl [H6]; · iexact H6
    iexact H7
  · iintro ⟨HP, Ho, HI, ⟨%d4, H4⟩, ⟨%d5, H5⟩, ⟨%d6, H6⟩, ⟨%d7, H7⟩⟩
    rw [dqw_before m c t h, db_before m c t h]
    iapply (stepRest m c t h (stPre m c t) _)
    isplitl [HI]; · iexact HI
    isplitl [H4]; · iexists _; iexact H4
    isplitl [H5]; · iexists _; iexact H5
    isplitl [H6]; · iexact H6
    isplitl [H7]; · iexact H7
    iintro ⟨HI, H4, H5, H6, H7⟩
    iapply (bodyPost_ins m c t)
    rw [stAt_rest m c t h]
    isplitl [HP]; · iexact HP
    isplitl [Ho]; · iexact Ho
    isplitl [HI]; · iexact HI
    isplitl [H4]; · iexact H4
    isplitl [H5]; · iexact H5
    isplitl [H6]; · iexact H6
    iapply (db_leaves_rest m c t h); iexact H7

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: from any memory the kernel's program ends with every array of the pipeline at what the states give, and
every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
      (hbody := fun c => (body_obligation m c).loose) (hshare := fun c => (dats m 0 c).share_full fun _ => rfl)
      (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_quiescent m ρ))

end Cert.Kernel12Ideal.Val

end
-- ==== Proof.Norm.P12.lean ====
/-
  The gradient of the recurrent layer's output norm and projection: what the three result arrays hold, and that this is the reference's.
-/
module

public import proofs.«01_k».proof.Defs
public import proofs.«01_k».proof.Proof.Out.Launch
public import proofs.«01_k».proof.Proof.Gen.Reference12Ideal.Run
public import proofs.«01_k».proof.Proof.Gen.Reference12Ideal.Read
public import proofs.«01_k».proof.Proof.Norm.Back
public import proofs.«01_k».proof.Proof.Norm.Store
public import Idealize.ShloMosaic.Lib.Pipeline.ValueKit.Acc
public import Idealize.ShloMosaic.Lib.Quiescent

@[expose] public section

noncomputable section

namespace Cert.Kernel12Ideal.Norm

open Cert.Kernel12Ideal Cert.Kernel12Ideal.Gen Cert.Kernel12Ideal.Val Idealize.ShloMosaic Idealize.ShloMosaic.TcCoe Idealize.SL.Sem
open Cert.Norm

theorem zeros2 : (![0, 0] : Fin 2 → Nat) = fun _ => 0 := by
  funext a; match a with | ⟨0, _⟩ => rfl | ⟨1, _⟩ => rfl

/-! ## The body -/

theorem dy_apply (y d : Vec Ideal S512x1024 .f32) (q : Vec Ideal S1x1024 .f32) (r : Fin 512) (l : Fin 1024) :
    k0_pay7 (F := Ideal) y d q (ix2 r l) = back (fun k => y (ix2 r k)) (fun k => d (ix2 r k) * q (ix2 0 k)) l := by
  pointwise [k0_pay7, k0_pay5, k0_pay4]
  rfl

theorem dg_apply (y d : Vec Ideal S512x1024 .f32) (q : Vec Ideal S1x1024 .f32) (w : Vec Ideal S1024x1024 .bf16) (r : Fin 512) (l : Fin 1024) :
    k0_pay1 (F := Ideal) (k0_pay7 y d q) w (ix2 r l) = ∑ j : Fin 1024, back (fun k => y (ix2 r k)) (fun k => d (ix2 r k) * q (ix2 0 k)) j * w (ix2 l j) := by
  pointwise [k0_pay1]
  simp only [dy_apply]

theorem dqw_apply (y d : Vec Ideal S512x1024 .f32) (a : Vec Ideal S1x1024 .f32) (l : Fin 1024) :
    k0_pay6 (F := Ideal) y d a (ix2 0 l) = a (ix2 0 l) + ∑ r : Fin 512, d (ix2 r l) * (y (ix2 r l) * inv (fun k => y (ix2 r k))) := by
  pointwise [k0_pay6, k0_pay5, k0_pay4]
  rfl

/-! ## The blocks of the arguments -/

variable (m : (ℓ : Loc nD τ sig) → Buf (Elt Ideal) ℓ)

abbrev arr0 (c : Dev nD) : Vec Ideal S8192x1024 .f32 := m ((c : Thread nD τ).loc main_arg0)
abbrev arr1 (c : Dev nD) : Vec Ideal S8192x1024 .f32 := m ((c : Thread nD τ).loc main_arg1)
abbrev arr2 (c : Dev nD) : Vec Ideal S1x1024 .f32 := m ((c : Thread nD τ).loc main_arg2)
abbrev arr3 (c : Dev nD) : Vec Ideal S1024x1024 .bf16 := m ((c : Thread nD τ).loc main_arg3)

theorem win_facts : ∀ t : Fin cfg0.N, win0_0.index t (0 : Fin 2) = t.val ∧ win0_0.index t (1 : Fin 2) = 0 ∧ win0_1.index t (0 : Fin 2) = t.val ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = t.val ∧ win0_4.index t (1 : Fin 2) = 0 ∧ win0_5.index t (0 : Fin 2) = t.val ∧ win0_5.index t (1 : Fin 2) = 0 ∧ win0_6.index t (0 : Fin 2) = 0 ∧ win0_6.index t (1 : Fin 2) = 0 :=
  (by decide +kernel : ∀ t : Fin grid0.N, _)

theorem N16 (t : Fin cfg0.N) : t.val < 16 := lt_of_lt_of_eq t.isLt (show cfg0.N = 16 from N_0)

/-- Row `r` of point `t`'s block. -/
abbrev row (t : Fin cfg0.N) (r : Fin 512) : Fin 8192 := ⟨t.val * 512 + r.val, by have := N16 t; omega⟩

theorem blk0 (c : Dev nD) (t : Fin cfg0.N) (r : Fin 512) (l : Fin 1024) : iblk m c 0 t (ix2 r l) = arr0 m c (ix2 (row t r) l) := by
  have e := win_facts t
  show arr0 m c (((cfg0.win 0).blk t).view.emb (ix2 r l)) = _
  refine congrArg _ (funext fun a => Fin.ext ?_)
  match a with
  | ⟨0, _⟩ => show win0_0.index t (0 : Fin 2) * 512 + 1 * r.val = _; rw [e.1]; show _ = t.val * 512 + r.val; omega
  | ⟨1, _⟩ => show win0_0.index t (1 : Fin 2) * 1024 + 1 * l.val = l.val; rw [e.2.1]; omega

theorem blk1 (c : Dev nD) (t : Fin cfg0.N) (r : Fin 512) (l : Fin 1024) : iblk m c 1 t (ix2 r l) = arr1 m c (ix2 (row t r) l) := by
  have e := win_facts t
  show arr1 m c (((cfg0.win 1).blk t).view.emb (ix2 r l)) = _
  refine congrArg _ (funext fun a => Fin.ext ?_)
  match a with
  | ⟨0, _⟩ => show win0_1.index t (0 : Fin 2) * 512 + 1 * r.val = _; rw [e.2.2.1]; show _ = t.val * 512 + r.val; omega
  | ⟨1, _⟩ => show win0_1.index t (1 : Fin 2) * 1024 + 1 * l.val = l.val; rw [e.2.2.2.1]; omega

theorem blk2 (c : Dev nD) (t : Fin cfg0.N) (r : Fin 1) (l : Fin 1024) : iblk m c 2 t (ix2 r l) = arr2 m c (ix2 (r) l) := by
  have e := win_facts t
  show arr2 m c (((cfg0.win 2).blk t).view.emb (ix2 r l)) = _
  refine congrArg _ (funext fun a => Fin.ext ?_)
  match a with
  | ⟨0, _⟩ => show win0_2.index t (0 : Fin 2) * 1 + 1 * r.val = r.val; rw [e.2.2.2.2.1]; omega
  | ⟨1, _⟩ => show win0_2.index t (1 : Fin 2) * 1024 + 1 * l.val = l.val; rw [e.2.2.2.2.2.1]; omega

theorem blk3 (c : Dev nD) (t : Fin cfg0.N) (r : Fin 1024) (l : Fin 1024) : iblk m c 3 t (ix2 r l) = arr3 m c (ix2 (r) l) := by
  have e := win_facts t
  show arr3 m c (((cfg0.win 3).blk t).view.emb (ix2 r l)) = _
  refine congrArg _ (funext fun a => Fin.ext ?_)
  match a with
  | ⟨0, _⟩ => show win0_3.index t (0 : Fin 2) * 1024 + 1 * r.val = r.val; rw [e.2.2.2.2.2.2.1]; omega
  | ⟨1, _⟩ => show win0_3.index t (1 : Fin 2) * 1024 + 1 * l.val = l.val; rw [e.2.2.2.2.2.2.2.1]; omega

/-! ## What the outputs' blocks hold, point by point -/

/-- The blocks a point reads. -/
abbrev B0 (c : Dev nD) (t : Fin cfg0.N) : Vec Ideal S512x1024 .f32 := iblk m c 0 t
abbrev B1 (c : Dev nD) (t : Fin cfg0.N) : Vec Ideal S512x1024 .f32 := iblk m c 1 t
abbrev B2 (c : Dev nD) (t : Fin cfg0.N) : Vec Ideal S1x1024 .f32 := iblk m c 2 t
abbrev B3 (c : Dev nD) (t : Fin cfg0.N) : Vec Ideal S1024x1024 .bf16 := iblk m c 3 t
/-- The block the sum over the rows lies in after point `n`. -/
abbrev O6 (c : Dev nD) (n : Nat) (h : n < cfg0.N) : Vec Ideal S1x1024 .f32 := (stAt m c n h).dqw

theorem dg_pt (c : Dev nD) (t : Fin cfg0.N) (r : Fin 512) (l : Fin 1024) : (stAt m c t.val t.isLt).dg (ix2 r l)
    = ∑ j : Fin 1024, back (fun k => B1 m c t (ix2 r k)) (fun k => B0 m c t (ix2 r k) * B2 m c t (ix2 0 k)) j * B3 m c t (ix2 l j) := by
  by_cases h0 : t.val = 0
  · rw [stAt_first m c t h0]; rw [nextFirst_dg]; unfold atFirst; frame_out; exact dg_apply ..
  · rw [stAt_rest m c t h0]; rw [nextRest_dg]; unfold atRest; frame_out; exact dg_apply ..

theorem dy_pt (c : Dev nD) (t : Fin cfg0.N) (r : Fin 512) (l : Fin 1024) : (stAt m c t.val t.isLt).dy (ix2 r l)
    = back (fun k => B1 m c t (ix2 r k)) (fun k => B0 m c t (ix2 r k) * B2 m c t (ix2 0 k)) l := by
  by_cases h0 : t.val = 0
  · rw [stAt_first m c t h0]; rw [nextFirst_dy]; unfold atFirst; frame_out; exact dy_apply ..
  · rw [stAt_rest m c t h0]; rw [nextRest_dy]; unfold atRest; frame_out; exact dy_apply ..

theorem dqw_A (c : Dev nD) (t : Fin cfg0.N) (h : t.val % 16 = 0) (l : Fin 1024) : O6 m c t.val t.isLt (ix2 0 l) = 0 + ∑ r : Fin 512, B0 m c t (ix2 r l) * (B1 m c t (ix2 r l) * inv (fun k => B1 m c t (ix2 r k))) := by
  have h0 : t.val = 0 := by have := lt_16 t; omega
  show (stAt m c t.val t.isLt).dqw (ix2 0 l) = _; rw [stAt_first m c t h0]
  rw [nextFirst_dqw]; unfold atFirst; frame_out
  refine (dqw_apply ..).trans (congrArg (· + _) ?_)
  pointwise [k0_pay2]
theorem dqw_B (c : Dev nD) (t : Fin cfg0.N) (h : ¬t.val % 16 = 0) (l : Fin 1024) : O6 m c t.val t.isLt (ix2 0 l) = O6 m c (t.val - 1) (Nat.lt_of_le_of_lt (Nat.sub_le _ _) t.isLt) (ix2 0 l) + ∑ r : Fin 512, B0 m c t (ix2 r l) * (B1 m c t (ix2 r l) * inv (fun k => B1 m c t (ix2 r k))) := by
  have h0 : t.val ≠ 0 := by omega
  show (stAt m c t.val t.isLt).dqw (ix2 0 l) = _; rw [stAt_rest m c t h0]
  rw [nextRest_dqw]; unfold atRest; frame_out
  exact dqw_apply ..

/-! ## The reference, and the equations of the arrays -/

open Cert.Reference12Ideal.Read in
theorem ref_dy (x0 x1 : Vec Ideal S8192x1024 .f32) (x2 : Vec Ideal S1x1024 .f32) (R : Fin 8192) (l : Fin 1024) : val_main_v34 (F := Ideal) x0 x1 x2 (ix2 R l) = back (fun k => x1 (ix2 R k)) (fun k => x0 (ix2 R k) * x2 (ix2 0 k)) l := by
  pointwise [val_main_v34, val_main_v33, val_main_v32, val_main_v31, val_main_v30, val_main_v29, val_main_v28, val_main_v27, val_main_v26, val_main_v25, val_main_v24, val_main_v23, val_main_v22, val_main_v21, val_main_v20, val_main_v19, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, val_main_cst_7]
  simp only [zero_add, Finset.univ_unique, Finset.sum_singleton]
  rw [back_eq, add_assoc]
  rfl
open Cert.Reference12Ideal.Read in
theorem ref_dy16 (x0 x1 : Vec Ideal S8192x1024 .f32) (x2 : Vec Ideal S1x1024 .f32) (R : Fin 8192) (l : Fin 1024) : val_main_v38 (F := Ideal) x0 x1 x2 (ix2 R l) = back (fun k => x1 (ix2 R k)) (fun k => x0 (ix2 R k) * x2 (ix2 0 k)) l := by
  pointwise [val_main_v38]
  exact ref_dy ..
open Cert.Reference12Ideal.Read in
theorem ref_dg (x0 x1 : Vec Ideal S8192x1024 .f32) (x2 : Vec Ideal S1x1024 .f32) (x3 : Vec Ideal S1024x1024 .bf16) (R : Fin 8192) (l : Fin 1024) :
    val_main_v37 (F := Ideal) x0 x1 x2 x3 (ix2 R l) = ∑ j : Fin 1024, back (fun k => x1 (ix2 R k)) (fun k => x0 (ix2 R k) * x2 (ix2 0 k)) j * x3 (ix2 l j) := by
  pointwise [val_main_v37, val_main_v35]
  simp only [ref_dy]
open Cert.Reference12Ideal.Read in
theorem ref_dqw (x0 x1 : Vec Ideal S8192x1024 .f32) (l : Fin 1024) :
    val_main_v18 (F := Ideal) x0 x1 (ix2 0 l) = ∑ R : Fin 8192, x0 (ix2 R l) * (x1 (ix2 R l) * inv (fun k => x1 (ix2 R k))) := by
  pointwise [val_main_v18, val_main_v17, val_main_v16, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, val_main_cst_7]
  exact Finset.sum_congr rfl fun _ _ => mul_comm _ _

theorem flushed4 (c : Dev nD) (t : Fin cfg0.N) : (dats m 0 c).flushed 4 t = (cfg0.win 4).cut (grid0.coords t) ((stAt m c t.val t.isLt).dg) := by
  show (cfg0.win 4).cut (grid0.coords t) ((dats m 0 c).after 4 t) = _
  rw [after_4]

theorem flushed5 (c : Dev nD) (t : Fin cfg0.N) : (dats m 0 c).flushed 5 t = (cfg0.win 5).cut (grid0.coords t) ((stAt m c t.val t.isLt).dy) := by
  show (cfg0.win 5).cut (grid0.coords t) ((dats m 0 c).after 5 t) = _
  rw [after_5]

theorem flushed6 (c : Dev nD) (t : Fin cfg0.N) : (dats m 0 c).flushed 6 t = (cfg0.win 6).cut (grid0.coords t) ((stAt m c t.val t.isLt).dqw) := by
  show (cfg0.win 6).cut (grid0.coords t) ((dats m 0 c).after 6 t) = _
  rw [after_6]

theorem dg_eq (c : Dev nD) : (dats m 0 c).arrAt 4 cfg0.N = Cert.Reference12Ideal.Read.val_main_v37 (F := Ideal) (arr0 m c) (arr1 m c) (arr2 m c) (arr3 m c) := by
  refine Pipeline.Dat.arrAt_eq_of_cover (dats m 0 c) 4 _ (fun t _ => ?_) (fun i => ?_)
  · rw [flushed4]
    have e := win_facts t
    funext (y : S512x1024.Idx)
    idx_vars y
    show (stAt m c t.val t.isLt).dg (ix2 y0 y1) = Cert.Reference12Ideal.Read.val_main_v37 (F := Ideal) (arr0 m c) (arr1 m c) (arr2 m c) (arr3 m c) (((cfg0.win 4).blk t).view.emb (ix2 y0 y1 : S512x1024.Idx))
    have hi : ((cfg0.win 4).blk t).view.emb (ix2 y0 y1 : S512x1024.Idx) = (ix2 (row t y0) y1 : S8192x1024.Idx) := by
      funext a; apply Fin.ext
      match a with
      | ⟨0, _⟩ => show win0_4.index t (0 : Fin 2) * 512 + 1 * y0.val = _; rw [e.2.2.2.2.2.2.2.2.1]; show _ = t.val * 512 + y0.val; omega
      | ⟨1, _⟩ => show win0_4.index t (1 : Fin 2) * 1024 + 1 * y1.val = y1.val; rw [e.2.2.2.2.2.2.2.2.2.1]; omega
    rw [hi]
    refine (dg_pt m c t y0 y1).trans (Eq.trans ?_ (ref_dg (arr0 m c) (arr1 m c) (arr2 m c) (arr3 m c) (row t y0) y1).symm)
    simp only [blk0, blk1, blk2, blk3]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_4 t, ?_⟩
    have e := win_facts t
    have hi : ((cfg0.win 4).blk t).view.emb (ix2 r l : S512x1024.Idx) = (ix2 R l : S8192x1024.Idx) := by
      funext a; apply Fin.ext
      match a with
      | ⟨0, _⟩ => show win0_4.index t (0 : Fin 2) * 512 + 1 * r.val = R.val; rw [e.2.2.2.2.2.2.2.2.1]; omega
      | ⟨1, _⟩ => show win0_4.index t (1 : Fin 2) * 1024 + 1 * l.val = l.val; rw [e.2.2.2.2.2.2.2.2.2.1]; omega
    exact hi ▸ ((cfg0.win 4).blk t).view.emb_mem_set (ix2 r l : S512x1024.Idx)

theorem dy_eq (c : Dev nD) : (dats m 0 c).arrAt 5 cfg0.N = Cert.Reference12Ideal.Read.val_main_v38 (F := Ideal) (arr0 m c) (arr1 m c) (arr2 m c) := by
  refine Pipeline.Dat.arrAt_eq_of_cover (dats m 0 c) 5 _ (fun t _ => ?_) (fun i => ?_)
  · rw [flushed5]
    have e := win_facts t
    funext (y : S512x1024.Idx)
    idx_vars y
    show (stAt m c t.val t.isLt).dy (ix2 y0 y1) = Cert.Reference12Ideal.Read.val_main_v38 (F := Ideal) (arr0 m c) (arr1 m c) (arr2 m c) (((cfg0.win 5).blk t).view.emb (ix2 y0 y1 : S512x1024.Idx))
    have hi : ((cfg0.win 5).blk t).view.emb (ix2 y0 y1 : S512x1024.Idx) = (ix2 (row t y0) y1 : S8192x1024.Idx) := by
      funext a; apply Fin.ext
      match a with
      | ⟨0, _⟩ => show win0_5.index t (0 : Fin 2) * 512 + 1 * y0.val = _; rw [e.2.2.2.2.2.2.2.2.2.2.1]; show _ = t.val * 512 + y0.val; omega
      | ⟨1, _⟩ => show win0_5.index t (1 : Fin 2) * 1024 + 1 * y1.val = y1.val; rw [e.2.2.2.2.2.2.2.2.2.2.2.1]; omega
    rw [hi]
    refine (dy_pt m c t y0 y1).trans (Eq.trans ?_ (ref_dy16 (arr0 m c) (arr1 m c) (arr2 m c) (row t y0) y1).symm)
    simp only [blk0, blk1, blk2]
  · obtain ⟨R, l, rfl⟩ : ∃ (R : Fin 8192) (l : Fin 1024), i = (ix2 R l : S8192x1024.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_5 t, ?_⟩
    have e := win_facts t
    have hi : ((cfg0.win 5).blk t).view.emb (ix2 r l : S512x1024.Idx) = (ix2 R l : S8192x1024.Idx) := by
      funext a; apply Fin.ext
      match a with
      | ⟨0, _⟩ => show win0_5.index t (0 : Fin 2) * 512 + 1 * r.val = R.val; rw [e.2.2.2.2.2.2.2.2.2.2.1]; omega
      | ⟨1, _⟩ => show win0_5.index t (1 : Fin 2) * 1024 + 1 * l.val = l.val; rw [e.2.2.2.2.2.2.2.2.2.2.2.1]; omega
    exact hi ▸ ((cfg0.win 5).blk t).view.emb_mem_set (ix2 r l : S512x1024.Idx)

theorem dqw_eq (c : Dev nD) : (dats m 0 c).arrAt 6 cfg0.N = Cert.Reference12Ideal.Read.val_main_v18 (F := Ideal) (arr0 m c) (arr1 m c) := by
  have hN : cfg0.N = 16 := N_0
  refine Pipeline.Dat.arrAt_eq_of_cover (dats m 0 c) 6 _ (fun t hf => ?_) (fun i => ?_)
  · have ht : t.val + 1 = cfg0.N := by have := (flush0_6 t).mp hf; omega
    rw [flushed6]
    have e := win_facts t
    funext (y : S1x1024.Idx)
    idx_vars y
    show O6 m c t.val t.isLt (ix2 y0 y1) = Cert.Reference12Ideal.Read.val_main_v18 (F := Ideal) (arr0 m c) (arr1 m c) (((cfg0.win 6).blk t).view.emb (ix2 y0 y1 : S1x1024.Idx))
    have hi : ∀ (r : Fin 1) (l : Fin 1024), ((cfg0.win 6).blk t).view.emb (ix2 r l : S1x1024.Idx) = (ix2 r l : S1x1024.Idx) := by
      intro r l; funext a; apply Fin.ext
      match a with
      | ⟨0, _⟩ => show win0_6.index t (0 : Fin 2) * 1 + 1 * r.val = r.val; rw [e.2.2.2.2.2.2.2.2.2.2.2.2.1]; omega
      | ⟨1, _⟩ => show win0_6.index t (1 : Fin 2) * 1024 + 1 * l.val = l.val; rw [e.2.2.2.2.2.2.2.2.2.2.2.2.2]; omega
    rw [hi]
    rw [show y0 = 0 from Subsingleton.elim _ _]
    refine (Pipeline.eq_sum_fin_of_reset_step_apply_last (fun n h l => O6 m c n h (ix2 0 l)) 16 (fun _ => 0) (fun t l => ∑ r : Fin 512, B0 m c t (ix2 r l) * (B1 m c t (ix2 r l) * inv (fun k => B1 m c t (ix2 r k))))
      (fun t h l => dqw_A m c t h l) (fun t h l => dqw_B m c t h l) (by omega) t ht y1).trans (Eq.trans ?_ (ref_dqw (arr0 m c) (arr1 m c) y1).symm)
    refine sum_points hN _ _ (fun p => ?_)
    simp only [blk0, blk1]
  · obtain ⟨R, l, rfl⟩ : ∃ (R : Fin 1) (l : Fin 1024), i = (ix2 R l : S1x1024.Idx) :=
      ⟨i 0, i 1, by funext a; match a with | ⟨0, _⟩ => rfl | ⟨1, _⟩ => rfl⟩
    obtain ⟨t, ht⟩ : ∃ t : Fin cfg0.N, t.val = 15 := ⟨⟨15, by omega⟩, rfl⟩
    refine ⟨t, (flush0_6 t).mpr (by omega), ?_⟩
    have e := win_facts t
    have hi : ∀ (r : Fin 1) (l : Fin 1024), ((cfg0.win 6).blk t).view.emb (ix2 r l : S1x1024.Idx) = (ix2 r l : S1x1024.Idx) := by
      intro r l; funext a; apply Fin.ext
      match a with
      | ⟨0, _⟩ => show win0_6.index t (0 : Fin 2) * 1 + 1 * r.val = r.val; rw [e.2.2.2.2.2.2.2.2.2.2.2.2.1]; omega
      | ⟨1, _⟩ => show win0_6.index t (1 : Fin 2) * 1024 + 1 * l.val = l.val; rw [e.2.2.2.2.2.2.2.2.2.2.2.2.2]; omega
    exact hi R l ▸ ((cfg0.win 6).blk t).view.emb_mem_set (ix2 R l : S1x1024.Idx)

/-- The run with the three result arrays named. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Kernel12Ideal.Norm

namespace Cert.Norm12

open Idealize.ShloMosaic Idealize.ShloMosaic.TcCoe Idealize.SL.Sem

/-- The claim about the two programs. -/
theorem algebraic : Cert.algebraic_Kernel12Ideal_Reference12Ideal (hKernel12Ideal := Cert.Kernel12Ideal.Gen.facts)
    (hReference12Ideal := Cert.Reference12Ideal.Gen.facts) := by
  intro m g m' g' _ hagree
  refine ⟨fun c => (Cert.Kernel12Ideal.Val.dats m 0 c).arrAt 4 Cert.Kernel12Ideal.cfg0.N, fun c => (Cert.Kernel12Ideal.Val.dats m 0 c).arrAt 5 Cert.Kernel12Ideal.cfg0.N, fun c => (Cert.Kernel12Ideal.Val.dats m 0 c).arrAt 6 Cert.Kernel12Ideal.cfg0.N,
    Cert.Kernel12Ideal.Norm.run_blocks m g, ?_⟩
  refine (θ_run Cert.Reference12Ideal.defs _ _).mono (fun r h c => ?_) (Cert.Reference12Ideal.Value.run (F := Ideal) m' g')
  refine ⟨(h c).1.trans ?_, (h c).2.1.trans ?_, (h c).2.2.1.trans ?_, (h c).2.2.2⟩
  · rw [(hagree c).1, (hagree c).2.1, (hagree c).2.2.1, (hagree c).2.2.2]
    exact (Cert.Kernel12Ideal.Norm.dg_eq m c).symm
  · rw [(hagree c).1, (hagree c).2.1, (hagree c).2.2.1]
    exact (Cert.Kernel12Ideal.Norm.dy_eq m c).symm
  · rw [(hagree c).1, (hagree c).2.1]
    exact (Cert.Kernel12Ideal.Norm.dqw_eq m c).symm

/-- The reference's frame: it has no counters at all. -/
theorem frame_ref : Cert.quiescent_Reference12Ideal (hReference12Ideal := Cert.Reference12Ideal.Gen.facts) := by
  intro m g _
  exact (θ_run Cert.Reference12Ideal.defs _ _).mono (fun r h => ⟨fun c => (h c).2.2.2, sem_eq_zero_of_no_sems (by decide) r.2⟩)
    (Cert.Reference12Ideal.Value.run (F := Ideal) m g)

end Cert.Norm12

end
-- ==== Proof.Norm.P13.lean ====
/-
  The lower bound of the recurrence's forget gate: what the result array holds, and that this is the reference's.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Quiescent
public import proofs.«01_k».proof.Proof.Norm.Back
public import Idealize.ShloMosaic.Lib.Pipeline.ValueKit.Acc

@[expose] public section

noncomputable section

namespace Cert.Kernel13Ideal.Low

open Cert.Kernel13Ideal Cert.Kernel13Ideal.Gen Cert.Kernel13Ideal.Value Idealize.ShloMosaic Idealize.ShloMosaic.TcCoe Idealize.SL.Sem

/-! ## Two logits and their softmax -/

/-- An exponential below the maximum is a real number that is not negative. -/
theorem exp_real (a b : EReal) (h : a ≤ b) : ∃ r : ℝ, 0 ≤ r ∧ Ideal.exp (a - b) = (r : EReal) := by
  have ht : a - b ≠ ⊤ := by
    induction a using EReal.rec with
    | bot => simp
    | top => rw [top_le_iff.mp h]; decide
    | coe x =>
      induction b using EReal.rec with
      | bot => exact absurd h (by simp)
      | top => simp
      | coe y => exact EReal.coe_ne_top (x - y)
  generalize a - b = d at ht
  induction d using EReal.rec with
  | bot => exact ⟨0, le_rfl, rfl⟩
  | top => exact absurd rfl ht
  | coe x => exact ⟨Real.exp x, (Real.exp_pos x).le, rfl⟩

/-- The sum of the first two shares less the first is the second, also where both are `0 / 0`. -/
theorem second (a b : EReal) (ha : ∃ r : ℝ, 0 ≤ r ∧ a = (r : EReal)) (hb : ∃ r : ℝ, 0 ≤ r ∧ b = (r : EReal)) :
    Ideal.div a (a + b) + Ideal.div b (a + b) - Ideal.div a (a + b) = Ideal.div b (a + b) := by
  obtain ⟨x, hx, rfl⟩ := ha
  obtain ⟨y, hy, rfl⟩ := hb
  rw [← EReal.coe_add]
  by_cases h : x + y = 0
  · obtain rfl : x = 0 := by linarith
    obtain rfl : y = 0 := by linarith
    simp [Ideal.div]
  · rw [Ideal.div_coe h, Ideal.div_coe h]
    norm_cast
    ring

/-- What both programs leave at a column with the logits `a` and `b`. -/
def low (a b : EReal) : EReal :=
  Ideal.div (Ideal.exp (b - max a b)) (Ideal.exp (a - max a b) + Ideal.exp (b - max a b))

theorem neg_inf : Ideal.ofBits FTy.f32 4286578688#32 = ⊥ := by simp [Ideal.ofBits, Ideal.ieee]

theorem kernel_val (x : Vec Ideal S2x1024 .f32) (l : Fin 1024) : G1 (F := Ideal) x (ix2 0 l) = low (x (ix2 0 l)) (x (ix2 1 l)) := by
  pointwise [G1, k0_pay1, r0_0, r0_1]
  rfl

open Cert.Reference13Ideal.Read in
theorem ref_val (x : Vec Ideal S2x1024 .f32) (l : Fin 1024) : val_main_v15 (F := Ideal) x (ix2 0 l) = low (x (ix2 0 l)) (x (ix2 1 l)) := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have hm : Finset.fold max (⊥ : EReal) (fun k : Fin 2 => x (ix2 k l)) Finset.univ = max (x (ix2 0 l)) (x (ix2 1 l)) := by
    rw [show (Finset.univ : Finset (Fin 2)) = {0, 1} from rfl, Finset.fold_insert (by decide), Finset.fold_singleton]
    simp
  rw [neg_inf]
  simp only [hm, Fin.sum_univ_two, max_eq_right bot_le]
  exact second _ _ (exp_real _ _ (le_max_left ..)) (exp_real _ _ (le_max_right ..))

theorem value_eq (x : Vec Ideal S2x1024 .f32) : Cert.Reference13Ideal.Read.val_main_v15 (F := Ideal) x = G1 (F := Ideal) x := by
  funext i
  obtain ⟨l, rfl⟩ : ∃ l : Fin 1024, i = (ix2 0 l : S1x1024.Idx) :=
    ⟨i 1, by funext a; match a with | ⟨0, _⟩ => exact Fin.ext (by have := (i 0).isLt; show (i 0).val = 0; change (i 0).val < 1 at this; omega) | ⟨1, _⟩ => rfl⟩
  exact (ref_val x l).trans (kernel_val x l).symm

end Cert.Kernel13Ideal.Low

namespace Cert.Low13

open Idealize.ShloMosaic Idealize.ShloMosaic.TcCoe Idealize.SL.Sem

/-- The claim about the two programs. -/
theorem algebraic : Cert.algebraic_Kernel13Ideal_Reference13Ideal (hKernel13Ideal := Cert.Kernel13Ideal.Gen.facts)
    (hReference13Ideal := Cert.Reference13Ideal.Gen.facts) := by
  intro m g m' g' _ hagree
  refine ⟨fun c => Cert.Kernel13Ideal.Value.G1 (F := Ideal) (m ((c : Thread Cert.Kernel13Ideal.nD Cert.Kernel13Ideal.τ).loc Cert.Kernel13Ideal.main_arg0)),
    Cert.Kernel13Ideal.Value.run m g, ?_⟩
  refine (θ_run Cert.Reference13Ideal.defs _ _).mono (fun r h c => ?_) (Cert.Reference13Ideal.Value.run (F := Ideal) m' g')
  refine ⟨(h c).1.trans ?_, (h c).2⟩
  rw [hagree c]
  exact Cert.Kernel13Ideal.Low.value_eq _

/-- The reference's frame: it has no counters at all. -/
theorem frame_ref : Cert.quiescent_Reference13Ideal (hReference13Ideal := Cert.Reference13Ideal.Gen.facts) := by
  intro m g _
  exact (θ_run Cert.Reference13Ideal.defs _ _).mono (fun r h => ⟨fun c => (h c).2, sem_eq_zero_of_no_sems (by decide) r.2⟩)
    (Cert.Reference13Ideal.Value.run (F := Ideal) m g)

end Cert.Low13

end
-- ==== Proof.Norm.P14.lean ====
/-
  The factors of the rotary embedding: what the two result arrays hold, and that this is the reference's.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Norm.Back
public import Idealize.ShloMosaic.Lib.StableHlo.RunRead
public import Idealize.ShloMosaic.Lib.Quiescent

@[expose] public section

noncomputable section

namespace Cert.Kernel14Ideal.Rope

open Cert.Kernel14Ideal Cert.Kernel14Ideal.Gen Cert.Kernel14Ideal.Value Idealize.ShloMosaic Idealize.ShloMosaic.TcCoe Idealize.SL.Sem
open Cert.Norm

theorem zeros2 : (![0, 0] : Fin 2 → Nat) = fun _ => 0 := by
  funext a; match a with | ⟨0, _⟩ => rfl | ⟨1, _⟩ => rfl

/-! ## Six pieces of two heads -/

/-- Piece `k`'s angle for one position, as both programs write it: the position times a power of the base. -/
def inv (k : ℕ) : EReal :=
  Ideal.pow (Ideal.ofBits FTy.f32 1223959552#32) (-Ideal.div (FloatOps.sitofp (F := Ideal) FTy.f32 (BitVec.ofNat 32 k) * Ideal.ofBits FTy.f32 1073741824#32) (Ideal.ofBits FTy.f32 1098907648#32))

/-- Lane `l` of two heads: the first eight dims by `u`, the next eight by `v`, the other 48 `w`. -/
def lane (u v : ℕ → EReal) (w : EReal) (l : ℕ) : EReal :=
  if l < 8 then u l else if l - 8 < 8 then v (l - 8) else if l - 8 - 8 < 48 then w else
  if l - 8 - 8 - 48 < 8 then u (l - 8 - 8 - 48) else if l - 8 - 8 - 48 - 8 < 8 then v (l - 8 - 8 - 48 - 8) else w

variable (m : (ℓ : Loc nD τ sig) → Buf (Elt Ideal) ℓ)

abbrev arr0 (c : Dev nD) : Vec Ideal S4x2048 .i32 := m ((c : Thread nD τ).loc main_arg0)

/-- The position of token `r`. -/
abbrev pos (x : Vec Ideal S4x2048 .i32) (r : Fin 8192) : EReal :=
  FloatOps.sitofp (F := Ideal) FTy.f32 (x (ix2 ⟨r.val / 2048, by omega⟩ ⟨r.val % 2048, by omega⟩))

/-! ## What the host passes to the call -/

theorem freq_val (c : Dev nD) (l : Fin 128) : (show Vec Ideal S1x128 .f32 from V m c main_v13) (ix2 0 l) = lane inv inv 0 l.val := by
  show V m c main_v13 (ix2 0 l) = _
  unfold V hostOps0
  after_reads_simp
  pointwise []
  after_reads_simp
  pointwise []
  rfl

theorem sign_val (c : Dev nD) (l : Fin 128) : (show Vec Ideal S1x128 .f32 from V m c main_v17) (ix2 0 l) = lane (fun _ => -1) (fun _ => 1) 0 l.val := by
  show V m c main_v17 (ix2 0 l) = _
  unfold V hostOps0
  after_reads_simp
  pointwise []
  after_reads_simp
  pointwise []
  rfl

theorem pos_val (c : Dev nD) (r : Fin 8192) : (show Vec Ideal S8192x1 .f32 from V m c main_v1) (ix2 r 0) = pos (arr0 m c) r := by
  show V m c main_v1 (ix2 r 0) = _
  unfold V hostOps0
  after_reads_simp
  pointwise []

/-! ## The call's blocks -/

theorem cos_val (x0 : Vec Ideal S512x1 .f32) (x1 : Vec Ideal S1x128 .f32) (r : Fin 512) (l : Fin 128) :
    k0_pay2 (F := Ideal) x0 x1 (ix2 r l) = Ideal.cos (x0 (ix2 r 0) * x1 (ix2 0 l)) := by
  pointwise [k0_pay2, k0_pay1]

theorem sin_val (x0 : Vec Ideal S512x1 .f32) (x1 x2 : Vec Ideal S1x128 .f32) (r : Fin 512) (l : Fin 128) :
    k0_pay3 (F := Ideal) x0 x1 x2 (ix2 r l) = Ideal.sin (x0 (ix2 r 0) * x1 (ix2 0 l)) * x2 (ix2 0 l) := by
  pointwise [k0_pay3, k0_pay1]

theorem cos_apply (x0 : Vec Ideal S512x1 .f32) (x1 x2 : Vec Ideal S1x128 .f32) (r : Fin 512) (l : Fin 128) :
    out0_3 x0 x1 x2 (ix2 r l) = Ideal.cos (x0 (ix2 r 0) * x1 (ix2 0 l)) := by
  unfold out0_3 r0_0 r0_1 r0_2
  rw [View.canon_unit_zero zeros2, View.ld_unit_zero zeros2, View.ld_unit_zero zeros2]
  exact cos_val ..

theorem sin_apply (x0 : Vec Ideal S512x1 .f32) (x1 x2 : Vec Ideal S1x128 .f32) (r : Fin 512) (l : Fin 128) :
    out0_4 x0 x1 x2 (ix2 r l) = Ideal.sin (x0 (ix2 r 0) * x1 (ix2 0 l)) * x2 (ix2 0 l) := by
  unfold out0_4 r0_0 r0_1 r0_2
  rw [View.canon_unit_zero zeros2, View.ld_unit_zero zeros2, View.ld_unit_zero zeros2, View.ld_unit_zero zeros2]
  exact sin_val ..

/-! ## The reference -/

open Cert.Reference14Ideal.Read in
theorem ref_cos (x : Vec Ideal S4x2048 .i32) (r : Fin 8192) (l : Fin 128) :
    val_main_v18 (F := Ideal) x (ix2 r l) = lane (fun k => Ideal.cos (pos x r * inv k)) (fun k => Ideal.cos (pos x r * inv k)) 1 l.val := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

open Cert.Reference14Ideal.Read in
theorem ref_sin (x : Vec Ideal S4x2048 .i32) (r : Fin 8192) (l : Fin 128) :
    val_main_v21 (F := Ideal) x (ix2 r l) = lane (fun k => -Ideal.sin (pos x r * inv k)) (fun k => Ideal.sin (pos x r * inv k)) 0 l.val := by
  pointwise [val_main_v21, val_main_v20, val_main_v19, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

/-! ## The equations of the arrays -/

theorem cos_lane (p : EReal) (l : ℕ) : Ideal.cos (p * lane inv inv 0 l) = lane (fun k => Ideal.cos (p * inv k)) (fun k => Ideal.cos (p * inv k)) 1 l := by
  have h : Ideal.cos (0 : EReal) = 1 := by
    rw [← EReal.coe_zero]
    show ((Real.cos 0 : ℝ) : EReal) = 1
    rw [Real.cos_zero, EReal.coe_one]
  unfold lane
  split_ifs <;> simp [h]

theorem sin_lane (p : EReal) (l : ℕ) : Ideal.sin (p * lane inv inv 0 l) * lane (fun _ => -1) (fun _ => 1) 0 l
    = lane (fun k => -Ideal.sin (p * inv k)) (fun k => Ideal.sin (p * inv k)) 0 l := by
  unfold lane
  split_ifs <;> simp

theorem win_facts : ∀ t : Fin cfg0.N, win0_0.index t (0 : Fin 2) = t.val ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = t.val ∧ win0_3.index t (1 : Fin 2) = 0 ∧ win0_4.index t (0 : Fin 2) = t.val ∧ win0_4.index t (1 : Fin 2) = 0 :=
  (by decide +kernel : ∀ t : Fin grid0.N, _)

theorem N16 (t : Fin cfg0.N) : t.val < 16 := lt_of_lt_of_eq t.isLt (show cfg0.N = 16 from N_0)

/-- Row `r` of point `t`'s block. -/
abbrev row (t : Fin cfg0.N) (r : Fin 512) : Fin 8192 := ⟨t.val * 512 + r.val, by have := N16 t; omega⟩

theorem blk0 (c : Dev nD) (t : Fin cfg0.N) (r : Fin 512) : iblk m c 0 t (ix2 r 0) = pos (arr0 m c) (row t r) := by
  have e := win_facts t
  refine Eq.trans ?_ (pos_val m c (row t r))
  show V m c main_v1 (((cfg0.win 0).blk t).view.emb (ix2 r 0)) = V m c main_v1 (ix2 (row t r) 0)
  refine congrArg _ (funext fun a => Fin.ext ?_)
  match a with
  | ⟨0, _⟩ => show win0_0.index t (0 : Fin 2) * 512 + 1 * r.val = t.val * 512 + r.val; rw [e.1]; omega
  | ⟨1, _⟩ => show win0_0.index t (1 : Fin 2) * 1 + 1 * 0 = 0; rw [e.2.1]

theorem blk1 (c : Dev nD) (t : Fin cfg0.N) (l : Fin 128) : iblk m c 1 t (ix2 0 l) = lane inv inv 0 l.val := by
  have e := win_facts t
  refine Eq.trans ?_ (freq_val m c l)
  show V m c main_v13 (((cfg0.win 1).blk t).view.emb (ix2 0 l)) = V m c main_v13 (ix2 0 l)
  refine congrArg _ (funext fun a => Fin.ext ?_)
  match a with
  | ⟨0, _⟩ => show win0_1.index t (0 : Fin 2) * 1 + 1 * 0 = 0; rw [e.2.2.1]
  | ⟨1, _⟩ => show win0_1.index t (1 : Fin 2) * 128 + 1 * l.val = l.val; rw [e.2.2.2.1]; omega

theorem blk2 (c : Dev nD) (t : Fin cfg0.N) (l : Fin 128) : iblk m c 2 t (ix2 0 l) = lane (fun _ => -1) (fun _ => 1) 0 l.val := by
  have e := win_facts t
  refine Eq.trans ?_ (sign_val m c l)
  show V m c main_v17 (((cfg0.win 2).blk t).view.emb (ix2 0 l)) = V m c main_v17 (ix2 0 l)
  refine congrArg _ (funext fun a => Fin.ext ?_)
  match a with
  | ⟨0, _⟩ => show win0_2.index t (0 : Fin 2) * 1 + 1 * 0 = 0; rw [e.2.2.2.2.1]
  | ⟨1, _⟩ => show win0_2.index t (1 : Fin 2) * 128 + 1 * l.val = l.val; rw [e.2.2.2.2.2.1]; omega

theorem cos_eq (c : Dev nD) : (dats m 0 c).arrAt 3 cfg0.N = Cert.Reference14Ideal.Read.val_main_v18 (F := Ideal) (arr0 m c) := by
  refine Pipeline.Dat.arrAt_eq_of_cover (dats m 0 c) 3 _ (fun t _ => ?_) (fun i => ?_)
  · rw [flushed3]
    have e := win_facts t
    funext (y : S512x128.Idx)
    idx_vars y
    show out0_3 (iblk m c 0 t) (iblk m c 1 t) (iblk m c 2 t) (ix2 y0 y1) = Cert.Reference14Ideal.Read.val_main_v18 (F := Ideal) (arr0 m c) (((cfg0.win 3).blk t).view.emb (ix2 y0 y1 : S512x128.Idx))
    have hi : ((cfg0.win 3).blk t).view.emb (ix2 y0 y1 : S512x128.Idx) = (ix2 (row t y0) y1 : S8192x128.Idx) := by
      funext a; apply Fin.ext
      match a with
      | ⟨0, _⟩ => show win0_3.index t (0 : Fin 2) * 512 + 1 * y0.val = _; rw [e.2.2.2.2.2.2.1]; show _ = t.val * 512 + y0.val; omega
      | ⟨1, _⟩ => show win0_3.index t (1 : Fin 2) * 128 + 1 * y1.val = y1.val; rw [e.2.2.2.2.2.2.2.1]; omega
    rw [hi]
    refine (cos_apply ..).trans (Eq.trans ?_ (ref_cos (arr0 m c) (row t y0) y1).symm)
    simp only [blk0, blk1, blk2]
    exact cos_lane ..
  · obtain ⟨R, l, rfl⟩ : ∃ (R : Fin 8192) (l : Fin 128), i = (ix2 R l : S8192x128.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_3 t, ?_⟩
    have e := win_facts t
    have hi : ((cfg0.win 3).blk t).view.emb (ix2 r l : S512x128.Idx) = (ix2 R l : S8192x128.Idx) := by
      funext a; apply Fin.ext
      match a with
      | ⟨0, _⟩ => show win0_3.index t (0 : Fin 2) * 512 + 1 * r.val = R.val; rw [e.2.2.2.2.2.2.1]; omega
      | ⟨1, _⟩ => show win0_3.index t (1 : Fin 2) * 128 + 1 * l.val = l.val; rw [e.2.2.2.2.2.2.2.1]; omega
    exact hi ▸ ((cfg0.win 3).blk t).view.emb_mem_set (ix2 r l : S512x128.Idx)

theorem sin_eq (c : Dev nD) : (dats m 0 c).arrAt 4 cfg0.N = Cert.Reference14Ideal.Read.val_main_v21 (F := Ideal) (arr0 m c) := by
  refine Pipeline.Dat.arrAt_eq_of_cover (dats m 0 c) 4 _ (fun t _ => ?_) (fun i => ?_)
  · rw [flushed4]
    have e := win_facts t
    funext (y : S512x128.Idx)
    idx_vars y
    show out0_4 (iblk m c 0 t) (iblk m c 1 t) (iblk m c 2 t) (ix2 y0 y1) = Cert.Reference14Ideal.Read.val_main_v21 (F := Ideal) (arr0 m c) (((cfg0.win 4).blk t).view.emb (ix2 y0 y1 : S512x128.Idx))
    have hi : ((cfg0.win 4).blk t).view.emb (ix2 y0 y1 : S512x128.Idx) = (ix2 (row t y0) y1 : S8192x128.Idx) := by
      funext a; apply Fin.ext
      match a with
      | ⟨0, _⟩ => show win0_4.index t (0 : Fin 2) * 512 + 1 * y0.val = _; rw [e.2.2.2.2.2.2.2.2.1]; show _ = t.val * 512 + y0.val; omega
      | ⟨1, _⟩ => show win0_4.index t (1 : Fin 2) * 128 + 1 * y1.val = y1.val; rw [e.2.2.2.2.2.2.2.2.2]; omega
    rw [hi]
    refine (sin_apply ..).trans (Eq.trans ?_ (ref_sin (arr0 m c) (row t y0) y1).symm)
    simp only [blk0, blk1, blk2]
    exact sin_lane ..
  · obtain ⟨R, l, rfl⟩ : ∃ (R : Fin 8192) (l : Fin 128), i = (ix2 R l : S8192x128.Idx) :=
      ⟨i 0, i 1, by funext a; match a with | ⟨0, _⟩ => rfl | ⟨1, _⟩ => rfl⟩
    have hN : cfg0.N = 16 := N_0
    obtain ⟨t, ht⟩ : ∃ t : Fin cfg0.N, t.val = R.val / 512 := ⟨⟨R.val / 512, by omega⟩, rfl⟩
    obtain ⟨r, hr⟩ : ∃ r : Fin 512, r.val = R.val % 512 := ⟨⟨R.val % 512, Nat.mod_lt _ (by decide)⟩, rfl⟩
    refine ⟨t, flush0_4 t, ?_⟩
    have e := win_facts t
    have hi : ((cfg0.win 4).blk t).view.emb (ix2 r l : S512x128.Idx) = (ix2 R l : S8192x128.Idx) := by
      funext a; apply Fin.ext
      match a with
      | ⟨0, _⟩ => show win0_4.index t (0 : Fin 2) * 512 + 1 * r.val = R.val; rw [e.2.2.2.2.2.2.2.2.1]; omega
      | ⟨1, _⟩ => show win0_4.index t (1 : Fin 2) * 128 + 1 * l.val = l.val; rw [e.2.2.2.2.2.2.2.2.2]; omega
    exact hi ▸ ((cfg0.win 4).blk t).view.emb_mem_set (ix2 r l : S512x128.Idx)

end Cert.Kernel14Ideal.Rope

namespace Cert.Rope14

open Idealize.ShloMosaic Idealize.ShloMosaic.TcCoe Idealize.SL.Sem

/-- The claim about the two programs. -/
theorem algebraic : Cert.algebraic_Kernel14Ideal_Reference14Ideal (hKernel14Ideal := Cert.Kernel14Ideal.Gen.facts)
    (hReference14Ideal := Cert.Reference14Ideal.Gen.facts) := by
  intro m g m' g' _ hagree
  refine ⟨fun c => (Cert.Kernel14Ideal.Gen.dats m 0 c).arrAt 3 Cert.Kernel14Ideal.cfg0.N, fun c => (Cert.Kernel14Ideal.Gen.dats m 0 c).arrAt 4 Cert.Kernel14Ideal.cfg0.N,
    Cert.Kernel14Ideal.Value.run_blocks m g, ?_⟩
  refine (θ_run Cert.Reference14Ideal.defs _ _).mono (fun r h c => ?_) (Cert.Reference14Ideal.Value.run (F := Ideal) m' g')
  refine ⟨(h c).1.trans ?_, (h c).2.1.trans ?_, (h c).2.2⟩
  · rw [hagree c]
    exact (Cert.Kernel14Ideal.Rope.cos_eq m c).symm
  · rw [hagree c]
    exact (Cert.Kernel14Ideal.Rope.sin_eq m c).symm

/-- The reference's frame: it has no counters at all. -/
theorem frame_ref : Cert.quiescent_Reference14Ideal (hReference14Ideal := Cert.Reference14Ideal.Gen.facts) := by
  intro m g _
  exact (θ_run Cert.Reference14Ideal.defs _ _).mono (fun r h => ⟨fun c => (h c).2.2, sem_eq_zero_of_no_sems (by decide) r.2⟩)
    (Cert.Reference14Ideal.Value.run (F := Ideal) m g)

end Cert.Rope14

end
-- ==== Proof.lean ====
/-
  The proof of the claims of the training step's calls: the frames of every program, that idealizing keeps each, and for each
  call with a reference that both leave the same arrays. The calls' own modules hold the work; here they are put together.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Product.Equal
public import proofs.«01_k».proof.Proof.Attn.Launch
public import proofs.«01_k».proof.Proof.AttnBits.Launch
public import proofs.«01_k».proof.Proof.Norm.P3
public import proofs.«01_k».proof.Proof.Norm.P4
public import proofs.«01_k».proof.Proof.Proj.P5
public import proofs.«01_k».proof.Proof.Proj.P6
public import proofs.«01_k».proof.Proof.Product.P7
public import proofs.«01_k».proof.Proof.Product.P8
public import proofs.«01_k».proof.Proof.Norm.P9
public import proofs.«01_k».proof.Proof.Norm.P10
public import proofs.«01_k».proof.Proof.Norm.P11
public import proofs.«01_k».proof.Proof.Norm.P12
public import proofs.«01_k».proof.Proof.Norm.P13
public import proofs.«01_k».proof.Proof.Norm.P14
public import proofs.«01_k».proof.Proof.Rec.Launch
public import proofs.«01_k».proof.Proof.RecBits.Launch
public import proofs.«01_k».proof.Proof.Out.Launch
public import proofs.«01_k».proof.Proof.OutBits.Launch
public import Idealize.ShloMosaic.Adequacy
public import Idealize.ShloMosaic.Init

@[expose] public section

noncomputable section

namespace Cert.Proof

open Idealize.ShloMosaic Idealize.SL.Sem

theorem claim : Cert.Claim := ⟨Cert.Kernel.Gen.facts,
  Cert.KernelIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  fun m ρ _ => Cert.Kernel.Val.frame m ρ,
  fun m ρ _ => Cert.KernelIdeal.Val.frame m ρ,
  fun m ρ _ => Cert.Kernel2.Gen.frame m ρ,
  fun m ρ _ => Cert.Kernel2Ideal.Gen.frame m ρ,
  Cert.Product.frame_ref,
  fun m ρ _ => Cert.Kernel3.Gen.frame m ρ,
  fun m ρ _ => Cert.Kernel3Ideal.Gen.frame m ρ,
  Cert.Norm3.frame_ref,
  fun m ρ _ => Cert.Kernel4.Val.frame m ρ,
  fun m ρ _ => Cert.Kernel4Ideal.Val.frame m ρ,
  Cert.Norm4.frame_ref,
  fun m ρ _ => Cert.Kernel5.Gen.frame m ρ,
  fun m ρ _ => Cert.Kernel5Ideal.Gen.frame m ρ,
  Cert.Proj5.frame_ref,
  fun m ρ _ => Cert.Kernel6.Gen.frame m ρ,
  fun m ρ _ => Cert.Kernel6Ideal.Gen.frame m ρ,
  Cert.Proj6.frame_ref,
  fun m ρ _ => Cert.Kernel7.Gen.frame m ρ,
  fun m ρ _ => Cert.Kernel7Ideal.Gen.frame m ρ,
  Cert.Product7.frame_ref,
  fun m ρ _ => Cert.Kernel8.Gen.frame m ρ,
  fun m ρ _ => Cert.Kernel8Ideal.Gen.frame m ρ,
  Cert.Product8.frame_ref,
  fun m ρ _ => Cert.Kernel9.Gen.frame m ρ,
  fun m ρ _ => Cert.Kernel9Ideal.Gen.frame m ρ,
  Cert.Norm9.frame_ref,
  fun m ρ _ => Cert.Kernel10.Gen.frame m ρ,
  fun m ρ _ => Cert.Kernel10Ideal.Gen.frame m ρ,
  Cert.Out10.frame_ref,
  fun m ρ _ => Cert.Kernel11.Gen.frame m ρ,
  fun m ρ _ => Cert.Kernel11Ideal.Gen.frame m ρ,
  Cert.Out11.frame_ref,
  fun m ρ _ => Cert.Kernel12.Val.frame m ρ,
  fun m ρ _ => Cert.Kernel12Ideal.Val.frame m ρ,
  Cert.Norm12.frame_ref,
  fun m ρ _ => Cert.Kernel13.Gen.frame m ρ,
  fun m ρ _ => Cert.Kernel13Ideal.Gen.frame m ρ,
  Cert.Low13.frame_ref,
  fun m ρ _ => Cert.Kernel14.Gen.frame m ρ,
  fun m ρ _ => Cert.Kernel14Ideal.Gen.frame m ρ,
  Cert.Rope14.frame_ref,
  fun m ρ _ => Cert.Kernel15.Gen.frame m ρ,
  fun m ρ _ => Cert.Kernel15Ideal.Gen.frame m ρ,
  IdealRules.named_const.statement Cert.KernelIdeal.κ "mask" .f32 0xF149F2CA#32 ⊥ rfl,
  trivial,
  Cert.Product.algebraic,
  trivial,
  Cert.Norm3.algebraic,
  trivial,
  Cert.Norm4.algebraic,
  trivial,
  Cert.Proj5.algebraic,
  trivial,
  Cert.Proj6.algebraic,
  trivial,
  Cert.Product7.algebraic,
  trivial,
  Cert.Product8.algebraic,
  trivial,
  Cert.Norm9.algebraic,
  trivial,
  Cert.Out10.algebraic,
  trivial,
  Cert.Out11.algebraic,
  trivial,
  Cert.Norm12.algebraic,
  trivial,
  Cert.Low13.algebraic,
  trivial,
  Cert.Rope14.algebraic,
  IdealRules.named_const.statement Cert.Kernel15Ideal.κ "mask" .f32 0xF149F2CA#32 ⊥ rfl⟩

end Cert.Proof

end
